-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ReferenceProjectIdeal (m : (ℓ : Loc Cert.ReferenceProjectIdeal.nD Cert.ReferenceProjectIdeal.τ Cert.ReferenceProjectIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_ReferenceOutputIdeal (m : (ℓ : Loc Cert.ReferenceOutputIdeal.nD Cert.ReferenceOutputIdeal.τ Cert.ReferenceOutputIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))) = (fun _ => 1#1)

def Pre_ReferenceRouterIdeal (m : (ℓ : Loc Cert.ReferenceRouterIdeal.nD Cert.ReferenceRouterIdeal.τ Cert.ReferenceRouterIdeal.sig) → Buf (Elt Ideal) ℓ) : Prop :=
  True

def Pre_ReferenceRouterIdeal_finite_router [hPre_finite_router : Cert.Pre_finite_router.Facts] (m : (ℓ : Loc Cert.ReferenceRouterIdeal.nD Cert.ReferenceRouterIdeal.τ Cert.ReferenceRouterIdeal.sig) → Buf (Elt Ideal) ℓ) : Prop :=
  ∀ c : Dev Cert.ReferenceRouterIdeal.nD,
    (Cert.Pre_finite_router.fn (F := Ideal) (m ((c.tc : Thread Cert.ReferenceRouterIdeal.nD Cert.ReferenceRouterIdeal.τ).loc Cert.ReferenceRouterIdeal.main_arg0)) (m ((c.tc : Thread Cert.ReferenceRouterIdeal.nD Cert.ReferenceRouterIdeal.τ).loc Cert.ReferenceRouterIdeal.main_arg1)) (m ((c.tc : Thread Cert.ReferenceRouterIdeal.nD Cert.ReferenceRouterIdeal.τ).loc Cert.ReferenceRouterIdeal.main_arg2)) (m ((c.tc : Thread Cert.ReferenceRouterIdeal.nD Cert.ReferenceRouterIdeal.τ).loc Cert.ReferenceRouterIdeal.main_arg3)) (m ((c.tc : Thread Cert.ReferenceRouterIdeal.nD Cert.ReferenceRouterIdeal.τ).loc Cert.ReferenceRouterIdeal.main_arg4)) (m ((c.tc : Thread Cert.ReferenceRouterIdeal.nD Cert.ReferenceRouterIdeal.τ).loc Cert.ReferenceRouterIdeal.main_arg5)) (m ((c.tc : Thread Cert.ReferenceRouterIdeal.nD Cert.ReferenceRouterIdeal.τ).loc Cert.ReferenceRouterIdeal.main_arg6)) (m ((c.tc : Thread Cert.ReferenceRouterIdeal.nD Cert.ReferenceRouterIdeal.τ).loc Cert.ReferenceRouterIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ReferenceProjectIdeal [hReferenceProjectIdeal : Cert.ReferenceProjectIdeal.Facts] : Prop :=
  ∀ (m : (ℓ : Loc Cert.ReferenceProjectIdeal.nD Cert.ReferenceProjectIdeal.τ Cert.ReferenceProjectIdeal.sig) → Buf (Elt Ideal) ℓ) (g : Dev Cert.ReferenceProjectIdeal.nD → PrngReg), Pre_ReferenceProjectIdeal m →
    θ_run (Cert.ReferenceProjectIdeal.defs (F := Ideal)) (onTc (τ := Cert.ReferenceProjectIdeal.τ) (Cert.ReferenceProjectIdeal.main (F := Ideal))) ⟨m, fun _ => 0, g⟩ (fun r => (∀ c : Dev Cert.ReferenceProjectIdeal.nD,
      r.2.mem ((c.tc : Thread Cert.ReferenceProjectIdeal.nD Cert.ReferenceProjectIdeal.τ).loc Cert.ReferenceProjectIdeal.main_arg0) = m ((c.tc : Thread Cert.ReferenceProjectIdeal.nD Cert.ReferenceProjectIdeal.τ).loc Cert.ReferenceProjectIdeal.main_arg0)
      ∧ r.2.mem ((c.tc : Thread Cert.ReferenceProjectIdeal.nD Cert.ReferenceProjectIdeal.τ).loc Cert.ReferenceProjectIdeal.main_arg1) = m ((c.tc : Thread Cert.ReferenceProjectIdeal.nD Cert.ReferenceProjectIdeal.τ).loc Cert.ReferenceProjectIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7))
      ∧ r.2.sem = fun _ => 0)

def quiescent_ReferenceOutputIdeal [hReferenceOutputIdeal : Cert.ReferenceOutputIdeal.Facts] : Prop :=
  ∀ (m : (ℓ : Loc Cert.ReferenceOutputIdeal.nD Cert.ReferenceOutputIdeal.τ Cert.ReferenceOutputIdeal.sig) → Buf (Elt Ideal) ℓ) (g : Dev Cert.ReferenceOutputIdeal.nD → PrngReg), Pre_ReferenceOutputIdeal m →
    θ_run (Cert.ReferenceOutputIdeal.defs (F := Ideal)) (onTc (τ := Cert.ReferenceOutputIdeal.τ) (Cert.ReferenceOutputIdeal.main (F := Ideal))) ⟨m, fun _ => 0, g⟩ (fun r => (∀ c : Dev Cert.ReferenceOutputIdeal.nD,
      r.2.mem ((c.tc : Thread Cert.ReferenceOutputIdeal.nD Cert.ReferenceOutputIdeal.τ).loc Cert.ReferenceOutputIdeal.main_arg0) = m ((c.tc : Thread Cert.ReferenceOutputIdeal.nD Cert.ReferenceOutputIdeal.τ).loc Cert.ReferenceOutputIdeal.main_arg0)
      ∧ r.2.mem ((c.tc : Thread Cert.ReferenceOutputIdeal.nD Cert.ReferenceOutputIdeal.τ).loc Cert.ReferenceOutputIdeal.main_arg1) = m ((c.tc : Thread Cert.ReferenceOutputIdeal.nD Cert.ReferenceOutputIdeal.τ).loc Cert.ReferenceOutputIdeal.main_arg1)
      ∧ r.2.mem ((c.tc : Thread Cert.ReferenceOutputIdeal.nD Cert.ReferenceOutputIdeal.τ).loc Cert.ReferenceOutputIdeal.main_arg2) = m ((c.tc : Thread Cert.ReferenceOutputIdeal.nD Cert.ReferenceOutputIdeal.τ).loc Cert.ReferenceOutputIdeal.main_arg2)
      ∧ r.2.mem ((c.tc : Thread Cert.ReferenceOutputIdeal.nD Cert.ReferenceOutputIdeal.τ).loc Cert.ReferenceOutputIdeal.main_arg3) = m ((c.tc : Thread Cert.ReferenceOutputIdeal.nD Cert.ReferenceOutputIdeal.τ).loc Cert.ReferenceOutputIdeal.main_arg3)
      ∧ r.2.mem ((c.tc : Thread Cert.ReferenceOutputIdeal.nD Cert.ReferenceOutputIdeal.τ).loc Cert.ReferenceOutputIdeal.main_arg4) = m ((c.tc : Thread Cert.ReferenceOutputIdeal.nD Cert.ReferenceOutputIdeal.τ).loc Cert.ReferenceOutputIdeal.main_arg4)
      ∧ r.2.mem ((c.tc : Thread Cert.ReferenceOutputIdeal.nD Cert.ReferenceOutputIdeal.τ).loc Cert.ReferenceOutputIdeal.main_arg5) = m ((c.tc : Thread Cert.ReferenceOutputIdeal.nD Cert.ReferenceOutputIdeal.τ).loc Cert.ReferenceOutputIdeal.main_arg5)
      ∧ r.2.mem ((c.tc : Thread Cert.ReferenceOutputIdeal.nD Cert.ReferenceOutputIdeal.τ).loc Cert.ReferenceOutputIdeal.main_arg6) = m ((c.tc : Thread Cert.ReferenceOutputIdeal.nD Cert.ReferenceOutputIdeal.τ).loc Cert.ReferenceOutputIdeal.main_arg6)
      ∧ r.2.mem ((c.tc : Thread Cert.ReferenceOutputIdeal.nD Cert.ReferenceOutputIdeal.τ).loc Cert.ReferenceOutputIdeal.main_arg7) = m ((c.tc : Thread Cert.ReferenceOutputIdeal.nD Cert.ReferenceOutputIdeal.τ).loc Cert.ReferenceOutputIdeal.main_arg7))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_ReferenceRouterIdeal [hReferenceRouterIdeal : Cert.ReferenceRouterIdeal.Facts] : Prop :=
  ∀ (m : (ℓ : Loc Cert.ReferenceRouterIdeal.nD Cert.ReferenceRouterIdeal.τ Cert.ReferenceRouterIdeal.sig) → Buf (Elt Ideal) ℓ) (g : Dev Cert.ReferenceRouterIdeal.nD → PrngReg), Pre_ReferenceRouterIdeal m →
    θ_run (Cert.ReferenceRouterIdeal.defs (F := Ideal)) (onTc (τ := Cert.ReferenceRouterIdeal.τ) (Cert.ReferenceRouterIdeal.main (F := Ideal))) ⟨m, fun _ => 0, g⟩ (fun r => (∀ c : Dev Cert.ReferenceRouterIdeal.nD,
      r.2.mem ((c.tc : Thread Cert.ReferenceRouterIdeal.nD Cert.ReferenceRouterIdeal.τ).loc Cert.ReferenceRouterIdeal.main_arg0) = m ((c.tc : Thread Cert.ReferenceRouterIdeal.nD Cert.ReferenceRouterIdeal.τ).loc Cert.ReferenceRouterIdeal.main_arg0)
      ∧ r.2.mem ((c.tc : Thread Cert.ReferenceRouterIdeal.nD Cert.ReferenceRouterIdeal.τ).loc Cert.ReferenceRouterIdeal.main_arg1) = m ((c.tc : Thread Cert.ReferenceRouterIdeal.nD Cert.ReferenceRouterIdeal.τ).loc Cert.ReferenceRouterIdeal.main_arg1)
      ∧ r.2.mem ((c.tc : Thread Cert.ReferenceRouterIdeal.nD Cert.ReferenceRouterIdeal.τ).loc Cert.ReferenceRouterIdeal.main_arg2) = m ((c.tc : Thread Cert.ReferenceRouterIdeal.nD Cert.ReferenceRouterIdeal.τ).loc Cert.ReferenceRouterIdeal.main_arg2)
      ∧ r.2.mem ((c.tc : Thread Cert.ReferenceRouterIdeal.nD Cert.ReferenceRouterIdeal.τ).loc Cert.ReferenceRouterIdeal.main_arg3) = m ((c.tc : Thread Cert.ReferenceRouterIdeal.nD Cert.ReferenceRouterIdeal.τ).loc Cert.ReferenceRouterIdeal.main_arg3)
      ∧ r.2.mem ((c.tc : Thread Cert.ReferenceRouterIdeal.nD Cert.ReferenceRouterIdeal.τ).loc Cert.ReferenceRouterIdeal.main_arg4) = m ((c.tc : Thread Cert.ReferenceRouterIdeal.nD Cert.ReferenceRouterIdeal.τ).loc Cert.ReferenceRouterIdeal.main_arg4)
      ∧ r.2.mem ((c.tc : Thread Cert.ReferenceRouterIdeal.nD Cert.ReferenceRouterIdeal.τ).loc Cert.ReferenceRouterIdeal.main_arg5) = m ((c.tc : Thread Cert.ReferenceRouterIdeal.nD Cert.ReferenceRouterIdeal.τ).loc Cert.ReferenceRouterIdeal.main_arg5)
      ∧ r.2.mem ((c.tc : Thread Cert.ReferenceRouterIdeal.nD Cert.ReferenceRouterIdeal.τ).loc Cert.ReferenceRouterIdeal.main_arg6) = m ((c.tc : Thread Cert.ReferenceRouterIdeal.nD Cert.ReferenceRouterIdeal.τ).loc Cert.ReferenceRouterIdeal.main_arg6)
      ∧ r.2.mem ((c.tc : Thread Cert.ReferenceRouterIdeal.nD Cert.ReferenceRouterIdeal.τ).loc Cert.ReferenceRouterIdeal.main_arg7) = m ((c.tc : Thread Cert.ReferenceRouterIdeal.nD Cert.ReferenceRouterIdeal.τ).loc Cert.ReferenceRouterIdeal.main_arg7))
      ∧ r.2.sem = fun _ => 0)

def quiescent_ReferenceRouterIdeal_pre_finite_router [hReferenceRouterIdeal : Cert.ReferenceRouterIdeal.Facts] [hPre_finite_router : Cert.Pre_finite_router.Facts] : Prop :=
  ∀ (m : (ℓ : Loc Cert.ReferenceRouterIdeal.nD Cert.ReferenceRouterIdeal.τ Cert.ReferenceRouterIdeal.sig) → Buf (Elt Ideal) ℓ) (g : Dev Cert.ReferenceRouterIdeal.nD → PrngReg), Pre_ReferenceRouterIdeal_finite_router m →
    θ_run (Cert.ReferenceRouterIdeal.defs (F := Ideal)) (onTc (τ := Cert.ReferenceRouterIdeal.τ) (Cert.ReferenceRouterIdeal.main (F := Ideal))) ⟨m, fun _ => 0, g⟩ (fun r => (∀ c : Dev Cert.ReferenceRouterIdeal.nD,
      r.2.mem ((c.tc : Thread Cert.ReferenceRouterIdeal.nD Cert.ReferenceRouterIdeal.τ).loc Cert.ReferenceRouterIdeal.main_arg0) = m ((c.tc : Thread Cert.ReferenceRouterIdeal.nD Cert.ReferenceRouterIdeal.τ).loc Cert.ReferenceRouterIdeal.main_arg0)
      ∧ r.2.mem ((c.tc : Thread Cert.ReferenceRouterIdeal.nD Cert.ReferenceRouterIdeal.τ).loc Cert.ReferenceRouterIdeal.main_arg1) = m ((c.tc : Thread Cert.ReferenceRouterIdeal.nD Cert.ReferenceRouterIdeal.τ).loc Cert.ReferenceRouterIdeal.main_arg1)
      ∧ r.2.mem ((c.tc : Thread Cert.ReferenceRouterIdeal.nD Cert.ReferenceRouterIdeal.τ).loc Cert.ReferenceRouterIdeal.main_arg2) = m ((c.tc : Thread Cert.ReferenceRouterIdeal.nD Cert.ReferenceRouterIdeal.τ).loc Cert.ReferenceRouterIdeal.main_arg2)
      ∧ r.2.mem ((c.tc : Thread Cert.ReferenceRouterIdeal.nD Cert.ReferenceRouterIdeal.τ).loc Cert.ReferenceRouterIdeal.main_arg3) = m ((c.tc : Thread Cert.ReferenceRouterIdeal.nD Cert.ReferenceRouterIdeal.τ).loc Cert.ReferenceRouterIdeal.main_arg3)
      ∧ r.2.mem ((c.tc : Thread Cert.ReferenceRouterIdeal.nD Cert.ReferenceRouterIdeal.τ).loc Cert.ReferenceRouterIdeal.main_arg4) = m ((c.tc : Thread Cert.ReferenceRouterIdeal.nD Cert.ReferenceRouterIdeal.τ).loc Cert.ReferenceRouterIdeal.main_arg4)
      ∧ r.2.mem ((c.tc : Thread Cert.ReferenceRouterIdeal.nD Cert.ReferenceRouterIdeal.τ).loc Cert.ReferenceRouterIdeal.main_arg5) = m ((c.tc : Thread Cert.ReferenceRouterIdeal.nD Cert.ReferenceRouterIdeal.τ).loc Cert.ReferenceRouterIdeal.main_arg5)
      ∧ r.2.mem ((c.tc : Thread Cert.ReferenceRouterIdeal.nD Cert.ReferenceRouterIdeal.τ).loc Cert.ReferenceRouterIdeal.main_arg6) = m ((c.tc : Thread Cert.ReferenceRouterIdeal.nD Cert.ReferenceRouterIdeal.τ).loc Cert.ReferenceRouterIdeal.main_arg6)
      ∧ r.2.mem ((c.tc : Thread Cert.ReferenceRouterIdeal.nD Cert.ReferenceRouterIdeal.τ).loc Cert.ReferenceRouterIdeal.main_arg7) = m ((c.tc : Thread Cert.ReferenceRouterIdeal.nD Cert.ReferenceRouterIdeal.τ).loc Cert.ReferenceRouterIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Project_ProjectIdeal : Prop :=
  IdealRules.named_const.Statement Cert.ProjectIdeal.κ "q_scale" .f32 0x3E38AA3B#32 (((8 * (Real.log 2))⁻¹ : ℝ) : EReal)

def algebraic_ProjectIdeal_ReferenceProjectIdeal [hProjectIdeal : Cert.ProjectIdeal.Facts] [hReferenceProjectIdeal : Cert.ReferenceProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ReferenceProjectIdeal.nD Cert.ReferenceProjectIdeal.τ Cert.ReferenceProjectIdeal.sig) → Buf (Elt Ideal) ℓ) (g' : Dev Cert.ReferenceProjectIdeal.nD → PrngReg), Pre_ProjectIdeal m →
    (∀ c : Dev Cert.ProjectIdeal.nD,
      m' ((c.tc : Thread Cert.ReferenceProjectIdeal.nD Cert.ReferenceProjectIdeal.τ).loc Cert.ReferenceProjectIdeal.main_arg0) = m ((c.tc : Thread Cert.ProjectIdeal.nD Cert.ProjectIdeal.τ).loc Cert.ProjectIdeal.main_arg0)
      ∧ m' ((c.tc : Thread Cert.ReferenceProjectIdeal.nD Cert.ReferenceProjectIdeal.τ).loc Cert.ReferenceProjectIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v2_0)) (v1 : (c : Dev Cert.ProjectIdeal.nD) → Buf (Elt Ideal) ((c.tc : Thread Cert.ProjectIdeal.nD Cert.ProjectIdeal.τ).loc Cert.ProjectIdeal.main_v2_1)) (v2 : (c : Dev Cert.ProjectIdeal.nD) → Buf (Elt Ideal) ((c.tc : Thread Cert.ProjectIdeal.nD Cert.ProjectIdeal.τ).loc Cert.ProjectIdeal.main_v2_2)) (v3 : (c : Dev Cert.ProjectIdeal.nD) → Buf (Elt Ideal) ((c.tc : Thread Cert.ProjectIdeal.nD Cert.ProjectIdeal.τ).loc Cert.ProjectIdeal.main_v2_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2_0) = v0 c
          ∧ r.2.mem ((c.tc : Thread Cert.ProjectIdeal.nD Cert.ProjectIdeal.τ).loc Cert.ProjectIdeal.main_v2_1) = v1 c
          ∧ r.2.mem ((c.tc : Thread Cert.ProjectIdeal.nD Cert.ProjectIdeal.τ).loc Cert.ProjectIdeal.main_v2_2) = v2 c
          ∧ r.2.mem ((c.tc : Thread Cert.ProjectIdeal.nD Cert.ProjectIdeal.τ).loc Cert.ProjectIdeal.main_v2_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ReferenceProjectIdeal.defs (F := Ideal)) (onTc (τ := Cert.ReferenceProjectIdeal.τ) (Cert.ReferenceProjectIdeal.main (F := Ideal))) ⟨m', fun _ => 0, g'⟩ (fun r => ∀ c : Dev Cert.ReferenceProjectIdeal.nD,
          r.2.mem ((c.tc : Thread Cert.ReferenceProjectIdeal.nD Cert.ReferenceProjectIdeal.τ).loc Cert.ReferenceProjectIdeal.main_v10) = v0 c
          ∧ r.2.mem ((c.tc : Thread Cert.ReferenceProjectIdeal.nD Cert.ReferenceProjectIdeal.τ).loc Cert.ReferenceProjectIdeal.main_v11) = v1 c
          ∧ r.2.mem ((c.tc : Thread Cert.ReferenceProjectIdeal.nD Cert.ReferenceProjectIdeal.τ).loc Cert.ReferenceProjectIdeal.main_v12) = v2 c
          ∧ r.2.mem ((c.tc : Thread Cert.ReferenceProjectIdeal.nD Cert.ReferenceProjectIdeal.τ).loc Cert.ReferenceProjectIdeal.main_v5) = v3 c
          ∧ r.2.mem ((c.tc : Thread Cert.ReferenceProjectIdeal.nD Cert.ReferenceProjectIdeal.τ).loc Cert.ReferenceProjectIdeal.main_arg0) = m' ((c.tc : Thread Cert.ReferenceProjectIdeal.nD Cert.ReferenceProjectIdeal.τ).loc Cert.ReferenceProjectIdeal.main_arg0)
          ∧ r.2.mem ((c.tc : Thread Cert.ReferenceProjectIdeal.nD Cert.ReferenceProjectIdeal.τ).loc Cert.ReferenceProjectIdeal.main_arg1) = m' ((c.tc : Thread Cert.ReferenceProjectIdeal.nD Cert.ReferenceProjectIdeal.τ).loc Cert.ReferenceProjectIdeal.main_arg1))

def preserves_Combine_CombineIdeal : Prop :=
  True

def algebraic_CombineIdeal_ReferenceCombineIdeal [hCombineIdeal : Cert.CombineIdeal.Facts] [hReferenceCombineIdeal : Cert.ReferenceCombineIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_CombineIdeal m →
    (∀ c : Dev Cert.CombineIdeal.nD,
      m' ((c.tc : Thread Cert.ReferenceCombineIdeal.nD Cert.ReferenceCombineIdeal.τ).loc Cert.ReferenceCombineIdeal.main_arg0) = m ((c.tc : Thread Cert.CombineIdeal.nD Cert.CombineIdeal.τ).loc Cert.CombineIdeal.main_arg0)
      ∧ m' ((c.tc : Thread Cert.ReferenceCombineIdeal.nD Cert.ReferenceCombineIdeal.τ).loc Cert.ReferenceCombineIdeal.main_arg1) = m ((c.tc : Thread Cert.CombineIdeal.nD Cert.CombineIdeal.τ).loc Cert.CombineIdeal.main_arg1)
      ∧ m' ((c.tc : Thread Cert.ReferenceCombineIdeal.nD Cert.ReferenceCombineIdeal.τ).loc Cert.ReferenceCombineIdeal.main_arg2) = m ((c.tc : Thread Cert.CombineIdeal.nD Cert.CombineIdeal.τ).loc Cert.CombineIdeal.main_arg2)
      ∧ m' ((c.tc : Thread Cert.ReferenceCombineIdeal.nD Cert.ReferenceCombineIdeal.τ).loc Cert.ReferenceCombineIdeal.main_arg3) = m ((c.tc : Thread Cert.CombineIdeal.nD Cert.CombineIdeal.τ).loc Cert.CombineIdeal.main_arg3)
      ∧ m' ((c.tc : Thread Cert.ReferenceCombineIdeal.nD Cert.ReferenceCombineIdeal.τ).loc Cert.ReferenceCombineIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v12)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v12) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v38) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3)
          ∧ r.2.mem ((c.tc : Thread Cert.ReferenceCombineIdeal.nD Cert.ReferenceCombineIdeal.τ).loc Cert.ReferenceCombineIdeal.main_arg4) = m' ((c.tc : Thread Cert.ReferenceCombineIdeal.nD Cert.ReferenceCombineIdeal.τ).loc Cert.ReferenceCombineIdeal.main_arg4))

def preserves_Output_OutputIdeal : Prop :=
  True

def algebraic_OutputIdeal_ReferenceOutputIdeal [hOutputIdeal : Cert.OutputIdeal.Facts] [hReferenceOutputIdeal : Cert.ReferenceOutputIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.ReferenceOutputIdeal.nD Cert.ReferenceOutputIdeal.τ Cert.ReferenceOutputIdeal.sig) → Buf (Elt Ideal) ℓ) (g' : Dev Cert.ReferenceOutputIdeal.nD → PrngReg), Pre_OutputIdeal m →
    (∀ c : Dev Cert.OutputIdeal.nD,
      m' ((c.tc : Thread Cert.ReferenceOutputIdeal.nD Cert.ReferenceOutputIdeal.τ).loc Cert.ReferenceOutputIdeal.main_arg0) = m ((c.tc : Thread Cert.OutputIdeal.nD Cert.OutputIdeal.τ).loc Cert.OutputIdeal.main_arg0)
      ∧ m' ((c.tc : Thread Cert.ReferenceOutputIdeal.nD Cert.ReferenceOutputIdeal.τ).loc Cert.ReferenceOutputIdeal.main_arg1) = m ((c.tc : Thread Cert.OutputIdeal.nD Cert.OutputIdeal.τ).loc Cert.OutputIdeal.main_arg1)
      ∧ m' ((c.tc : Thread Cert.ReferenceOutputIdeal.nD Cert.ReferenceOutputIdeal.τ).loc Cert.ReferenceOutputIdeal.main_arg2) = m ((c.tc : Thread Cert.OutputIdeal.nD Cert.OutputIdeal.τ).loc Cert.OutputIdeal.main_arg2)
      ∧ m' ((c.tc : Thread Cert.ReferenceOutputIdeal.nD Cert.ReferenceOutputIdeal.τ).loc Cert.ReferenceOutputIdeal.main_arg3) = m ((c.tc : Thread Cert.OutputIdeal.nD Cert.OutputIdeal.τ).loc Cert.OutputIdeal.main_arg3)
      ∧ m' ((c.tc : Thread Cert.ReferenceOutputIdeal.nD Cert.ReferenceOutputIdeal.τ).loc Cert.ReferenceOutputIdeal.main_arg4) = m ((c.tc : Thread Cert.OutputIdeal.nD Cert.OutputIdeal.τ).loc Cert.OutputIdeal.main_arg4)
      ∧ m' ((c.tc : Thread Cert.ReferenceOutputIdeal.nD Cert.ReferenceOutputIdeal.τ).loc Cert.ReferenceOutputIdeal.main_arg5) = m ((c.tc : Thread Cert.OutputIdeal.nD Cert.OutputIdeal.τ).loc Cert.OutputIdeal.main_arg5)
      ∧ m' ((c.tc : Thread Cert.ReferenceOutputIdeal.nD Cert.ReferenceOutputIdeal.τ).loc Cert.ReferenceOutputIdeal.main_arg6) = m ((c.tc : Thread Cert.OutputIdeal.nD Cert.OutputIdeal.τ).loc Cert.OutputIdeal.main_arg6)
      ∧ m' ((c.tc : Thread Cert.ReferenceOutputIdeal.nD Cert.ReferenceOutputIdeal.τ).loc Cert.ReferenceOutputIdeal.main_arg7) = m ((c.tc : Thread Cert.OutputIdeal.nD Cert.OutputIdeal.τ).loc Cert.OutputIdeal.main_arg7)) →
    ∃ (v0 : (c : Dev Cert.OutputIdeal.nD) → Buf (Elt Ideal) ((c.tc : Thread Cert.OutputIdeal.nD Cert.OutputIdeal.τ).loc Cert.OutputIdeal.main_v18)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v18) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7))
      ∧ θ_run (Cert.ReferenceOutputIdeal.defs (F := Ideal)) (onTc (τ := Cert.ReferenceOutputIdeal.τ) (Cert.ReferenceOutputIdeal.main (F := Ideal))) ⟨m', fun _ => 0, g'⟩ (fun r => ∀ c : Dev Cert.ReferenceOutputIdeal.nD,
          r.2.mem ((c.tc : Thread Cert.ReferenceOutputIdeal.nD Cert.ReferenceOutputIdeal.τ).loc Cert.ReferenceOutputIdeal.main_v31) = v0 c
          ∧ r.2.mem ((c.tc : Thread Cert.ReferenceOutputIdeal.nD Cert.ReferenceOutputIdeal.τ).loc Cert.ReferenceOutputIdeal.main_arg0) = m' ((c.tc : Thread Cert.ReferenceOutputIdeal.nD Cert.ReferenceOutputIdeal.τ).loc Cert.ReferenceOutputIdeal.main_arg0)
          ∧ r.2.mem ((c.tc : Thread Cert.ReferenceOutputIdeal.nD Cert.ReferenceOutputIdeal.τ).loc Cert.ReferenceOutputIdeal.main_arg1) = m' ((c.tc : Thread Cert.ReferenceOutputIdeal.nD Cert.ReferenceOutputIdeal.τ).loc Cert.ReferenceOutputIdeal.main_arg1)
          ∧ r.2.mem ((c.tc : Thread Cert.ReferenceOutputIdeal.nD Cert.ReferenceOutputIdeal.τ).loc Cert.ReferenceOutputIdeal.main_arg2) = m' ((c.tc : Thread Cert.ReferenceOutputIdeal.nD Cert.ReferenceOutputIdeal.τ).loc Cert.ReferenceOutputIdeal.main_arg2)
          ∧ r.2.mem ((c.tc : Thread Cert.ReferenceOutputIdeal.nD Cert.ReferenceOutputIdeal.τ).loc Cert.ReferenceOutputIdeal.main_arg3) = m' ((c.tc : Thread Cert.ReferenceOutputIdeal.nD Cert.ReferenceOutputIdeal.τ).loc Cert.ReferenceOutputIdeal.main_arg3)
          ∧ r.2.mem ((c.tc : Thread Cert.ReferenceOutputIdeal.nD Cert.ReferenceOutputIdeal.τ).loc Cert.ReferenceOutputIdeal.main_arg4) = m' ((c.tc : Thread Cert.ReferenceOutputIdeal.nD Cert.ReferenceOutputIdeal.τ).loc Cert.ReferenceOutputIdeal.main_arg4)
          ∧ r.2.mem ((c.tc : Thread Cert.ReferenceOutputIdeal.nD Cert.ReferenceOutputIdeal.τ).loc Cert.ReferenceOutputIdeal.main_arg5) = m' ((c.tc : Thread Cert.ReferenceOutputIdeal.nD Cert.ReferenceOutputIdeal.τ).loc Cert.ReferenceOutputIdeal.main_arg5)
          ∧ r.2.mem ((c.tc : Thread Cert.ReferenceOutputIdeal.nD Cert.ReferenceOutputIdeal.τ).loc Cert.ReferenceOutputIdeal.main_arg6) = m' ((c.tc : Thread Cert.ReferenceOutputIdeal.nD Cert.ReferenceOutputIdeal.τ).loc Cert.ReferenceOutputIdeal.main_arg6)
          ∧ r.2.mem ((c.tc : Thread Cert.ReferenceOutputIdeal.nD Cert.ReferenceOutputIdeal.τ).loc Cert.ReferenceOutputIdeal.main_arg7) = m' ((c.tc : Thread Cert.ReferenceOutputIdeal.nD Cert.ReferenceOutputIdeal.τ).loc Cert.ReferenceOutputIdeal.main_arg7))

def preserves_Router_RouterIdeal : Prop :=
  IdealRules.named_const.Statement Cert.RouterIdeal.κ "mask" .f32 0xF149F2CA#32 ⊥

def algebraic_RouterIdeal_ReferenceRouterIdeal_pre_finite_router [hRouterIdeal : Cert.RouterIdeal.Facts] [hReferenceRouterIdeal : Cert.ReferenceRouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.ReferenceRouterIdeal.nD Cert.ReferenceRouterIdeal.τ Cert.ReferenceRouterIdeal.sig) → Buf (Elt Ideal) ℓ) (g' : Dev Cert.ReferenceRouterIdeal.nD → PrngReg), Pre_RouterIdeal_finite_router m →
    (∀ c : Dev Cert.RouterIdeal.nD,
      m' ((c.tc : Thread Cert.ReferenceRouterIdeal.nD Cert.ReferenceRouterIdeal.τ).loc Cert.ReferenceRouterIdeal.main_arg0) = m ((c.tc : Thread Cert.RouterIdeal.nD Cert.RouterIdeal.τ).loc Cert.RouterIdeal.main_arg0)
      ∧ m' ((c.tc : Thread Cert.ReferenceRouterIdeal.nD Cert.ReferenceRouterIdeal.τ).loc Cert.ReferenceRouterIdeal.main_arg1) = m ((c.tc : Thread Cert.RouterIdeal.nD Cert.RouterIdeal.τ).loc Cert.RouterIdeal.main_arg1)
      ∧ m' ((c.tc : Thread Cert.ReferenceRouterIdeal.nD Cert.ReferenceRouterIdeal.τ).loc Cert.ReferenceRouterIdeal.main_arg2) = m ((c.tc : Thread Cert.RouterIdeal.nD Cert.RouterIdeal.τ).loc Cert.RouterIdeal.main_arg2)
      ∧ m' ((c.tc : Thread Cert.ReferenceRouterIdeal.nD Cert.ReferenceRouterIdeal.τ).loc Cert.ReferenceRouterIdeal.main_arg3) = m ((c.tc : Thread Cert.RouterIdeal.nD Cert.RouterIdeal.τ).loc Cert.RouterIdeal.main_arg3)
      ∧ m' ((c.tc : Thread Cert.ReferenceRouterIdeal.nD Cert.ReferenceRouterIdeal.τ).loc Cert.ReferenceRouterIdeal.main_arg4) = m ((c.tc : Thread Cert.RouterIdeal.nD Cert.RouterIdeal.τ).loc Cert.RouterIdeal.main_arg4)
      ∧ m' ((c.tc : Thread Cert.ReferenceRouterIdeal.nD Cert.ReferenceRouterIdeal.τ).loc Cert.ReferenceRouterIdeal.main_arg5) = m ((c.tc : Thread Cert.RouterIdeal.nD Cert.RouterIdeal.τ).loc Cert.RouterIdeal.main_arg5)
      ∧ m' ((c.tc : Thread Cert.ReferenceRouterIdeal.nD Cert.ReferenceRouterIdeal.τ).loc Cert.ReferenceRouterIdeal.main_arg6) = m ((c.tc : Thread Cert.RouterIdeal.nD Cert.RouterIdeal.τ).loc Cert.RouterIdeal.main_arg6)
      ∧ m' ((c.tc : Thread Cert.ReferenceRouterIdeal.nD Cert.ReferenceRouterIdeal.τ).loc Cert.ReferenceRouterIdeal.main_arg7) = m ((c.tc : Thread Cert.RouterIdeal.nD Cert.RouterIdeal.τ).loc Cert.RouterIdeal.main_arg7)) →
    ∃ (v0 : (c : Dev Cert.RouterIdeal.nD) → Buf (Elt Ideal) ((c.tc : Thread Cert.RouterIdeal.nD Cert.RouterIdeal.τ).loc Cert.RouterIdeal.main_v19)) (v1 : (c : Dev Cert.RouterIdeal.nD) → Buf (Elt Ideal) ((c.tc : Thread Cert.RouterIdeal.nD Cert.RouterIdeal.τ).loc Cert.RouterIdeal.main_v20)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v19) = v0 c
          ∧ r.2.mem ((c.tc : Thread Cert.RouterIdeal.nD Cert.RouterIdeal.τ).loc Cert.RouterIdeal.main_v20) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ θ_run (Cert.ReferenceRouterIdeal.defs (F := Ideal)) (onTc (τ := Cert.ReferenceRouterIdeal.τ) (Cert.ReferenceRouterIdeal.main (F := Ideal))) ⟨m', fun _ => 0, g'⟩ (fun r => ∀ c : Dev Cert.ReferenceRouterIdeal.nD,
          r.2.mem ((c.tc : Thread Cert.ReferenceRouterIdeal.nD Cert.ReferenceRouterIdeal.τ).loc Cert.ReferenceRouterIdeal.main_v76) = v0 c
          ∧ r.2.mem ((c.tc : Thread Cert.ReferenceRouterIdeal.nD Cert.ReferenceRouterIdeal.τ).loc Cert.ReferenceRouterIdeal.main_v78) = v1 c
          ∧ r.2.mem ((c.tc : Thread Cert.ReferenceRouterIdeal.nD Cert.ReferenceRouterIdeal.τ).loc Cert.ReferenceRouterIdeal.main_arg0) = m' ((c.tc : Thread Cert.ReferenceRouterIdeal.nD Cert.ReferenceRouterIdeal.τ).loc Cert.ReferenceRouterIdeal.main_arg0)
          ∧ r.2.mem ((c.tc : Thread Cert.ReferenceRouterIdeal.nD Cert.ReferenceRouterIdeal.τ).loc Cert.ReferenceRouterIdeal.main_arg1) = m' ((c.tc : Thread Cert.ReferenceRouterIdeal.nD Cert.ReferenceRouterIdeal.τ).loc Cert.ReferenceRouterIdeal.main_arg1)
          ∧ r.2.mem ((c.tc : Thread Cert.ReferenceRouterIdeal.nD Cert.ReferenceRouterIdeal.τ).loc Cert.ReferenceRouterIdeal.main_arg2) = m' ((c.tc : Thread Cert.ReferenceRouterIdeal.nD Cert.ReferenceRouterIdeal.τ).loc Cert.ReferenceRouterIdeal.main_arg2)
          ∧ r.2.mem ((c.tc : Thread Cert.ReferenceRouterIdeal.nD Cert.ReferenceRouterIdeal.τ).loc Cert.ReferenceRouterIdeal.main_arg3) = m' ((c.tc : Thread Cert.ReferenceRouterIdeal.nD Cert.ReferenceRouterIdeal.τ).loc Cert.ReferenceRouterIdeal.main_arg3)
          ∧ r.2.mem ((c.tc : Thread Cert.ReferenceRouterIdeal.nD Cert.ReferenceRouterIdeal.τ).loc Cert.ReferenceRouterIdeal.main_arg4) = m' ((c.tc : Thread Cert.ReferenceRouterIdeal.nD Cert.ReferenceRouterIdeal.τ).loc Cert.ReferenceRouterIdeal.main_arg4)
          ∧ r.2.mem ((c.tc : Thread Cert.ReferenceRouterIdeal.nD Cert.ReferenceRouterIdeal.τ).loc Cert.ReferenceRouterIdeal.main_arg5) = m' ((c.tc : Thread Cert.ReferenceRouterIdeal.nD Cert.ReferenceRouterIdeal.τ).loc Cert.ReferenceRouterIdeal.main_arg5)
          ∧ r.2.mem ((c.tc : Thread Cert.ReferenceRouterIdeal.nD Cert.ReferenceRouterIdeal.τ).loc Cert.ReferenceRouterIdeal.main_arg6) = m' ((c.tc : Thread Cert.ReferenceRouterIdeal.nD Cert.ReferenceRouterIdeal.τ).loc Cert.ReferenceRouterIdeal.main_arg6)
          ∧ r.2.mem ((c.tc : Thread Cert.ReferenceRouterIdeal.nD Cert.ReferenceRouterIdeal.τ).loc Cert.ReferenceRouterIdeal.main_arg7) = m' ((c.tc : Thread Cert.ReferenceRouterIdeal.nD Cert.ReferenceRouterIdeal.τ).loc Cert.ReferenceRouterIdeal.main_arg7))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hReferenceProjectIdeal : Cert.ReferenceProjectIdeal.Facts) (hCombine : Cert.Combine.Facts) (hCombineIdeal : Cert.CombineIdeal.Facts) (hReferenceCombineIdeal : Cert.ReferenceCombineIdeal.Facts) (hOutput : Cert.Output.Facts) (hOutputIdeal : Cert.OutputIdeal.Facts) (hReferenceOutputIdeal : Cert.ReferenceOutputIdeal.Facts) (hRouter : Cert.Router.Facts) (hRouterIdeal : Cert.RouterIdeal.Facts) (hReferenceRouterIdeal : Cert.ReferenceRouterIdeal.Facts) (hPre_finite : Cert.Pre_finite.Facts) (hPre_finite_router : Cert.Pre_finite_router.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ReferenceProjectIdeal (hReferenceProjectIdeal := hReferenceProjectIdeal)
    ∧ quiescent_Combine (hCombine := hCombine)
    ∧ quiescent_CombineIdeal (hCombineIdeal := hCombineIdeal)
    ∧ quiescent_ReferenceCombineIdeal (hReferenceCombineIdeal := hReferenceCombineIdeal)
    ∧ quiescent_Output (hOutput := hOutput)
    ∧ quiescent_OutputIdeal (hOutputIdeal := hOutputIdeal)
    ∧ quiescent_ReferenceOutputIdeal (hReferenceOutputIdeal := hReferenceOutputIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_ReferenceRouterIdeal (hReferenceRouterIdeal := hReferenceRouterIdeal)
    ∧ quiescent_ReferenceRouterIdeal_pre_finite_router (hReferenceRouterIdeal := hReferenceRouterIdeal) (hPre_finite_router := hPre_finite_router)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ReferenceProjectIdeal (hProjectIdeal := hProjectIdeal) (hReferenceProjectIdeal := hReferenceProjectIdeal)
    ∧ preserves_Combine_CombineIdeal
    ∧ algebraic_CombineIdeal_ReferenceCombineIdeal (hCombineIdeal := hCombineIdeal) (hReferenceCombineIdeal := hReferenceCombineIdeal)
    ∧ preserves_Output_OutputIdeal
    ∧ algebraic_OutputIdeal_ReferenceOutputIdeal (hOutputIdeal := hOutputIdeal) (hReferenceOutputIdeal := hReferenceOutputIdeal)
    ∧ preserves_Router_RouterIdeal
    ∧ algebraic_RouterIdeal_ReferenceRouterIdeal_pre_finite_router (hRouterIdeal := hRouterIdeal) (hReferenceRouterIdeal := hReferenceRouterIdeal) (hPre_finite_router := hPre_finite_router)
-- ==== Pre_finite.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S8x4096x512 .f32) (main_arg1 : FVec F S8x4096x512 .f32) (main_arg2 : FVec F S8x4096x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x512 .f32 := Host.absf main_arg2
  let main_cst_2 : FVec F S_ .f32 := constant S_ .f32 0x7F800000#32
  let main_v10 : FVec F S8x4096x512 .f32 := broadcastInDim S8x4096x512 ![] bcast_S_S8x4096x512 main_cst_2
  let main_v11 : IVec S8x4096x512 1 := cmpf .olt main_v9 main_v10
  let main_c_3 : IVec S_ 1 := constantI S_ 1 1#1
  let main_v12 : IVec S_ 1 := (fun x v => Host.reduce IntOp.andi x v reducesTo_S8x4096x512_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Pre_finite_router.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x4 : S_.BroadcastsInDim S1x1024x4 (![] : Fin 0 → Fin S1x1024x4.rank)
  reducesTo_S1x1024x4_S_d0_1_2 : S1x1024x4.ReducesTo [0, 1, 2] S_
  bcast_S_S1x1024x32 : S_.BroadcastsInDim S1x1024x32 (![] : Fin 0 → Fin S1x1024x32.rank)
  reducesTo_S1x1024x32_S_d0_1_2 : S1x1024x32.ReducesTo [0, 1, 2] S_

variable [Facts]

def fn_part2 {F : FTy → Type} [FloatOps F] (main_arg7 : FVec F S1x1024x32 .f32) (main_v33 : IVec S_ 1) : IVec S_ 1 :=
  let main_v34 : FVec F S1x1024x32 .f32 := Host.absf main_arg7
  let main_cst_12 : FVec F S_ .f32 := constant S_ .f32 0x7F800000#32
  let main_v35 : FVec F S1x1024x32 .f32 := broadcastInDim S1x1024x32 ![] bcast_S_S1x1024x32 main_cst_12
  let main_v36 : IVec S1x1024x32 1 := cmpf .olt main_v34 main_v35
  let main_c_13 : IVec S_ 1 := constantI S_ 1 1#1
  let main_v37 : IVec S_ 1 := (fun x v => Host.reduce IntOp.andi x v reducesTo_S1x1024x32_S_d0_1_2 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1x1024x4 .f32) (main_arg7 : FVec F S1x1024x32 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024x4 .f32 := Host.absf main_arg6
  let main_cst_10 : FVec F S_ .f32 := constant S_ .f32 0x7F800000#32
  let main_v30 : FVec F S1x1024x4 .f32 := broadcastInDim S1x1024x4 ![] bcast_S_S1x1024x4 main_cst_10
  let main_v31 : IVec S1x1024x4 1 := cmpf .olt main_v29 main_v30
  let main_c_11 : IVec S_ 1 := constantI S_ 1 1#1
  let main_v32 : IVec S_ 1 := (fun x v => Host.reduce IntOp.andi x v reducesTo_S1x1024x4_S_d0_1_2 h_S_) main_v31 main_c_11
  let main_v33 : IVec S_ 1 := andi main_v28 main_v32
  fn_part2 (F := F) main_arg7 main_v33

def fn {F : FTy → Type} [FloatOps F] (main_arg0 : FVec F S8x4096x512 .f32) (main_arg1 : FVec F S8x4096x512 .f32) (main_arg2 : FVec F S8x4096x1024 .f32) (main_arg3 : FVec F S1x1024x1024 .f32) (main_arg4 : FVec F S1x1024 .f32) (main_arg5 : FVec F S1x1024 .f32) (main_arg6 : FVec F S1x1024x4 .f32) (main_arg7 : FVec F S1x1024x32 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S1x1024x1024 .f32 := Host.absf main_arg3
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg4 main_arg5 main_arg6 main_arg7 main_v13 main_v16
-- ==== Kernel.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩
abbrev S64 : Shape := ⟨1, ![64]⟩
abbrev S4x64 : Shape := ⟨2, ![4, 64]⟩
abbrev S128 : Shape := ⟨1, ![128]⟩
abbrev S1x4096x128 : Shape := ⟨3, ![1, 4096, 128]⟩
abbrev S1 : Shape := ⟨1, ![1]⟩
abbrev S1x1 : Shape := ⟨2, ![1, 1]⟩
abbrev S256x128 : Shape := ⟨2, ![256, 128]⟩
abbrev S512x512 : Shape := ⟨2, ![512, 512]⟩
abbrev S1x256x128 : Shape := ⟨3, ![1, 256, 128]⟩
abbrev S512x128 : Shape := ⟨2, ![512, 128]⟩
abbrev S512x1 : Shape := ⟨2, ![512, 1]⟩
abbrev S1x512x128 : Shape := ⟨3, ![1, 512, 128]⟩
abbrev S512 : Shape := ⟨1, ![512]⟩
abbrev S512x256 : Shape := ⟨2, ![512, 256]⟩
abbrev S256 : Shape := ⟨1, ![256]⟩
abbrev S256x1 : Shape := ⟨2, ![256, 1]⟩

abbrev nBuf : Space → Nat
  | .hbm => 29
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x512, .f32⟩
  | .hbm, ⟨13, _⟩ => ⟨S8x4096x512, .f32⟩
  | .hbm, ⟨14, _⟩ => ⟨S8x4096x512, .bf16⟩
  | .hbm, ⟨15, _⟩ => ⟨S8x4096x512, .bf16⟩
  | .hbm, ⟨16, _⟩ => ⟨S8x4096x512, .bf16⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S4x64, .f32⟩
  | .hbm, ⟨26, _⟩ => ⟨S128, .f32⟩
  | .hbm, ⟨27, _⟩ => ⟨S1x128, .f32⟩
  | .hbm, ⟨28, _⟩ => ⟨S8x4096x512, .bf16⟩
  | .local _ .vmem, ⟨0, _⟩ => ⟨S4x64, .f32⟩
  | .local _ .vmem, ⟨1, _⟩ => ⟨S1x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_15 : BitVec 32 := 0#32
  let c16_i32 : BitVec 32 := 16#32
  let v74 : BitVec 32 := Scalar.addi c0_i32_15 c16_i32
  let c1_i32_16 : BitVec 32 := 1#32
  ⟨c0_i32_15, v74, c1_i32_16⟩
def k0_mult1 (k0_t1 : Fin k0_t1_loop.trips) : BitVec 32 :=
  let c0_i32_15 : BitVec 32 := 0#32
  let c1_i32_16 : BitVec 32 := 1#32
  let arg8 : BitVec 32 := Scf.iv c0_i32_15 c1_i32_16 k0_t1
  let c256_i32_18 : BitVec 32 := 256#32
  let v75 : BitVec 32 := Scalar.muli arg8 c256_i32_18
  v75
def k0_off1 (k0_t1 : Fin k0_t1_loop.trips) : Fin 3 → Nat :=
  let c0_19 : Index := 0#32
  let c0_i32_15 : BitVec 32 := 0#32
  let c1_i32_16 : BitVec 32 := 1#32
  let arg8 : BitVec 32 := Scf.iv c0_i32_15 c1_i32_16 k0_t1
  let c256_i32_18 : BitVec 32 := 256#32
  let v75 : BitVec 32 := Scalar.muli arg8 c256_i32_18
  let v76 : BitVec 32 := v75
  let v77 : Index := Scalar.indexCast v76
  let c0_20 : Index := 0#32
  ![0, v77.toNat, 0]
@[reducible] def k0_t2_loop (k0_t1 : Fin k0_t1_loop.trips) : Scf.Loop 32 :=
  let c0_i32_40 : BitVec 32 := 0#32
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c0_i32_34 : BitVec 32 := 0#32
  let v109 : BitVec 1 := Scalar.cmpi .sgt v107 c0_i32_34
  let v110 : BitVec 32 := Scalar.extui v109
  let c0_i32_35 : BitVec 32 := 0#32
  let v111 : BitVec 1 := Scalar.cmpi .slt v107 c0_i32_35
  let v112 : BitVec 32 := Scalar.extui v111
  let v113 : BitVec 32 := Scalar.subi v110 v112
  let c2_i32_33 : BitVec 32 := 2#32
  let c0_i32_36 : BitVec 32 := 0#32
  let v114 : BitVec 1 := Scalar.cmpi .sgt c2_i32_33 c0_i32_36
  let v115 : BitVec 32 := Scalar.extui v114
  let c0_i32_37 : BitVec 32 := 0#32
  let v116 : BitVec 1 := Scalar.cmpi .slt c2_i32_33 c0_i32_37
  let v117 : BitVec 32 := Scalar.extui v116
  let v118 : BitVec 32 := Scalar.subi v115 v117
  let v119 : BitVec 1 := Scalar.cmpi .ne v113 v118
  let v120 : BitVec 32 := Scalar.remsi v107 c2_i32_33
  let c0_i32_38 : BitVec 32 := 0#32
  let v121 : BitVec 1 := Scalar.cmpi .ne v120 c0_i32_38
  let v122 : BitVec 1 := Scalar.andi v119 v121
  let v108 : BitVec 32 := Scalar.divsi v107 c2_i32_33
  let c1_i32_39 : BitVec 32 := 1#32
  let v123 : BitVec 32 := Scalar.subi v108 c1_i32_39
  let v124 : BitVec 32 := Scalar.select v122 v123 v108
  let v125 : BitVec 32 := Scalar.subi v124 c0_i32_40
  let c1_i32_41 : BitVec 32 := 1#32
  let v127 : BitVec 32 := Scalar.divsi v125 c1_i32_41
  let v128 : BitVec 32 := Scalar.muli v127 c1_i32_41
  let v129 : BitVec 32 := Scalar.addi c0_i32_40 v128
  let c1_i32_42 : BitVec 32 := 1#32
  ⟨c0_i32_40, v129, c1_i32_42⟩
def k0_mult2 (k0_t1 : Fin k0_t1_loop.trips) (k0_t2 : Fin (k0_t2_loop k0_t1).trips) : BitVec 32 :=
  let c2_i32_69 : BitVec 32 := 2#32
  let c0_i32_40 : BitVec 32 := 0#32
  let c1_i32_42 : BitVec 32 := 1#32
  let arg9 : BitVec 32 := Scf.iv c0_i32_40 c1_i32_42 k0_t2
  let v190 : BitVec 32 := Scalar.muli c2_i32_69 arg9
  let c512_i32 : BitVec 32 := 512#32
  let v191 : BitVec 32 := Scalar.muli v190 c512_i32
  v191
def k0_off2 (k0_t1 : Fin k0_t1_loop.trips) (k0_t2 : Fin (k0_t2_loop k0_t1).trips) : Fin 3 → Nat :=
  let c0_70 : Index := 0#32
  let c2_i32_69 : BitVec 32 := 2#32
  let c0_i32_40 : BitVec 32 := 0#32
  let c1_i32_42 : BitVec 32 := 1#32
  let arg9 : BitVec 32 := Scf.iv c0_i32_40 c1_i32_42 k0_t2
  let v190 : BitVec 32 := Scalar.muli c2_i32_69 arg9
  let c512_i32 : BitVec 32 := 512#32
  let v191 : BitVec 32 := Scalar.muli v190 c512_i32
  let v192 : BitVec 32 := v191
  let v193 : Index := Scalar.indexCast v192
  let c0_71 : Index := 0#32
  ![0, v193.toNat, 0]
def k0_mult3 (k0_t1 : Fin k0_t1_loop.trips) (k0_t2 : Fin (k0_t2_loop k0_t1).trips) : BitVec 32 :=
  let c2_i32_78 : BitVec 32 := 2#32
  let c0_i32_40 : BitVec 32 := 0#32
  let c1_i32_42 : BitVec 32 := 1#32
  let arg9 : BitVec 32 := Scf.iv c0_i32_40 c1_i32_42 k0_t2
  let v217 : BitVec 32 := Scalar.muli c2_i32_78 arg9
  let c1_i32_79 : BitVec 32 := 1#32
  let v218 : BitVec 32 := Scalar.addi v217 c1_i32_79
  let c512_i32_80 : BitVec 32 := 512#32
  let v219 : BitVec 32 := Scalar.muli v218 c512_i32_80
  v219
def k0_off3 (k0_t1 : Fin k0_t1_loop.trips) (k0_t2 : Fin (k0_t2_loop k0_t1).trips) : Fin 3 → Nat :=
  let c0_81 : Index := 0#32
  let c2_i32_78 : BitVec 32 := 2#32
  let c0_i32_40 : BitVec 32 := 0#32
  let c1_i32_42 : BitVec 32 := 1#32
  let arg9 : BitVec 32 := Scf.iv c0_i32_40 c1_i32_42 k0_t2
  let v217 : BitVec 32 := Scalar.muli c2_i32_78 arg9
  let c1_i32_79 : BitVec 32 := 1#32
  let v218 : BitVec 32 := Scalar.addi v217 c1_i32_79
  let c512_i32_80 : BitVec 32 := 512#32
  let v219 : BitVec 32 := Scalar.muli v218 c512_i32_80
  let v220 : BitVec 32 := v219
  let v221 : Index := Scalar.indexCast v220
  let c0_82 : Index := 0#32
  ![0, v221.toNat, 0]
@[reducible] def k0_t3_loop (k0_t1 : Fin k0_t1_loop.trips) : Scf.Loop 32 :=
  let c0_i32_40 : BitVec 32 := 0#32
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c0_i32_34 : BitVec 32 := 0#32
  let v109 : BitVec 1 := Scalar.cmpi .sgt v107 c0_i32_34
  let v110 : BitVec 32 := Scalar.extui v109
  let c0_i32_35 : BitVec 32 := 0#32
  let v111 : BitVec 1 := Scalar.cmpi .slt v107 c0_i32_35
  let v112 : BitVec 32 := Scalar.extui v111
  let v113 : BitVec 32 := Scalar.subi v110 v112
  let c2_i32_33 : BitVec 32 := 2#32
  let c0_i32_36 : BitVec 32 := 0#32
  let v114 : BitVec 1 := Scalar.cmpi .sgt c2_i32_33 c0_i32_36
  let v115 : BitVec 32 := Scalar.extui v114
  let c0_i32_37 : BitVec 32 := 0#32
  let v116 : BitVec 1 := Scalar.cmpi .slt c2_i32_33 c0_i32_37
  let v117 : BitVec 32 := Scalar.extui v116
  let v118 : BitVec 32 := Scalar.subi v115 v117
  let v119 : BitVec 1 := Scalar.cmpi .ne v113 v118
  let v120 : BitVec 32 := Scalar.remsi v107 c2_i32_33
  let c0_i32_38 : BitVec 32 := 0#32
  let v121 : BitVec 1 := Scalar.cmpi .ne v120 c0_i32_38
  let v122 : BitVec 1 := Scalar.andi v119 v121
  let v108 : BitVec 32 := Scalar.divsi v107 c2_i32_33
  let c1_i32_39 : BitVec 32 := 1#32
  let v123 : BitVec 32 := Scalar.subi v108 c1_i32_39
  let v124 : BitVec 32 := Scalar.select v122 v123 v108
  let v125 : BitVec 32 := Scalar.subi v124 c0_i32_40
  let c1_i32_41 : BitVec 32 := 1#32
  let v127 : BitVec 32 := Scalar.divsi v125 c1_i32_41
  let v128 : BitVec 32 := Scalar.muli v127 c1_i32_41
  let v129 : BitVec 32 := Scalar.addi c0_i32_40 v128
  let v126 : BitVec 32 := Scalar.addi c0_i32_40 v125
  let c1_i32_43 : BitVec 32 := 1#32
  ⟨v129, v126, c1_i32_43⟩
def k0_mult4 (k0_t1 : Fin k0_t1_loop.trips) (k0_t3 : Fin (k0_t3_loop k0_t1).trips) : BitVec 32 :=
  let c2_i32_69 : BitVec 32 := 2#32
  let c0_i32_40 : BitVec 32 := 0#32
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c0_i32_34 : BitVec 32 := 0#32
  let v109 : BitVec 1 := Scalar.cmpi .sgt v107 c0_i32_34
  let v110 : BitVec 32 := Scalar.extui v109
  let c0_i32_35 : BitVec 32 := 0#32
  let v111 : BitVec 1 := Scalar.cmpi .slt v107 c0_i32_35
  let v112 : BitVec 32 := Scalar.extui v111
  let v113 : BitVec 32 := Scalar.subi v110 v112
  let c2_i32_33 : BitVec 32 := 2#32
  let c0_i32_36 : BitVec 32 := 0#32
  let v114 : BitVec 1 := Scalar.cmpi .sgt c2_i32_33 c0_i32_36
  let v115 : BitVec 32 := Scalar.extui v114
  let c0_i32_37 : BitVec 32 := 0#32
  let v116 : BitVec 1 := Scalar.cmpi .slt c2_i32_33 c0_i32_37
  let v117 : BitVec 32 := Scalar.extui v116
  let v118 : BitVec 32 := Scalar.subi v115 v117
  let v119 : BitVec 1 := Scalar.cmpi .ne v113 v118
  let v120 : BitVec 32 := Scalar.remsi v107 c2_i32_33
  let c0_i32_38 : BitVec 32 := 0#32
  let v121 : BitVec 1 := Scalar.cmpi .ne v120 c0_i32_38
  let v122 : BitVec 1 := Scalar.andi v119 v121
  let v108 : BitVec 32 := Scalar.divsi v107 c2_i32_33
  let c1_i32_39 : BitVec 32 := 1#32
  let v123 : BitVec 32 := Scalar.subi v108 c1_i32_39
  let v124 : BitVec 32 := Scalar.select v122 v123 v108
  let v125 : BitVec 32 := Scalar.subi v124 c0_i32_40
  let c1_i32_41 : BitVec 32 := 1#32
  let v127 : BitVec 32 := Scalar.divsi v125 c1_i32_41
  let v128 : BitVec 32 := Scalar.muli v127 c1_i32_41
  let v129 : BitVec 32 := Scalar.addi c0_i32_40 v128
  let c1_i32_43 : BitVec 32 := 1#32
  let arg9 : BitVec 32 := Scf.iv v129 c1_i32_43 k0_t3
  let v190 : BitVec 32 := Scalar.muli c2_i32_69 arg9
  let c512_i32 : BitVec 32 := 512#32
  let v191 : BitVec 32 := Scalar.muli v190 c512_i32
  v191
def k0_off4 (k0_t1 : Fin k0_t1_loop.trips) (k0_t3 : Fin (k0_t3_loop k0_t1).trips) : Fin 3 → Nat :=
  let c0_70 : Index := 0#32
  let c2_i32_69 : BitVec 32 := 2#32
  let c0_i32_40 : BitVec 32 := 0#32
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c0_i32_34 : BitVec 32 := 0#32
  let v109 : BitVec 1 := Scalar.cmpi .sgt v107 c0_i32_34
  let v110 : BitVec 32 := Scalar.extui v109
  let c0_i32_35 : BitVec 32 := 0#32
  let v111 : BitVec 1 := Scalar.cmpi .slt v107 c0_i32_35
  let v112 : BitVec 32 := Scalar.extui v111
  let v113 : BitVec 32 := Scalar.subi v110 v112
  let c2_i32_33 : BitVec 32 := 2#32
  let c0_i32_36 : BitVec 32 := 0#32
  let v114 : BitVec 1 := Scalar.cmpi .sgt c2_i32_33 c0_i32_36
  let v115 : BitVec 32 := Scalar.extui v114
  let c0_i32_37 : BitVec 32 := 0#32
  let v116 : BitVec 1 := Scalar.cmpi .slt c2_i32_33 c0_i32_37
  let v117 : BitVec 32 := Scalar.extui v116
  let v118 : BitVec 32 := Scalar.subi v115 v117
  let v119 : BitVec 1 := Scalar.cmpi .ne v113 v118
  let v120 : BitVec 32 := Scalar.remsi v107 c2_i32_33
  let c0_i32_38 : BitVec 32 := 0#32
  let v121 : BitVec 1 := Scalar.cmpi .ne v120 c0_i32_38
  let v122 : BitVec 1 := Scalar.andi v119 v121
  let v108 : BitVec 32 := Scalar.divsi v107 c2_i32_33
  let c1_i32_39 : BitVec 32 := 1#32
  let v123 : BitVec 32 := Scalar.subi v108 c1_i32_39
  let v124 : BitVec 32 := Scalar.select v122 v123 v108
  let v125 : BitVec 32 := Scalar.subi v124 c0_i32_40
  let c1_i32_41 : BitVec 32 := 1#32
  let v127 : BitVec 32 := Scalar.divsi v125 c1_i32_41
  let v128 : BitVec 32 := Scalar.muli v127 c1_i32_41
  let v129 : BitVec 32 := Scalar.addi c0_i32_40 v128
  let c1_i32_43 : BitVec 32 := 1#32
  let arg9 : BitVec 32 := Scf.iv v129 c1_i32_43 k0_t3
  let v190 : BitVec 32 := Scalar.muli c2_i32_69 arg9
  let c512_i32 : BitVec 32 := 512#32
  let v191 : BitVec 32 := Scalar.muli v190 c512_i32
  let v192 : BitVec 32 := v191
  let v193 : Index := Scalar.indexCast v192
  let c0_71 : Index := 0#32
  ![0, v193.toNat, 0]
def k0_mult5 (k0_t1 : Fin k0_t1_loop.trips) (k0_t3 : Fin (k0_t3_loop k0_t1).trips) : BitVec 32 :=
  let c2_i32_78 : BitVec 32 := 2#32
  let c0_i32_40 : BitVec 32 := 0#32
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c0_i32_34 : BitVec 32 := 0#32
  let v109 : BitVec 1 := Scalar.cmpi .sgt v107 c0_i32_34
  let v110 : BitVec 32 := Scalar.extui v109
  let c0_i32_35 : BitVec 32 := 0#32
  let v111 : BitVec 1 := Scalar.cmpi .slt v107 c0_i32_35
  let v112 : BitVec 32 := Scalar.extui v111
  let v113 : BitVec 32 := Scalar.subi v110 v112
  let c2_i32_33 : BitVec 32 := 2#32
  let c0_i32_36 : BitVec 32 := 0#32
  let v114 : BitVec 1 := Scalar.cmpi .sgt c2_i32_33 c0_i32_36
  let v115 : BitVec 32 := Scalar.extui v114
  let c0_i32_37 : BitVec 32 := 0#32
  let v116 : BitVec 1 := Scalar.cmpi .slt c2_i32_33 c0_i32_37
  let v117 : BitVec 32 := Scalar.extui v116
  let v118 : BitVec 32 := Scalar.subi v115 v117
  let v119 : BitVec 1 := Scalar.cmpi .ne v113 v118
  let v120 : BitVec 32 := Scalar.remsi v107 c2_i32_33
  let c0_i32_38 : BitVec 32 := 0#32
  let v121 : BitVec 1 := Scalar.cmpi .ne v120 c0_i32_38
  let v122 : BitVec 1 := Scalar.andi v119 v121
  let v108 : BitVec 32 := Scalar.divsi v107 c2_i32_33
  let c1_i32_39 : BitVec 32 := 1#32
  let v123 : BitVec 32 := Scalar.subi v108 c1_i32_39
  let v124 : BitVec 32 := Scalar.select v122 v123 v108
  let v125 : BitVec 32 := Scalar.subi v124 c0_i32_40
  let c1_i32_41 : BitVec 32 := 1#32
  let v127 : BitVec 32 := Scalar.divsi v125 c1_i32_41
  let v128 : BitVec 32 := Scalar.muli v127 c1_i32_41
  let v129 : BitVec 32 := Scalar.addi c0_i32_40 v128
  let c1_i32_43 : BitVec 32 := 1#32
  let arg9 : BitVec 32 := Scf.iv v129 c1_i32_43 k0_t3
  let v217 : BitVec 32 := Scalar.muli c2_i32_78 arg9
  let c1_i32_79 : BitVec 32 := 1#32
  let v218 : BitVec 32 := Scalar.addi v217 c1_i32_79
  let c512_i32_80 : BitVec 32 := 512#32
  let v219 : BitVec 32 := Scalar.muli v218 c512_i32_80
  v219
def k0_off5 (k0_t1 : Fin k0_t1_loop.trips) (k0_t3 : Fin (k0_t3_loop k0_t1).trips) : Fin 3 → Nat :=
  let c0_81 : Index := 0#32
  let c2_i32_78 : BitVec 32 := 2#32
  let c0_i32_40 : BitVec 32 := 0#32
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c0_i32_34 : BitVec 32 := 0#32
  let v109 : BitVec 1 := Scalar.cmpi .sgt v107 c0_i32_34
  let v110 : BitVec 32 := Scalar.extui v109
  let c0_i32_35 : BitVec 32 := 0#32
  let v111 : BitVec 1 := Scalar.cmpi .slt v107 c0_i32_35
  let v112 : BitVec 32 := Scalar.extui v111
  let v113 : BitVec 32 := Scalar.subi v110 v112
  let c2_i32_33 : BitVec 32 := 2#32
  let c0_i32_36 : BitVec 32 := 0#32
  let v114 : BitVec 1 := Scalar.cmpi .sgt c2_i32_33 c0_i32_36
  let v115 : BitVec 32 := Scalar.extui v114
  let c0_i32_37 : BitVec 32 := 0#32
  let v116 : BitVec 1 := Scalar.cmpi .slt c2_i32_33 c0_i32_37
  let v117 : BitVec 32 := Scalar.extui v116
  let v118 : BitVec 32 := Scalar.subi v115 v117
  let v119 : BitVec 1 := Scalar.cmpi .ne v113 v118
  let v120 : BitVec 32 := Scalar.remsi v107 c2_i32_33
  let c0_i32_38 : BitVec 32 := 0#32
  let v121 : BitVec 1 := Scalar.cmpi .ne v120 c0_i32_38
  let v122 : BitVec 1 := Scalar.andi v119 v121
  let v108 : BitVec 32 := Scalar.divsi v107 c2_i32_33
  let c1_i32_39 : BitVec 32 := 1#32
  let v123 : BitVec 32 := Scalar.subi v108 c1_i32_39
  let v124 : BitVec 32 := Scalar.select v122 v123 v108
  let v125 : BitVec 32 := Scalar.subi v124 c0_i32_40
  let c1_i32_41 : BitVec 32 := 1#32
  let v127 : BitVec 32 := Scalar.divsi v125 c1_i32_41
  let v128 : BitVec 32 := Scalar.muli v127 c1_i32_41
  let v129 : BitVec 32 := Scalar.addi c0_i32_40 v128
  let c1_i32_43 : BitVec 32 := 1#32
  let arg9 : BitVec 32 := Scf.iv v129 c1_i32_43 k0_t3
  let v217 : BitVec 32 := Scalar.muli c2_i32_78 arg9
  let c1_i32_79 : BitVec 32 := 1#32
  let v218 : BitVec 32 := Scalar.addi v217 c1_i32_79
  let c512_i32_80 : BitVec 32 := 512#32
  let v219 : BitVec 32 := Scalar.muli v218 c512_i32_80
  let v220 : BitVec 32 := v219
  let v221 : Index := Scalar.indexCast v220
  let c0_82 : Index := 0#32
  ![0, v221.toNat, 0]
def k0_cond1 (k0_t1 : Fin k0_t1_loop.trips) : BitVec 1 :=
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c2_i32_44 : BitVec 32 := 2#32
  let c0_i32_45 : BitVec 32 := 0#32
  let v132 : BitVec 1 := Scalar.cmpi .eq c2_i32_44 c0_i32_45
  let c1_i32_46 : BitVec 32 := 1#32
  let v133 : BitVec 32 := Scalar.select v132 c1_i32_46 c2_i32_44
  let v134 : BitVec 32 := Scalar.remsi v107 v133
  let c0_i32_48 : BitVec 32 := 0#32
  let v136 : BitVec 1 := Scalar.cmpi .slt v134 c0_i32_48
  let c0_i32_49 : BitVec 32 := 0#32
  let v137 : BitVec 1 := Scalar.cmpi .slt v133 c0_i32_49
  let v138 : BitVec 1 := Scalar.xori v136 v137
  let c0_i32_47 : BitVec 32 := 0#32
  let v135 : BitVec 1 := Scalar.cmpi .ne v134 c0_i32_47
  let v139 : BitVec 1 := Scalar.andi v138 v135
  let v140 : BitVec 32 := Scalar.addi v134 v133
  let v141 : BitVec 32 := Scalar.select v139 v140 v134
  let c1_i32_50 : BitVec 32 := 1#32
  let v142 : BitVec 1 := Scalar.cmpi .eq v141 c1_i32_50
  let v143 : BitVec 32 := Scalar.extui v142
  let c0_i32_51 : BitVec 32 := 0#32
  let v144 : BitVec 1 := Scalar.cmpi .ne v143 c0_i32_51
  v144

def k0_mult6 (k0_t1 : Fin k0_t1_loop.trips) : BitVec 32 :=
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c1_i32_69 : BitVec 32 := 1#32
  let v190 : BitVec 32 := Scalar.subi v107 c1_i32_69
  let c512_i32 : BitVec 32 := 512#32
  let v191 : BitVec 32 := Scalar.muli v190 c512_i32
  v191
def k0_off6 (k0_t1 : Fin k0_t1_loop.trips) : Fin 3 → Nat :=
  let c0_70 : Index := 0#32
  let c0_i32_15 : BitVec 32 := 0#32
  let c1_i32_16 : BitVec 32 := 1#32
  let arg8 : BitVec 32 := Scf.iv c0_i32_15 c1_i32_16 k0_t1
  let c0_i32_27 : BitVec 32 := 0#32
  let v92 : BitVec 1 := Scalar.cmpi .sgt arg8 c0_i32_27
  let v93 : BitVec 32 := Scalar.extui v92
  let c0_i32_28 : BitVec 32 := 0#32
  let v94 : BitVec 1 := Scalar.cmpi .slt arg8 c0_i32_28
  let v95 : BitVec 32 := Scalar.extui v94
  let v96 : BitVec 32 := Scalar.subi v93 v95
  let c2_i32 : BitVec 32 := 2#32
  let c0_i32_29 : BitVec 32 := 0#32
  let v97 : BitVec 1 := Scalar.cmpi .sgt c2_i32 c0_i32_29
  let v98 : BitVec 32 := Scalar.extui v97
  let c0_i32_30 : BitVec 32 := 0#32
  let v99 : BitVec 1 := Scalar.cmpi .slt c2_i32 c0_i32_30
  let v100 : BitVec 32 := Scalar.extui v99
  let v101 : BitVec 32 := Scalar.subi v98 v100
  let v102 : BitVec 1 := Scalar.cmpi .ne v96 v101
  let v103 : BitVec 32 := Scalar.remsi arg8 c2_i32
  let c0_i32_31 : BitVec 32 := 0#32
  let v104 : BitVec 1 := Scalar.cmpi .ne v103 c0_i32_31
  let v105 : BitVec 1 := Scalar.andi v102 v104
  let v91 : BitVec 32 := Scalar.divsi arg8 c2_i32
  let c1_i32_32 : BitVec 32 := 1#32
  let v106 : BitVec 32 := Scalar.subi v91 c1_i32_32
  let v107 : BitVec 32 := Scalar.select v105 v106 v91
  let c1_i32_69 : BitVec 32 := 1#32
  let v190 : BitVec 32 := Scalar.subi v107 c1_i32_69
  let c512_i32 : BitVec 32 := 512#32
  let v191 : BitVec 32 := Scalar.muli v190 c512_i32
  let v192 : BitVec 32 := v191
  let v193 : Index := Scalar.indexCast v192
  let c0_71 : Index := 0#32
  ![0, v193.toNat, 0]
def k0_cond2 (k0_t1 : Fin k0_t1_loop.trips) : BitVec 1 :=
  let c0_i32_15 : BitVec 32 := 0#32
  let c1_i32_16 : BitVec 32 := 1#32
  let arg8 : BitVec 32 := Scf.iv c0_i32_15 c1_i32_16 k0_t1
  let c2_i32_52 : BitVec 32 := 2#32
  let c0_i32_53 : BitVec 32 := 0#32
  let v146 : BitVec 1 := Scalar.cmpi .eq c2_i32_52 c0_i32_53
  let c1_i32_54 : BitVec 32 := 1#32
  let v147 : BitVec 32 := Scalar.select v146 c1_i32_54 c2_i32_52
  let v148 : BitVec 32 := Scalar.remsi arg8 v147
  let c0_i32_56 : BitVec 32 := 0#32
  let v150 : BitVec 1 := Scalar.cmpi .slt v148 c0_i32_56
  let c0_i32_57 : BitVec 32 := 0#32
  let v151 : BitVec 1 := Scalar.cmpi .slt v147 c0_i32_57
  let v152 : BitVec 1 := Scalar.xori v150 v151
  let c0_i32_55 : BitVec 32 := 0#32
  let v149 : BitVec 1 := Scalar.cmpi .ne v148 c0_i32_55
  let v153 : BitVec 1 := Scalar.andi v152 v149
  let v154 : BitVec 32 := Scalar.addi v148 v147
  let v155 : BitVec 32 := Scalar.select v153 v154 v148
  let c0_i32_58 : BitVec 32 := 0#32
  let v156 : BitVec 1 := Scalar.cmpi .eq v155 c0_i32_58
  let v157 : BitVec 32 := Scalar.extui v156
  let c0_i32_59 : BitVec 32 := 0#32
  let v158 : BitVec 1 := Scalar.cmpi .ne v157 c0_i32_59
  v158

def k0_mult7 (k0_t1 : Fin k0_t1_loop.trips) : BitVec 32 :=
  let c0_i32_15 : BitVec 32 := 0#32
  let c1_i32_16 : BitVec 32 := 1#32
  let arg8 : BitVec 32 := Scf.iv c0_i32_15 c1_i32_16 k0_t1
  let c256_i32_69 : BitVec 32 := 256#32
  let v190 : BitVec 32 := Scalar.muli arg8 c256_i32_69
  v190
def k0_off7 (k0_t1 : Fin k0_t1_loop.trips) : Fin 3 → Nat :=
  let c0_71 : Index := 0#32
  let c0_i32_15 : BitVec 32 := 0#32
  let c1_i32_16 : BitVec 32 := 1#32
  let arg8 : BitVec 32 := Scf.iv c0_i32_15 c1_i32_16 k0_t1
  let c256_i32_69 : BitVec 32 := 256#32
  let v190 : BitVec 32 := Scalar.muli arg8 c256_i32_69
  let v194 : BitVec 32 := v190
  let v195 : Index := Scalar.indexCast v194
  let c0_72 : Index := 0#32
  ![0, v195.toNat, 0]
def k0_mult8 (k0_t1 : Fin k0_t1_loop.trips) : BitVec 32 :=
  let c0_i32_15 : BitVec 32 := 0#32
  let c1_i32_16 : BitVec 32 := 1#32
  let arg8 : BitVec 32 := Scf.iv c0_i32_15 c1_i32_16 k0_t1
  let c1_i32_69 : BitVec 32 := 1#32
  let v190 : BitVec 32 := Scalar.subi arg8 c1_i32_69
  let c256_i32_70 : BitVec 32 := 256#32
  let v191 : BitVec 32 := Scalar.muli v190 c256_i32_70
  v191
def k0_off8 (k0_t1 : Fin k0_t1_loop.trips) : Fin 3 → Nat :=
  let c0_71 : Index := 0#32
  let c0_i32_15 : BitVec 32 := 0#32
  let c1_i32_16 : BitVec 32 := 1#32
  let arg8 : BitVec 32 := Scf.iv c0_i32_15 c1_i32_16 k0_t1
  let c1_i32_69 : BitVec 32 := 1#32
  let v190 : BitVec 32 := Scalar.subi arg8 c1_i32_69
  let c256_i32_70 : BitVec 32 := 256#32
  let v191 : BitVec 32 := Scalar.muli v190 c256_i32_70
  let v194 : BitVec 32 := v191
  let v195 : Index := Scalar.indexCast v194
  let c0_72 : Index := 0#32
  ![0, v195.toNat, 0]
def k0_mult9 (k0_t1 : Fin k0_t1_loop.trips) : BitVec 32 :=
  let c0_i32_15 : BitVec 32 := 0#32
  let c1_i32_16 : BitVec 32 := 1#32
  let arg8 : BitVec 32 := Scf.iv c0_i32_15 c1_i32_16 k0_t1
  let c256_i32_66 : BitVec 32 := 256#32
  let v184 : BitVec 32 := Scalar.muli arg8 c256_i32_66
  v184
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x4096x4x2x64 : Shape := ⟨5, ![8, 4096, 4, 2, 64]⟩
abbrev S8x4096x4x128 : Shape := ⟨4, ![8, 4096, 4, 128]⟩
abbrev S8x4x2x4096x4096 : Shape := ⟨5, ![8, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096x4x2x64, .f32⟩
  | .hbm, ⟨24, _⟩ => ⟨S8x4096x4x2x64, .f32⟩
  | .hbm, ⟨25, _⟩ => ⟨S8x4096x4x128, .f32⟩
  | .hbm, ⟨26, _⟩ => ⟨S8x4x2x4096x4096, .f32⟩
  | .hbm, ⟨27, _⟩ => ⟨S_, .f32⟩
  | .hbm, ⟨28, _⟩ => ⟨S8x4x2x4096x4096, .f32⟩
  | .hbm, ⟨29, _⟩ => ⟨S8x4x2x4096x4096, .f32⟩
  | .hbm, ⟨30, _⟩ => ⟨S4096, .i32⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S1x4096, .i32⟩
  | .hbm, ⟨50, _⟩ => ⟨S4096x1, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S_, .f32⟩
  | .hbm, ⟨55, _⟩ => ⟨S_, .f32⟩
  | .hbm, ⟨56, _⟩ => ⟨S8x4x2x4096x4096, .i1⟩
  | .hbm, ⟨57, _⟩ => ⟨S8x4x2x4096x4096, .f32⟩
  | .hbm, ⟨58, _⟩ => ⟨S8x4x2x4096x4096, .f32⟩
  | .hbm, ⟨59, _⟩ => ⟨S_, .f32⟩
  | .hbm, ⟨60, _⟩ => ⟨S8x4x2x4096, .f32⟩
  | .hbm, ⟨61, _⟩ => ⟨S_, .f32⟩
  | .hbm, ⟨62, _⟩ => ⟨S8x4x2x4096, .f32⟩
  | .hbm, ⟨63, _⟩ => ⟨S8x4x2x4096, .f32⟩
  | .hbm, ⟨64, _⟩ => ⟨S8x4x2x4096x1, .f32⟩
  | .hbm, ⟨65, _⟩ => ⟨S8x4x2x4096x4096, .f32⟩
  | .hbm, ⟨66, _⟩ => ⟨S8x4x2x4096x4096, .f32⟩
  | .hbm, ⟨67, _⟩ => ⟨S8x4x2x4096x4096, .f32⟩
  | .hbm, ⟨68, _⟩ => ⟨S_, .f32⟩
  | .hbm, ⟨69, _⟩ => ⟨S8x4x2x4096, .f32⟩
  | .hbm, ⟨70, _⟩ => ⟨S8x4x2x4096x1, .f32⟩
  | .hbm, ⟨71, _⟩ => ⟨S8x4x2x4096x4096, .f32⟩
  | .hbm, ⟨72, _⟩ => ⟨S8x4x2x4096x4096, .f32⟩
  | .hbm, ⟨73, _⟩ => ⟨S8x4x1x4096x4096, .f32⟩
  | .hbm, ⟨74, _⟩ => ⟨S8x4x4096x4096, .f32⟩
  | .hbm, ⟨75, _⟩ => ⟨S8x4x1x4096x4096, .f32⟩
  | .hbm, ⟨76, _⟩ => ⟨S8x4x4096x4096, .f32⟩
  | .hbm, ⟨77, _⟩ => ⟨S8x4x4096x4096, .f32⟩
  | .hbm, ⟨78, _⟩ => ⟨S8x4x4096x4096, .f32⟩
  | .hbm, ⟨79, _⟩ => ⟨S8x4x4096x4096, .f32⟩
  | .hbm, ⟨80, _⟩ => ⟨S8x4x128x4096, .f32⟩
  | .hbm, ⟨81, _⟩ => ⟨S8x4096x4x128, .f32⟩
  | .hbm, ⟨82, _⟩ => ⟨S8x4096x4x128, .f32⟩
  | .hbm, ⟨83, _⟩ => ⟨S_, .f32⟩
  | .hbm, ⟨84, _⟩ => ⟨S8x4096x4, .f32⟩
  | .hbm, ⟨85, _⟩ => ⟨S8x4096x4x1, .f32⟩
  | .hbm, ⟨86, _⟩ => ⟨S_, .f32⟩
  | .hbm, ⟨87, _⟩ => ⟨S8x4096x4x1, .f32⟩
  | .hbm, ⟨88, _⟩ => ⟨S8x4096x4x1, .f32⟩
  | .hbm, ⟨89, _⟩ => ⟨S_, .f32⟩
  | .hbm, ⟨90, _⟩ => ⟨S8x4096x4x1, .f32⟩
  | .hbm, ⟨91, _⟩ => ⟨S8x4096x4x1, .f32⟩
  | .hbm, ⟨92, _⟩ => ⟨S8x4096x4x1, .f32⟩
  | .hbm, ⟨93, _⟩ => ⟨S8x4096x4x128, .f32⟩
  | .hbm, ⟨94, _⟩ => ⟨S8x4096x4x128, .f32⟩
  | .hbm, ⟨95, _⟩ => ⟨S128, .f32⟩
  | .hbm, ⟨96, _⟩ => ⟨S1x1x1x128, .f32⟩
  | .hbm, ⟨97, _⟩ => ⟨S8x4096x4x128, .f32⟩
  | .hbm, ⟨98, _⟩ => ⟨S8x4096x4x128, .f32⟩
  | .hbm, ⟨99, _⟩ => ⟨S_, .f32⟩
  | .hbm, ⟨100, _⟩ => ⟨S8x4096x4x128, .f32⟩
  | .hbm, ⟨101, _⟩ => ⟨S8x4096x4x128, .f32⟩
  | .hbm, ⟨102, _⟩ => ⟨S8x4096x512, .f32⟩
  | .hbm, ⟨103, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_cst_8 : Ref sig .tc := ⟨.hbm, 86, rfl⟩
abbrev main_v49 : Ref sig .tc := ⟨.hbm, 87, rfl⟩
abbrev main_v50 : Ref sig .tc := ⟨.hbm, 88, rfl⟩
abbrev main_cst_9 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_10 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩

abbrev nD : Nat := 1
abbrev τ : Topo := Topo.v7x

variable {F : FTy → Type} [FloatOps F]
-- ==== Project.lean ====
abbrev S8x4096x1024 : Shape := ⟨3, ![8, 4096, 1024]⟩
abbrev S1x1024x2048 : Shape := ⟨3, ![1, 1024, 2048]⟩
abbrev S1024x2048 : Shape := ⟨2, ![1024, 2048]⟩
abbrev S8x4096x512 : Shape := ⟨3, ![8, 4096, 512]⟩
abbrev S1x512x1024 : Shape := ⟨3, ![1, 512, 1024]⟩
abbrev S1x512x512 : Shape := ⟨3, ![1, 512, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2048, .f32⟩
  | .hbm, ⟨2, _⟩ => ⟨S1024x2048, .f32⟩
  | .hbm, ⟨3, _⟩ => ⟨S1024x2048, .bf16⟩
  | .hbm, ⟨4, _⟩ => ⟨S8x4096x512, .bf16⟩
  | .hbm, ⟨5, _⟩ => ⟨S8x4096x512, .bf16⟩
  | .hbm, ⟨6, _⟩ => ⟨S8x4096x512, .bf16⟩
  | .hbm, ⟨7, _⟩ => ⟨S8x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .f32⟩
  | .local _ .vmem, ⟨10, _⟩ => ⟨S1x512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjectIdeal.lean ====
variable {F : FTy → Type} [FloatOps F] [Named F]
def κ : String → Option EReal := fun
  | "q_scale" => some (((8 * (Real.log 2))⁻¹ : ℝ) : EReal)
  | _ => none
-- ==== ReferenceProjectIdeal.lean ====
abbrev S8x4096x1024 : Shape := ⟨3, ![8, 4096, 1024]⟩
abbrev S1x1024x2048 : Shape := ⟨3, ![1, 1024, 2048]⟩
abbrev S1024x2048 : Shape := ⟨2, ![1024, 2048]⟩
abbrev S8x4096x2048 : Shape := ⟨3, ![8, 4096, 2048]⟩
abbrev S8x4096x512 : Shape := ⟨3, ![8, 4096, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2048, .f32⟩
  | .hbm, ⟨2, _⟩ => ⟨S1024x2048, .f32⟩
  | .hbm, ⟨3, _⟩ => ⟨S8x4096x2048, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S8x4096x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x512, .f32⟩
  | .hbm, ⟨13, _⟩ => ⟨S8x4096x512, .f32⟩
  | .hbm, ⟨14, _⟩ => ⟨S8x4096x512, .bf16⟩
  | .hbm, ⟨15, _⟩ => ⟨S8x4096x512, .bf16⟩
  | .hbm, ⟨16, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Combine.lean ====
abbrev S8x4096x1024 : Shape := ⟨3, ![8, 4096, 1024]⟩
abbrev S65536x1024 : Shape := ⟨2, ![65536, 1024]⟩
abbrev S32768x2 : Shape := ⟨2, ![32768, 2]⟩
abbrev S1x1024 : Shape := ⟨2, ![1, 1024]⟩
abbrev S262144x128 : Shape := ⟨2, ![262144, 128]⟩
abbrev S_ : Shape := ⟨0, ![]⟩
abbrev S512x1024 : Shape := ⟨2, ![512, 1024]⟩
abbrev S66048x1024 : Shape := ⟨2, ![66048, 1024]⟩
abbrev S528384x128 : Shape := ⟨2, ![528384, 128]⟩
abbrev S32768x124 : Shape := ⟨2, ![32768, 124]⟩
abbrev S32768x128 : Shape := ⟨2, ![32768, 128]⟩
abbrev S1024 : Shape := ⟨1, ![1024]⟩
abbrev S32768x1024 : Shape := ⟨2, ![32768, 1024]⟩
abbrev S2048x128 : Shape := ⟨2, ![2048, 128]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩

abbrev nBuf : Space → Nat
  | .hbm => 21
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S65536x1024, .f32⟩
  | .hbm, ⟨2, _⟩ => ⟨S32768x2, .f32⟩
  | .hbm, ⟨3, _⟩ => ⟨S1x1024, .f32⟩
  | .hbm, ⟨4, _⟩ => ⟨S1x1024, .f32⟩
  | .hbm, ⟨5, _⟩ => ⟨S262144x128, .f32⟩
  | .hbm, ⟨6, _⟩ => ⟨S_, .f32⟩
  | .hbm, ⟨7, _⟩ => ⟨S512x1024, .f32⟩
  | .hbm, ⟨8, _⟩ => ⟨S66048x1024, .f32⟩
  | .hbm, ⟨9, _⟩ => ⟨S528384x128, .f32⟩
  | .hbm, ⟨10, _⟩ => ⟨S_, .f32⟩
  | .hbm, ⟨11, _⟩ => ⟨S32768x2, .f32⟩
  | .hbm, ⟨12, _⟩ => ⟨S_, .f32⟩
  | .hbm, ⟨13, _⟩ => ⟨S32768x124, .f32⟩
  | .hbm, ⟨14, _⟩ => ⟨S32768x128, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S8x4096x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceCombineIdeal.lean ====
abbrev S8x4096x1024 : Shape := ⟨3, ![8, 4096, 1024]⟩
abbrev S65536x1024 : Shape := ⟨2, ![65536, 1024]⟩
abbrev S32768x2 : Shape := ⟨2, ![32768, 2]⟩
abbrev S1x1024 : Shape := ⟨2, ![1, 1024]⟩
abbrev S32768x1 : Shape := ⟨2, ![32768, 1]⟩
abbrev S32768x1024 : Shape := ⟨2, ![32768, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S65536x1024, .f32⟩
  | .hbm, ⟨2, _⟩ => ⟨S32768x2, .f32⟩
  | .hbm, ⟨3, _⟩ => ⟨S1x1024, .f32⟩
  | .hbm, ⟨4, _⟩ => ⟨S1x1024, .f32⟩
  | .hbm, ⟨5, _⟩ => ⟨S32768x1, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Output.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x56 : Shape := ⟨2, ![1024, 56]⟩
abbrev S1024x128 : Shape := ⟨2, ![1024, 128]⟩
abbrev S1024x1024 : Shape := ⟨2, ![1024, 1024]⟩
abbrev S1024 : Shape := ⟨1, ![1024]⟩
abbrev S262144x128 : Shape := ⟨2, ![262144, 128]⟩
abbrev S8x4096x128 : Shape := ⟨3, ![8, 4096, 128]⟩
abbrev S1x512x512 : Shape := ⟨3, ![1, 512, 512]⟩
abbrev S1x512x1024 : Shape := ⟨3, ![1, 512, 1024]⟩
abbrev S4096x128 : Shape := ⟨2, ![4096, 128]⟩
abbrev S1x512x128 : Shape := ⟨3, ![1, 512, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 29
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4, .f32⟩
  | .hbm, ⟨7, _⟩ => ⟨S1x1024x32, .f32⟩
  | .hbm, ⟨8, _⟩ => ⟨S1024x4, .f32⟩
  | .hbm, ⟨9, _⟩ => ⟨S1024x32, .f32⟩
  | .hbm, ⟨10, _⟩ => ⟨S1024x36, .f32⟩
  | .hbm, ⟨11, _⟩ => ⟨S1024x36, .bf16⟩
  | .hbm, ⟨12, _⟩ => ⟨S1024x36, .f32⟩
  | .hbm, ⟨13, _⟩ => ⟨S1024x36, .f32⟩
  | .hbm, ⟨14, _⟩ => ⟨S1024x36, .bf16⟩
  | .hbm, ⟨15, _⟩ => ⟨S_, .bf16⟩
  | .hbm, ⟨16, _⟩ => ⟨S1024x56, .bf16⟩
  | .hbm, ⟨17, _⟩ => ⟨S1024x128, .bf16⟩
  | .hbm, ⟨18, _⟩ => ⟨S8x4096x512, .bf16⟩
  | .hbm, ⟨19, _⟩ => ⟨S8x4096x512, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S262144x128, .f32⟩
  | .hbm, ⟨27, _⟩ => ⟨S8x4096x128, .f32⟩
  | .hbm, ⟨28, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x128, .bf16⟩
  | .local _ .vmem, ⟨10, _⟩ => ⟨S4096x128, .f32⟩
  | .local _ .vmem, ⟨11, _⟩ => ⟨S4096x128, .f32⟩
  | .local _ .vmem, ⟨12, _⟩ => ⟨S1x512x128, .f32⟩
  | .local _ .vmem, ⟨13, _⟩ => ⟨S1x512x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceOutputIdeal.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4, .f32⟩
  | .hbm, ⟨7, _⟩ => ⟨S1x1024x32, .f32⟩
  | .hbm, ⟨8, _⟩ => ⟨S8x4096x1024, .f32⟩
  | .hbm, ⟨9, _⟩ => ⟨S1024x1024, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Router.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x56 : Shape := ⟨2, ![1024, 56]⟩
abbrev S1024x128 : Shape := ⟨2, ![1024, 128]⟩
abbrev S1024x1024 : Shape := ⟨2, ![1024, 1024]⟩
abbrev S1024 : Shape := ⟨1, ![1024]⟩
abbrev S262144x128 : Shape := ⟨2, ![262144, 128]⟩
abbrev S8x4096x128 : Shape := ⟨3, ![8, 4096, 128]⟩
abbrev S1x512x512 : Shape := ⟨3, ![1, 512, 512]⟩
abbrev S1x512x1024 : Shape := ⟨3, ![1, 512, 1024]⟩
abbrev S4096x128 : Shape := ⟨2, ![4096, 128]⟩
abbrev S1x512x128 : Shape := ⟨3, ![1, 512, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S32768x128 : Shape := ⟨2, ![32768, 128]⟩
abbrev S32768x2 : Shape := ⟨2, ![32768, 2]⟩

abbrev nBuf : Space → Nat
  | .hbm => 31
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4, .f32⟩
  | .hbm, ⟨7, _⟩ => ⟨S1x1024x32, .f32⟩
  | .hbm, ⟨8, _⟩ => ⟨S1024x4, .f32⟩
  | .hbm, ⟨9, _⟩ => ⟨S1024x32, .f32⟩
  | .hbm, ⟨10, _⟩ => ⟨S1024x36, .f32⟩
  | .hbm, ⟨11, _⟩ => ⟨S1024x36, .bf16⟩
  | .hbm, ⟨12, _⟩ => ⟨S1024x36, .f32⟩
  | .hbm, ⟨13, _⟩ => ⟨S1024x36, .f32⟩
  | .hbm, ⟨14, _⟩ => ⟨S1024x36, .bf16⟩
  | .hbm, ⟨15, _⟩ => ⟨S_, .bf16⟩
  | .hbm, ⟨16, _⟩ => ⟨S1024x56, .bf16⟩
  | .hbm, ⟨17, _⟩ => ⟨S1024x128, .bf16⟩
  | .hbm, ⟨18, _⟩ => ⟨S8x4096x512, .bf16⟩
  | .hbm, ⟨19, _⟩ => ⟨S8x4096x512, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S262144x128, .f32⟩
  | .hbm, ⟨27, _⟩ => ⟨S8x4096x128, .f32⟩
  | .hbm, ⟨28, _⟩ => ⟨S32768x128, .f32⟩
  | .hbm, ⟨29, _⟩ => ⟨S32768x2, .f32⟩
  | .hbm, ⟨30, _⟩ => ⟨S32768x2, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x128, .bf16⟩
  | .local _ .vmem, ⟨10, _⟩ => ⟨S4096x128, .f32⟩
  | .local _ .vmem, ⟨11, _⟩ => ⟨S4096x128, .f32⟩
  | .local _ .vmem, ⟨12, _⟩ => ⟨S1x512x128, .f32⟩
  | .local _ .vmem, ⟨13, _⟩ => ⟨S1x512x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RouterIdeal.lean ====
variable {F : FTy → Type} [FloatOps F] [Named F]
def κ : String → Option EReal := fun
  | "mask" => some ⊥
  | _ => none
-- ==== ReferenceRouterIdeal.lean ====
abbrev S8x4096x512 : Shape := ⟨3, ![8, 4096, 512]⟩
abbrev S8x4096x1024 : Shape := ⟨3, ![8, 4096, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S32768x1024 : Shape := ⟨2, ![32768, 1024]⟩
abbrev S1024x4 : Shape := ⟨2, ![1024, 4]⟩
abbrev S32768x4 : Shape := ⟨2, ![32768, 4]⟩
abbrev S32768 : Shape := ⟨1, ![32768]⟩
abbrev S32768x1 : Shape := ⟨2, ![32768, 1]⟩
abbrev S1024x32 : Shape := ⟨2, ![1024, 32]⟩
abbrev S32768x32 : Shape := ⟨2, ![32768, 32]⟩
abbrev S32768x4x8 : Shape := ⟨3, ![32768, 4, 8]⟩
abbrev S4 : Shape := ⟨1, ![4]⟩
abbrev S1x4 : Shape := ⟨2, ![1, 4]⟩
abbrev S32768x4x1 : Shape := ⟨3, ![32768, 4, 1]⟩
abbrev S32768x8 : Shape := ⟨2, ![32768, 8]⟩
abbrev S32768x2 : Shape := ⟨2, ![32768, 2]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4, .f32⟩
  | .hbm, ⟨7, _⟩ => ⟨S1x1024x32, .f32⟩
  | .hbm, ⟨8, _⟩ => ⟨S8x4096x1024, .f32⟩
  | .hbm, ⟨9, _⟩ => ⟨S1024x1024, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S32768x1024, .f32⟩
  | .hbm, ⟨47, _⟩ => ⟨S1024x4, .f32⟩
  | .hbm, ⟨48, _⟩ => ⟨S32768x4, .f32⟩
  | .hbm, ⟨49, _⟩ => ⟨S_, .f32⟩
  | .hbm, ⟨50, _⟩ => ⟨S32768, .f32⟩
  | .hbm, ⟨51, _⟩ => ⟨S_, .f32⟩
  | .hbm, ⟨52, _⟩ => ⟨S32768, .f32⟩
  | .hbm, ⟨53, _⟩ => ⟨S32768, .f32⟩
  | .hbm, ⟨54, _⟩ => ⟨S32768x1, .f32⟩
  | .hbm, ⟨55, _⟩ => ⟨S32768x4, .f32⟩
  | .hbm, ⟨56, _⟩ => ⟨S32768x4, .f32⟩
  | .hbm, ⟨57, _⟩ => ⟨S32768x4, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S32768x4, .f32⟩
  | .hbm, ⟨62, _⟩ => ⟨S32768x4, .f32⟩
  | .hbm, ⟨63, _⟩ => ⟨S32768x1, .f32⟩
  | .hbm, ⟨64, _⟩ => ⟨S32768x1, .i32⟩
  | .hbm, ⟨65, _⟩ => ⟨S1024x32, .f32⟩
  | .hbm, ⟨66, _⟩ => ⟨S32768x32, .f32⟩
  | .hbm, ⟨67, _⟩ => ⟨S32768x4x8, .f32⟩
  | .hbm, ⟨68, _⟩ => ⟨S4, .i32⟩
  | .hbm, ⟨69, _⟩ => ⟨S1x4, .i32⟩
  | .hbm, ⟨70, _⟩ => ⟨S32768x4, .i32⟩
  | .hbm, ⟨71, _⟩ => ⟨S32768x4, .i32⟩
  | .hbm, ⟨72, _⟩ => ⟨S32768x4, .i1⟩
  | .hbm, ⟨73, _⟩ => ⟨S32768x4x1, .i1⟩
  | .hbm, ⟨74, _⟩ => ⟨S_, .f32⟩
  | .hbm, ⟨75, _⟩ => ⟨S_, .f32⟩
  | .hbm, ⟨76, _⟩ => ⟨S32768x4x8, .i1⟩
  | .hbm, ⟨77, _⟩ => ⟨S32768x4x8, .f32⟩
  | .hbm, ⟨78, _⟩ => ⟨S32768x4x8, .f32⟩
  | .hbm, ⟨79, _⟩ => ⟨S_, .f32⟩
  | .hbm, ⟨80, _⟩ => ⟨S32768x8, .f32⟩
  | .hbm, ⟨81, _⟩ => ⟨S_, .f32⟩
  | .hbm, ⟨82, _⟩ => ⟨S32768, .f32⟩
  | .hbm, ⟨83, _⟩ => ⟨S_, .f32⟩
  | .hbm, ⟨84, _⟩ => ⟨S32768, .f32⟩
  | .hbm, ⟨85, _⟩ => ⟨S32768, .f32⟩
  | .hbm, ⟨86, _⟩ => ⟨S32768x1, .f32⟩
  | .hbm, ⟨87, _⟩ => ⟨S32768x8, .f32⟩
  | .hbm, ⟨88, _⟩ => ⟨S32768x8, .f32⟩
  | .hbm, ⟨89, _⟩ => ⟨S32768x8, .f32⟩
  | .hbm, ⟨90, _⟩ => ⟨S_, .f32⟩
  | .hbm, ⟨91, _⟩ => ⟨S32768, .f32⟩
  | .hbm, ⟨92, _⟩ => ⟨S32768x1, .f32⟩
  | .hbm, ⟨93, _⟩ => ⟨S32768x8, .f32⟩
  | .hbm, ⟨94, _⟩ => ⟨S32768x8, .f32⟩
  | .hbm, ⟨95, _⟩ => ⟨S32768x2, .f32⟩
  | .hbm, ⟨96, _⟩ => ⟨S32768x2, .i32⟩
  | .hbm, ⟨97, _⟩ => ⟨S_, .f32⟩
  | .hbm, ⟨98, _⟩ => ⟨S32768, .f32⟩
  | .hbm, ⟨99, _⟩ => ⟨S32768x1, .f32⟩
  | .hbm, ⟨100, _⟩ => ⟨S32768x2, .f32⟩
  | .hbm, ⟨101, _⟩ => ⟨S32768x2, .f32⟩
  | .hbm, ⟨102, _⟩ => ⟨S_, .i32⟩
  | .hbm, ⟨103, _⟩ => ⟨S32768x1, .i32⟩
  | .hbm, ⟨104, _⟩ => ⟨S32768x1, .i32⟩
  | .hbm, ⟨105, _⟩ => ⟨S32768x2, .i32⟩
  | .hbm, ⟨106, _⟩ => ⟨S32768x2, .i32⟩
  | .hbm, ⟨107, _⟩ => ⟨S32768x2, .f32⟩
  | .hbm, ⟨108, _⟩ => ⟨S32768x2, .f32⟩
  | .hbm, ⟨109, _⟩ => ⟨S32768x2, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_values : Ref sig .tc := ⟨.hbm, 63, rfl⟩
abbrev main_indices : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_values_13 : Ref sig .tc := ⟨.hbm, 95, rfl⟩
abbrev main_indices_14 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Proof.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev 𝒱₀ : Variants := Variants.none
local notation "𝕄" => MT nD τ sig Unit (Elt F) ℕ (UR sig nD τ) ℕ

section Trip
variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole)
  (v16 : FVec F S1x1 .f32) (v17 : IVec S256x128 32) (v24 : IVec S512x512 32) (v26 : IVec S512x512 32) (v40 : IVec S512x512 1) (v44 : IVec S512x512 1)
  (X3 : BufTy.Contents (Elt F) arg3.view.ty) (X4 : BufTy.Contents (Elt F) arg4.view.ty) (X5 : BufTy.Contents (Elt F) arg5.view.ty) (X6 : BufTy.Contents (Elt F) arg6.view.ty)
  (x3 : Vec F S1x128 .f32) (x4 x5 x6 : Vec F S1x4096x128 .bf16)

/-- The buffers one q-tile touches: the weight row, q, k and v at their contents, the output buffer at `fo`. -/
abbrev Res (fo : BufTy.Contents (Elt F) arg7.view.ty) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} fo))

/-- What one row tile carries from block to block: the running maxima, sums and weighted sums. -/
abbrev St (F : FTy → Type) : Type := FVec F S512x1 .f32 × FVec F S512x1 .f32 × FVec F S512x128 .f32

/-- One trip of the inner loop on its two key and value blocks. -/
def pairStep (qq : FVec F S512x128 .bf16) (kA vA kB vB : Vec F S1x512x128 .bf16) (s : St F) : St F :=
  (k0_pay37 (k0_pay16 qq s.1 kA) (k0_pay23 qq kB),
   k0_pay40 (k0_pay16 qq s.1 kA) (k0_pay19 qq s.1 s.2.1 kA) (k0_pay22 qq kB) (k0_pay23 qq kB),
   k0_pay41 (k0_pay16 qq s.1 kA) (k0_pay20 qq s.1 s.2.2 kA vA) (k0_pay21 vB) (k0_pay22 qq kB) (k0_pay23 qq kB))

/-- The first block's rows of trip `t`. -/
abbrev rdA (x : Vec F S1x4096x128 .bf16) (k : Fin k0_t1_loop.trips) (t : Fin (k0_t2_loop k).trips) : Vec F S1x512x128 .bf16 :=
  View.ld x (Rect.unit (s := S1x4096x128) (k0_off2 k t) S1x512x128.size (k0_off2_inb k t))
/-- The second block's. -/
abbrev rdB (x : Vec F S1x4096x128 .bf16) (k : Fin k0_t1_loop.trips) (t : Fin (k0_t2_loop k).trips) : Vec F S1x512x128 .bf16 :=
  View.ld x (Rect.unit (s := S1x4096x128) (k0_off3 k t) S1x512x128.size (k0_off3_inb k t))

/-- What the inner loop carries before its trip `n`. -/
def pairs (qq : FVec F S512x128 .bf16) (k : Fin k0_t1_loop.trips) (init : St F) : ℕ → St F
  | 0 => init
  | n + 1 => if h : n < (k0_t2_loop k).trips then
      pairStep qq (rdA x5 k ⟨n, h⟩) (rdA x6 k ⟨n, h⟩) (rdB x5 k ⟨n, h⟩) (rdB x6 k ⟨n, h⟩) (pairs qq k init n)
    else pairs qq k init n

theorem pairs_succ (qq : FVec F S512x128 .bf16) (k : Fin k0_t1_loop.trips) (init : St F) (t : Fin (k0_t2_loop k).trips) :
    pairs x5 x6 qq k init (t.val + 1)
      = pairStep qq (rdA x5 k t) (rdA x6 k t) (rdB x5 k t) (rdB x6 k t) (pairs x5 x6 qq k init t.val) := by
  rw [pairs, dif_pos t.isLt]

set_option warn.classDefReducibility false in
@[sl_loop] def loopInv_pairs (k : Fin k0_t1_loop.trips) (arg8 : BitVec 32) (v87 : FVec F S512x128 .bf16) (v88 : FVec F S512x1 .f32) (v89 : FVec F S512x1 .f32) (v90 : FVec F S512x128 .f32) (v107 : BitVec 32) (c2_i32_33 : BitVec 32) (v108 : BitVec 32) (v113 : BitVec 32) (c0_i32_36 : BitVec 32) (init : St F) :
    LoopInvTy_k0_t2 (F := F) Unit ℕ (UR sig nD τ) ℕ 𝒱₀ c none Set.univ i arg2 harg2 arg3 harg3 arg4 harg4 arg5 harg5 arg6 harg6 arg7 harg7 k arg8 v87 v88 v89 v90 v107 c2_i32_33 v108 v113 c0_i32_36 init where
  inv n acc := iprop((arg5.view.loc (c : Thread nD τ) ↦[arg5.view.set]{fullShare} X5) ∗ (arg6.view.loc (c : Thread nD τ) ↦[arg6.view.set]{fullShare} X6)
    ∗ ⌜acc = pairs (arg5.view.read (Elt F) X5) (arg6.view.read (Elt F) X6) v87 k init n⌝)
  step t acc := by
    iintro ⟨H5, H6, %h_acc⟩
    subst h_acc
    rw [pairs_succ]
    generalize pairs (arg5.view.read (Elt F) X5) (arg6.view.read (Elt F) X6) v87 k init t.val = s
    unfold k0_t2_body
    rw [k0_part1_eq_skeleton]
    unfold k0_part1_skel
    sl_exec
    sl_step
    isplitl [H5]; · iexact H5
    isplitl [H6]; · iexact H6
    ipureintro; rfl

/-- The single block left over when the number of whole blocks is odd. -/
def oddStep (k : Fin k0_t1_loop.trips) (qq : FVec F S512x128 .bf16) (s : St F) : St F :=
  if h1 : k0_cond1 k = 1#1 then
    (k0_pay48 qq s.1 (View.ld x5 (Rect.unit (s := S1x4096x128) (k0_off6 k) S1x512x128.size (k0_off6_inb k h1))),
     k0_pay51 qq s.1 s.2.1 (View.ld x5 (Rect.unit (s := S1x4096x128) (k0_off6 k) S1x512x128.size (k0_off6_inb k h1))),
     k0_pay52 qq s.1 s.2.2 (View.ld x5 (Rect.unit (s := S1x4096x128) (k0_off6 k) S1x512x128.size (k0_off6_inb k h1)))
       (View.ld x6 (Rect.unit (s := S1x4096x128) (k0_off6 k) S1x512x128.size (k0_off6_inb k h1))))
  else s

/-- The masked block on the diagonal: half a block for an even row tile, a whole one for an odd. -/
def diagStep (k : Fin k0_t1_loop.trips) (qq : FVec F S512x128 .bf16) (s : St F) : FVec F S512x1 .f32 × FVec F S512x128 .f32 :=
  if h2 : k0_cond2 k = 1#1 then
    (k0_pay6 v24 v26 v40 v44 qq s.1 s.2.1 (View.ld x5 (Rect.unit (s := S1x4096x128) (k0_off7 k) S1x256x128.size (k0_off7_inb k h2))),
     k0_pay7 v24 v26 v40 v44 qq s.1 s.2.2 (View.ld x5 (Rect.unit (s := S1x4096x128) (k0_off7 k) S1x256x128.size (k0_off7_inb k h2)))
       (View.ld x6 (Rect.unit (s := S1x4096x128) (k0_off7 k) S1x256x128.size (k0_off7_inb k h2))))
  else
    (k0_pay12 v24 v26 v40 v44 qq s.1 s.2.1 (View.ld x5 (Rect.unit (s := S1x4096x128) (k0_off8 k) S1x512x128.size (k0_off8_inb k h2))),
     k0_pay13 v24 v26 v40 v44 qq s.1 s.2.2 (View.ld x5 (Rect.unit (s := S1x4096x128) (k0_off8 k) S1x512x128.size (k0_off8_inb k h2)))
       (View.ld x6 (Rect.unit (s := S1x4096x128) (k0_off8 k) S1x512x128.size (k0_off8_inb k h2))))

/-- The two maps' queries of row tile `k`, one above the other. -/
def qTile (k : Fin k0_t1_loop.trips) : FVec F S512x128 .bf16 :=
  k0_pay33 v17 (View.ld x4 (Rect.unit (s := S1x4096x128) (k0_off1 k) S1x256x128.size (k0_off1_inb k)))

/-- What row tile `k` carries into its masked block. -/
def whole (k : Fin k0_t1_loop.trips) : St F :=
  oddStep x5 x6 k (qTile v17 x4 k) (pairs x5 x6 (qTile v17 x4 k) k (k0_pay34, k0_pay35, k0_pay36) (k0_t2_loop k).trips)

/-- What row tile `k` stores. -/
def tile (k : Fin k0_t1_loop.trips) : FVec F S1x256x128 .bf16 :=
  k0_pay14 v16 (diagStep v24 v26 v40 v44 x5 x6 k (qTile v17 x4 k) (whole v17 x4 x5 x6 k)).1
    (diagStep v24 v26 v40 v44 x5 x6 k (qTile v17 x4 k) (whole v17 x4 x5 x6 k)).2
    (View.ld x3 (Rect.unit (s := S1x128) ![0, 0] S1x128.size inb_S1x128_S1x128_0_0))

theorem trip (k : Fin k0_t1_loop.trips) (fo : BufTy.Contents (Elt F) arg7.view.ty) :
   Res (F := F) c arg3 arg4 arg5 arg6 arg7 X3 X4 X5 X6 fo
      ⊢ wp frame (wpE (defs₀ (F := F)) 𝒱₀ (c : Thread nD τ) none) Set.univ (k0_t1_body (F := F) i arg2 harg2 arg3 harg3 arg4 harg4 arg5 harg5 arg6 harg6 arg7 harg7 v16 v17 v24 v26 v40 v44 k ())
        (fun _ => Res (F := F) c arg3 arg4 arg5 arg6 arg7 X3 X4 X5 X6
          (arg7.view.writes (Elt F) fo [⟨Rect.unit (s := S1x4096x128) (k0_off1 k) S1x256x128.size (k0_off1_inb k),
            tile v16 v17 v24 v26 v40 v44 (arg3.view.read (Elt F) X3) (arg4.view.read (Elt F) X4) (arg5.view.read (Elt F) X5) (arg6.view.read (Elt F) X6) k⟩])) := by
  unfold tile whole
  generalize hP : pairs (arg5.view.read (Elt F) X5) (arg6.view.read (Elt F) X6) (qTile v17 (arg4.view.read (Elt F) X4) k) k (k0_pay34, k0_pay35, k0_pay36) (k0_t2_loop k).trips = P
  unfold qTile at hP ⊢
  unfold oddStep diagStep
  by_cases h1 : k0_cond1 k = 1#1 <;> by_cases h2 : k0_cond2 k = 1#1
  all_goals
    first | rw [dif_pos h1] | rw [dif_neg h1]
    first | rw [dif_pos h2] | rw [dif_neg h2]
    unfold k0_t1_body
    rw [k0_part3_eq_skeleton, k0_part4_eq_skeleton]
    unfold k0_part3_skel k0_part4_skel
    simp only [bind_assoc]
    iintro ⟨H3, H4, H5, H6, H7⟩
    sl_exec (disch := first | sl_exact h1 | sl_exact h2)
    sl_step
    subst hP
    isplitl [H3]; · iexact H3
    isplitl [H4]; · iexact H4
    isplitl [H5]; · iexact H5
    isplitl [H6]; · iexact H6
    iexact H7
end Trip
end Cert.Proof.KernelIdeal
end
-- ==== Proof.Body.lean ====
module

public import proofs.«01_k».proof.Proof.Trip
public import Idealize.ShloMosaic.Lib.Claim

@[expose] public section

set_option maxRecDepth 8192
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A known equation beside a resource may be assumed. -/
theorem sep_pure_elim {A Q : sProp 𝕄} {φ : Prop} (h : φ → A ⊢ Q) : iprop(A ∗ ⌜φ⌝) ⊢ Q := by
  iintro ⟨H, %hφ⟩
  iapply (h hφ)
  iexact H

/-! ## The loop over the row tiles -/

section Tiles
variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole)
  (v16 : FVec F S1x1 .f32) (v17 : IVec S256x128 32) (v24 : IVec S512x512 32) (v26 : IVec S512x512 32) (v40 : IVec S512x512 1) (v44 : IVec S512x512 1)
  (X3 : BufTy.Contents (Elt F) arg3.view.ty) (X4 : BufTy.Contents (Elt F) arg4.view.ty) (X5 : BufTy.Contents (Elt F) arg5.view.ty) (X6 : BufTy.Contents (Elt F) arg6.view.ty)
  (fo : BufTy.Contents (Elt F) arg7.view.ty)
  (x2 : Vec F S4x64 .f32) (x3 : Vec F S1x128 .f32) (x4 x5 x6 : Vec F S1x4096x128 .bf16)

/-- Row tile `k`'s place in the block and what is stored there. -/
abbrev piece (k : Fin k0_t1_loop.trips) : View.Piece (Elt F) S1x4096x128 .bf16 :=
  ⟨Rect.unit (s := S1x4096x128) (k0_off1 k) S1x256x128.size (k0_off1_inb k), tile v16 v17 v24 v26 v40 v44 x3 x4 x5 x6 k⟩

/-- What the first `n` row tiles store, the last first. -/
def pieces : ℕ → List (View.Piece (Elt F) S1x4096x128 .bf16)
  | 0 => []
  | n + 1 => if h : n < k0_t1_loop.trips then piece v16 v17 v24 v26 v40 v44 x3 x4 x5 x6 ⟨n, h⟩ :: pieces n else pieces n

theorem pieces_succ (k : Fin k0_t1_loop.trips) :
    pieces v16 v17 v24 v26 v40 v44 x3 x4 x5 x6 (k.val + 1)
      = piece v16 v17 v24 v26 v40 v44 x3 x4 x5 x6 k :: pieces v16 v17 v24 v26 v40 v44 x3 x4 x5 x6 k.val := by
  rw [pieces, dif_pos k.isLt]

theorem mem_pieces (k : Fin k0_t1_loop.trips) (n : ℕ) (h : k.val < n) :
    piece v16 v17 v24 v26 v40 v44 x3 x4 x5 x6 k ∈ pieces v16 v17 v24 v26 v40 v44 x3 x4 x5 x6 n := by
  induction n with
  | zero => omega
  | succ n ih =>
    rw [pieces]
    by_cases hn : k.val = n
    · subst hn; rw [dif_pos k.isLt]; exact List.mem_cons_self
    · have := ih (by omega)
      split
      · exact List.mem_cons_of_mem _ this
      · exact this

theorem of_mem_pieces (n : ℕ) (p : View.Piece (Elt F) S1x4096x128 .bf16) (h : p ∈ pieces v16 v17 v24 v26 v40 v44 x3 x4 x5 x6 n) :
    ∃ k, p = piece v16 v17 v24 v26 v40 v44 x3 x4 x5 x6 k := by
  induction n with
  | zero => rw [pieces] at h; cases h
  | succ n ih =>
    rw [pieces] at h
    split at h
    · rcases List.mem_cons.mp h with h | h
      · exact ⟨_, h⟩
      · exact ih h
    · exact ih h

/-- The sixteen row tiles cover the block. -/
theorem cover_pieces (y : S1x4096x128.Idx) :
    ∃ p ∈ pieces v16 v17 v24 v26 v40 v44 x3 x4 x5 x6 k0_t1_loop.trips, y ∈ p.1.set := by
  have ht : k0_t1_loop.trips = 16 := by decide
  have h1 : (y 1).val < 4096 := (y 1).isLt
  refine ⟨_, mem_pieces v16 v17 v24 v26 v40 v44 x3 x4 x5 x6 ⟨(y 1).val / 256, by omega⟩ _ (by show (y 1).val / 256 < _; omega), ?_⟩
  rw [Rect.mem_set_unit]
  intro a
  rw [k0_off1_eq]
  have h0 : (y 0).val < 1 := (y 0).isLt
  have h2 : (y 2).val < 128 := (y 2).isLt
  fin_cases a
  · show 0 ≤ (y 0).val ∧ (y 0).val < 0 + 1; omega
  · show 256 * ((y 1).val / 256) ≤ (y 1).val ∧ (y 1).val < 256 * ((y 1).val / 256) + 256; omega
  · show 0 ≤ (y 2).val ∧ (y 2).val < 0 + 128; omega

/-- Before row tile `n`: the inputs, and the output buffer with the tiles before stored. -/
def tilesInv (n : ℕ) : sProp 𝕄 := iprop(∃ f, Res (F := F) c arg3 arg4 arg5 arg6 arg7 X3 X4 X5 X6 f
    ∗ ⌜f = arg7.view.writes (Elt F) fo (pieces v16 v17 v24 v26 v40 v44 (arg3.view.read (Elt F) X3) (arg4.view.read (Elt F) X4) (arg5.view.read (Elt F) X5) (arg6.view.read (Elt F) X6) n)⌝)

set_option warn.classDefReducibility false in
def loopInv_tiles :
    LoopInvTy_k0_t1 (F := F) Unit ℕ (UR sig nD τ) ℕ 𝒱₀ c none Set.univ i arg2 harg2 arg3 harg3 arg4 harg4 arg5 harg5 arg6 harg6 arg7 harg7 v16 v17 v24 v26 v40 v44 where
  inv n _ := tilesInv c arg3 arg4 arg5 arg6 arg7 v16 v17 v24 v26 v40 v44 X3 X4 X5 X6 fo n
  step k acc := by
    unfold tilesInv
    rw [pieces_succ]
    refine exists_elim fun f => ?_
    refine sep_pure_elim ?_
    rintro rfl
    refine (trip c i arg2 harg2 arg3 harg3 arg4 harg4 arg5 harg5 arg6 harg6 arg7 harg7 v16 v17 v24 v26 v40 v44 X3 X4 X5 X6 k _).trans (wp_mono _ _ _ fun _ => ?_)
    iintro H
    iexists _
    isplitl [H]; · iexact H
    ipureintro
    rw [← View.writes_append]; rfl

/-- The whole loop: it leaves the output buffer with every tile stored. -/
theorem tiles_loop (K : PUnit → sProp 𝕄) :
    iprop(Res (F := F) c arg3 arg4 arg5 arg6 arg7 X3 X4 X5 X6 fo
        ∗ (Res (F := F) c arg3 arg4 arg5 arg6 arg7 X3 X4 X5 X6
            (arg7.view.writes (Elt F) fo (pieces v16 v17 v24 v26 v40 v44 (arg3.view.read (Elt F) X3) (arg4.view.read (Elt F) X4) (arg5.view.read (Elt F) X5) (arg6.view.read (Elt F) X6) k0_t1_loop.trips)) -∗ K ⟨⟩))
      ⊢ wp frame (wpE (defs₀ (F := F)) 𝒱₀ (c : Thread nD τ) none) Set.univ
        (k0_t1_loop.for k0_t1_ok PUnit.unit (k0_t1_body (F := F) i arg2 harg2 arg3 harg3 arg4 harg4 arg5 harg5 arg6 harg6 arg7 harg7 v16 v17 v24 v26 v40 v44)
          >>= fun _ => Pure.pure PUnit.unit) K := by
  have h0 : Res (F := F) c arg3 arg4 arg5 arg6 arg7 X3 X4 X5 X6 fo ⊢ tilesInv c arg3 arg4 arg5 arg6 arg7 v16 v17 v24 v26 v40 v44 X3 X4 X5 X6 fo 0 := by
    unfold tilesInv
    iintro H
    iexists fo
    isplitl [H]; · iexact H
    ipureintro; rw [pieces, View.writes_nil]
  have hl : tilesInv c arg3 arg4 arg5 arg6 arg7 v16 v17 v24 v26 v40 v44 X3 X4 X5 X6 fo 0 ⊢ iprop((∀ _ : Unit, tilesInv c arg3 arg4 arg5 arg6 arg7 v16 v17 v24 v26 v40 v44 X3 X4 X5 X6 fo k0_t1_loop.trips -∗ wp frame (wpE (defs₀ (F := F)) 𝒱₀ (c : Thread nD τ) none) Set.univ (Pure.pure PUnit.unit) K)
      -∗ wp frame (wpE (defs₀ (F := F)) 𝒱₀ (c : Thread nD τ) none) Set.univ
        (k0_t1_loop.for k0_t1_ok PUnit.unit (k0_t1_body (F := F) i arg2 harg2 arg3 harg3 arg4 harg4 arg5 harg5 arg6 harg6 arg7 harg7 v16 v17 v24 v26 v40 v44)
          >>= fun _ => Pure.pure PUnit.unit) K) :=
    exec_loop _ _ _ _ _ _ k0_t1_ok _ _ (loopInv_tiles c i arg2 harg2 arg3 harg3 arg4 harg4 arg5 harg5 arg6 harg6 arg7 harg7 v16 v17 v24 v26 v40 v44 X3 X4 X5 X6 fo)
      (kk := fun _ => Pure.pure PUnit.unit) (Q := K)
  refine (sep_mono (h0.trans hl) .rfl).trans ?_
  unfold tilesInv
  · iintro ⟨H, Hk⟩
    iapply H
    iintro %_ ⟨%f, HR, %hf⟩
    subst hf
    sl_step
    iapply Hk
    iexact HR

/-- The block the body leaves, from the blocks it is given. -/
def outBlk : Vec F S1x4096x128 .bf16 :=
  View.canon (pieces (k0_pay53 (View.ld x2 (Rect.unit (s := S4x64) ![0, 0] S4x64.size inb_S4x64_S4x64_0_0))) (iota .tc S256x128 32 [1] iota_S256x128_d1_w32) k0_pay54 k0_pay55 k0_pay56 k0_pay57 x3 x4 x5 x6 k0_t1_loop.trips)

/-- The body on whole staging buffers. -/
theorem sound_kernel (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ (∃ d, owns (c : Thread nD τ) arg7 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (outBlk x2 x3 x4 x5 x6)) -∗ K ⟨⟩))
      ⊢ wp frame (wpE (defs₀ (F := F)) 𝒱₀ (c : Thread nD τ) none) Set.univ (cc0_diff_attn i arg2 harg2 arg3 harg3 arg4 harg4 arg5 harg5 arg6 harg6 arg7 harg7) K := by
  rw [cc0_diff_attn_eq_skeleton]
  unfold cc0_diff_attn_skel
  rw [k0_part5_eq_skeleton]
  unfold k0_part5_skel
  simp only [bind_assoc, pure_bind]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2 hf3 hf4 hf5 hf6
  sl_exec
  iapply (tiles_loop c i arg2 harg2 arg3 harg3 arg4 harg4 arg5 harg5 arg6 harg6 arg7 harg7 _ _ _ _ _ _ f3 f4 f5 f6 f7 K)
  isplitl [H3 H4 H5 H6 H7]
  · isplitl [H3]; · iexact H3
    isplitl [H4]; · iexact H4
    isplitl [H5]; · iexact H5
    isplitl [H6]; · iexact H6
    iexact H7
  iintro ⟨H3, H4, H5, H6, H7⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_pieces _ _ _ _ _ _ _ _ _ _)

end Tiles

/-! ## The launch -/

variable (m : (ℓ : Loc nD τ sig) → Buf (Elt F) ℓ) (ρ : Dev nD → PrngReg)

/-- The proof data: each input's buffer at its block, the output's at what the body computes from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlk (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every run ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged and every counter is zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.KernelIdeal
end
-- ==== Proof.Online.lean ====
/-
  The running softmax, as plain mathematics: a row of scores met in blocks, each block folded into a running
  maximum `m`, a running sum `l` of powers of two below that maximum, and a running weighted sum `a`. After the keys
  below `n` the pair `(l, a)` is the sum and the weighted sum of `2 ^ (t j - M)` over them, `M` the maximum so far,
  so the quotient `a / l` does not depend on `M`.
-/
module

public import Idealize.ShloMosaic.PureOps.Ideal.Laws
public import Mathlib.Analysis.SpecialFunctions.Pow.Real

@[expose] public section

noncomputable section

namespace Cert.Proof

open Idealize.ShloMosaic

/-- The running maximum after a block with scores `s`. -/
def stepM {W : ℕ} (m : EReal) (s : Fin W → EReal) : EReal := max m (Finset.univ.fold max ⊥ s)
/-- The running sum after that block. -/
def stepL {W : ℕ} (m l : EReal) (s : Fin W → EReal) : EReal :=
  Ideal.exp2 (m - stepM m s) * l + ∑ j, Ideal.exp2 (s j - stepM m s)
/-- The running weighted sum after that block. -/
def stepA {W : ℕ} (m a : EReal) (s v : Fin W → EReal) : EReal :=
  Ideal.exp2 (m - stepM m s) * a + ∑ j, Ideal.exp2 (s j - stepM m s) * v j

/-- What the running state holds after the keys below `n`. -/
def Inv (n : ℕ) (t v : ℕ → ℝ) (m l a : EReal) : Prop :=
  (n = 0 ∧ m = ⊥ ∧ l = 0 ∧ a = 0) ∨
    ∃ M : ℝ, m = (M : EReal) ∧ l = ((∑ j ∈ Finset.range n, (2 : ℝ) ^ (t j - M) : ℝ) : EReal)
      ∧ a = ((∑ j ∈ Finset.range n, (2 : ℝ) ^ (t j - M) * v j : ℝ) : EReal)

theorem exp2_sub (x y : ℝ) : Ideal.exp2 ((x : EReal) - (y : EReal)) = (((2 : ℝ) ^ (x - y) : ℝ) : EReal) := by
  rw [← EReal.coe_sub]; rfl

theorem exp2_bot_sub (y : ℝ) : Ideal.exp2 (⊥ - (y : EReal)) = 0 := by
  rw [EReal.bot_sub]; rfl

/-- A greatest element: the maximum of finitely many extended reals is below infinity when each is, and real when one is. -/
theorem fold_max_ne_top {W : ℕ} (s : Fin W → EReal) (h : ∀ j, s j ≠ ⊤) : Finset.univ.fold max ⊥ s ≠ ⊤ := by
  have : Finset.univ.fold max ⊥ s < ⊤ :=
    (Finset.fold_max_lt ⊤).2 ⟨bot_lt_top, fun j _ => lt_top_iff_ne_top.2 (h j)⟩
  exact this.ne

theorem le_fold_max {W : ℕ} (s : Fin W → EReal) (j : Fin W) : s j ≤ Finset.univ.fold max ⊥ s :=
  (Finset.le_fold_max (s j)).2 (.inr ⟨j, Finset.mem_univ j, le_rfl⟩)

theorem fold_max_real {W : ℕ} (s : Fin W → EReal) (h : ∀ j, s j ≠ ⊤) (j : Fin W) (hj : s j ≠ ⊥) :
    ∃ M : ℝ, Finset.univ.fold max ⊥ s = (M : EReal) := by
  have h1 := fold_max_ne_top s h
  have h2 : Finset.univ.fold max ⊥ s ≠ ⊥ := fun e => hj (le_bot_iff.1 (e ▸ le_fold_max s j))
  exact ⟨_, (EReal.coe_toReal h1 h2).symm⟩

/-- A sum over a block, the keys from `n'` on left out. -/
theorem sum_block (W o n' : ℕ) (ho : o ≤ n') (hW : n' ≤ o + W) (f : ℕ → ℝ) :
    ∑ j : Fin W, (if o + j.val < n' then f (o + j.val) else 0) = ∑ j ∈ Finset.Ico o n', f j := by
  rw [Fin.sum_univ_eq_sum_range (fun j => if o + j < n' then f (o + j) else 0) W, Finset.sum_Ico_eq_sum_range,
    ← Finset.sum_filter]
  refine Finset.sum_congr ?_ fun _ _ => rfl
  ext j
  simp only [Finset.mem_filter, Finset.mem_range]
  omega

theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- One block folded in: the keys `o, …, n' - 1` of a block of `W` keys from `o`. -/
theorem Inv.step {W : ℕ} {o n' : ℕ} {t v : ℕ → ℝ} {m l a : EReal} (h : Inv o t v m l a) (ho : o < n') (hW : n' ≤ o + W)
    (s w : Fin W → EReal) (hs : ∀ j, s j = if o + j.val < n' then (t (o + j.val) : EReal) else ⊥)
    (hw : ∀ j, w j = (v (o + j.val) : EReal)) :
    Inv n' t v (stepM m s) (stepL m l s) (stepA m a s w) := by
  have hst : ∀ j, s j ≠ ⊤ := fun j => by
    rw [hs]; split
    · exact EReal.coe_ne_top _
    · exact bot_ne_top
  obtain ⟨B, hB⟩ := fold_max_real s hst ⟨0, by omega⟩ (by
    rw [hs, if_pos (by simpa using ho)]; exact EReal.coe_ne_bot _)
  have hp : ∀ (N : ℝ) (j : Fin W), Ideal.exp2 (s j - (N : EReal))
      = ((if o + j.val < n' then (2 : ℝ) ^ (t (o + j.val) - N) else 0 : ℝ) : EReal) := fun N j => by
    rw [hs]; split
    · exact exp2_sub _ _
    · exact exp2_bot_sub _
  have hl : ∀ N : ℝ, ∑ j, Ideal.exp2 (s j - (N : EReal)) = ((∑ j ∈ Finset.Ico o n', (2 : ℝ) ^ (t j - N) : ℝ) : EReal) := fun N => by
    rw [← sum_block W o n' ho.le hW (fun j => (2 : ℝ) ^ (t j - N)), coe_sum]
    exact Finset.sum_congr rfl fun j _ => hp N j
  have ha : ∀ N : ℝ, ∑ j, Ideal.exp2 (s j - (N : EReal)) * w j
      = ((∑ j ∈ Finset.Ico o n', (2 : ℝ) ^ (t j - N) * v j : ℝ) : EReal) := fun N => by
    rw [← sum_block W o n' ho.le hW (fun j => (2 : ℝ) ^ (t j - N) * v j), coe_sum]
    refine Finset.sum_congr rfl fun j _ => ?_
    rw [hp N j, hw, ← EReal.coe_mul, ite_mul, zero_mul]
  have hsplit : ∀ f : ℕ → ℝ, ∑ j ∈ Finset.range n', f j = ∑ j ∈ Finset.range o, f j + ∑ j ∈ Finset.Ico o n', f j := fun f =>
    (Finset.sum_range_add_sum_Ico f ho.le).symm
  rcases h with ⟨rfl, rfl, rfl, rfl⟩ | ⟨M, rfl, rfl, rfl⟩
  · refine .inr ⟨B, ?_, ?_, ?_⟩
    · unfold stepM; rw [hB]; exact max_eq_right bot_le
    · unfold stepL stepM
      rw [hB, max_eq_right bot_le, hl, hsplit, mul_zero, zero_add, Finset.range_zero, Finset.sum_empty, zero_add]
    · unfold stepA stepM
      rw [hB, max_eq_right bot_le, ha, hsplit, mul_zero, zero_add, Finset.range_zero, Finset.sum_empty, zero_add]
  · have hM : stepM (M : EReal) s = ((max M B : ℝ) : EReal) := by
      unfold stepM; rw [hB]; exact (EReal.coe_strictMono.monotone.map_max).symm
    have hscale : ∀ f : ℕ → ℝ, (2 : ℝ) ^ (M - max M B) * ∑ j ∈ Finset.range o, (2 : ℝ) ^ (t j - M) * f j
        = ∑ j ∈ Finset.range o, (2 : ℝ) ^ (t j - max M B) * f j := fun f => by
      rw [Finset.mul_sum]
      refine Finset.sum_congr rfl fun j _ => ?_
      rw [← mul_assoc, ← Real.rpow_add two_pos]
      congr 2; ring
    refine .inr ⟨max M B, hM, ?_, ?_⟩
    · unfold stepL
      rw [hM, hl, exp2_sub, ← EReal.coe_mul, ← EReal.coe_add, hsplit]
      have := hscale fun _ => 1
      simp only [mul_one] at this
      rw [this]
    · unfold stepA
      rw [hM, ha, exp2_sub, ← EReal.coe_mul, ← EReal.coe_add, hsplit, hscale]

/-- The state nothing has been folded into. -/
theorem Inv.zero (t v : ℕ → ℝ) : Inv 0 t v ⊥ 0 0 := .inl ⟨rfl, rfl, rfl, rfl⟩

/-- The quotient of the two running sums, over scores in units of `log 2`: the exponentially weighted mean. -/
theorem Inv.div {n : ℕ} {t v σ : ℕ → ℝ} {m l a : EReal} (h : Inv n t v m l a) (hn : 0 < n)
    (ht : ∀ j, t j * Real.log 2 = σ j) :
    Ideal.div a l = (((∑ j ∈ Finset.range n, Real.exp (σ j) * v j) / ∑ j ∈ Finset.range n, Real.exp (σ j) : ℝ) : EReal) := by
  rcases h with ⟨rfl, _⟩ | ⟨M, _, rfl, rfl⟩
  · omega
  have he : ∀ j, (2 : ℝ) ^ (t j - M) = Real.exp (σ j) * (2 : ℝ) ^ (-M) := fun j => by
    rw [sub_eq_add_neg, Real.rpow_add two_pos, ← ht, mul_comm (t j), Real.exp_mul, Real.exp_log two_pos]
  have hp : 0 < ∑ j ∈ Finset.range n, Real.exp (σ j) :=
    Finset.sum_pos (fun j _ => Real.exp_pos _) ⟨0, Finset.mem_range.2 hn⟩
  have h2 : (0 : ℝ) < (2 : ℝ) ^ (-M) := Real.rpow_pos_of_pos two_pos _
  have hl : ∑ j ∈ Finset.range n, (2 : ℝ) ^ (t j - M) = (∑ j ∈ Finset.range n, Real.exp (σ j)) * (2 : ℝ) ^ (-M) := by
    rw [Finset.sum_mul]; exact Finset.sum_congr rfl fun j _ => he j
  have ha : ∑ j ∈ Finset.range n, (2 : ℝ) ^ (t j - M) * v j = (∑ j ∈ Finset.range n, Real.exp (σ j) * v j) * (2 : ℝ) ^ (-M) := by
    rw [Finset.sum_mul]; exact Finset.sum_congr rfl fun j _ => by rw [he]; ring
  rw [hl, ha, Ideal.div_coe (mul_pos hp h2).ne', ← EReal.coe_mul]
  congr 1
  field_simp

/-- The exponentially weighted mean of the values over the keys below `n`, for scores `σ`. -/
def mean (n : ℕ) (σ v : ℕ → ℝ) : ℝ :=
  (∑ j ∈ Finset.range n, Real.exp (σ j) * v j) / ∑ j ∈ Finset.range n, Real.exp (σ j)

/-- A row of the softmax over the keys below `n`, the rest masked with minus infinity: shifted by the row's maximum,
    exponentiated and divided by its sum. -/
theorem softmax_at {W n : ℕ} (hn : 0 < n) (hW : n ≤ W) (σ : ℕ → ℝ) (s : Fin W → EReal)
    (hs : ∀ j, s j = if j.val < n then (σ j.val : EReal) else ⊥) (j : Fin W) :
    Ideal.div (Ideal.exp (s j - max ⊥ (Finset.univ.fold max ⊥ s))) (∑ k, Ideal.exp (s k - max ⊥ (Finset.univ.fold max ⊥ s)))
      = ((if j.val < n then Real.exp (σ j.val) / ∑ k ∈ Finset.range n, Real.exp (σ k) else 0 : ℝ) : EReal) := by
  have hst : ∀ j, s j ≠ ⊤ := fun j => by
    rw [hs]; split
    · exact EReal.coe_ne_top _
    · exact bot_ne_top
  obtain ⟨M, hM⟩ := fold_max_real s hst ⟨0, by omega⟩ (by rw [hs, if_pos hn]; exact EReal.coe_ne_bot _)
  have hp : ∀ k, Ideal.exp (s k - max ⊥ (Finset.univ.fold max ⊥ s))
      = ((if k.val < n then Real.exp (σ k.val) * Real.exp (-M) else 0 : ℝ) : EReal) := fun k => by
    rw [hM, max_eq_right bot_le, hs]; split
    · rw [← EReal.coe_sub, Ideal.exp_coe, sub_eq_add_neg, Real.exp_add]
    · rw [EReal.bot_sub]; rfl
  have hsum : ∑ k, Ideal.exp (s k - max ⊥ (Finset.univ.fold max ⊥ s))
      = (((∑ k ∈ Finset.range n, Real.exp (σ k)) * Real.exp (-M) : ℝ) : EReal) := by
    rw [Finset.sum_congr rfl fun k _ => hp k, ← coe_sum]
    have := sum_block W 0 n (Nat.zero_le _) (by omega) (fun k => Real.exp (σ k) * Real.exp (-M))
    simp only [Nat.zero_add] at this
    rw [this, Finset.sum_mul, Finset.range_eq_Ico]
  have hpos : 0 < ∑ k ∈ Finset.range n, Real.exp (σ k) :=
    Finset.sum_pos (fun j _ => Real.exp_pos _) ⟨0, Finset.mem_range.2 hn⟩
  have hM0 := Real.exp_pos (-M)
  rw [hsum, hp, Ideal.div_coe (mul_pos hpos hM0).ne', ← EReal.coe_mul]
  congr 1
  split
  · field_simp
  · rw [zero_mul]

/-- The values weighted by the difference of two rows of softmax: the difference of the two means. -/
theorem weigh_diff {W n : ℕ} (hW : n ≤ W) (σ τ v : ℕ → ℝ) (lam : ℝ) :
    ∑ j : Fin W, ((v j.val : ℝ) : EReal)
        * (((if j.val < n then Real.exp (σ j.val) / ∑ k ∈ Finset.range n, Real.exp (σ k) else 0 : ℝ) : EReal)
          - (lam : EReal) * ((if j.val < n then Real.exp (τ j.val) / ∑ k ∈ Finset.range n, Real.exp (τ k) else 0 : ℝ) : EReal))
      = (mean n σ v : EReal) - (lam : EReal) * (mean n τ v : EReal) := by
  have h1 : ∀ ρ : ℕ → ℝ, mean n ρ v = ∑ j : Fin W, v j.val * (if j.val < n then Real.exp (ρ j.val) / ∑ k ∈ Finset.range n, Real.exp (ρ k) else 0) := fun ρ => by
    have := sum_block W 0 n (Nat.zero_le _) (by omega) (fun j => v j * (Real.exp (ρ j) / ∑ k ∈ Finset.range n, Real.exp (ρ k)))
    simp only [Nat.zero_add] at this
    unfold mean
    rw [Finset.sum_div, Finset.range_eq_Ico, ← Finset.range_eq_Ico, Finset.range_eq_Ico]
    rw [← Finset.range_eq_Ico] at this ⊢
    rw [show ∑ j ∈ Finset.range n, Real.exp (ρ j) * v j / ∑ k ∈ Finset.range n, Real.exp (ρ k)
      = ∑ j ∈ Finset.range n, v j * (Real.exp (ρ j) / ∑ k ∈ Finset.range n, Real.exp (ρ k)) from
        Finset.sum_congr rfl fun j _ => by ring, ← this]
    exact Finset.sum_congr rfl fun j _ => by rw [mul_ite, mul_zero]
  rw [← EReal.coe_mul, ← EReal.coe_sub, h1, h1, Finset.mul_sum, ← Finset.sum_sub_distrib, coe_sum]
  refine Finset.sum_congr rfl fun j _ => ?_
  rw [← EReal.coe_mul, ← EReal.coe_sub, ← EReal.coe_mul]
  congr 1
  ring

/-! ## The parts both programs compute alike -/

/-- The second map's weight, from the two dot products of the layer's parameters. -/
def lamOf (s1 s2 : EReal) : EReal := Ideal.exp s1 - Ideal.exp s2 + Ideal.ofBits .f32 0x3E4CCCCD#32

/-- A row of 128 outputs over its root mean square, times its weight `g` and the layer's fixed factor. -/
def normed (od : Fin 128 → EReal) (g : EReal) (e : Fin 128) : EReal :=
  od e * Ideal.rsqrt (Ideal.div (∑ x, od x * od x) (Ideal.ofBits .f32 0x43000000#32) + Ideal.ofBits .f32 0x3727C5AC#32)
    * g * Ideal.ofBits .f32 0x3F4CCCCD#32

end Cert.Proof

end
-- ==== Proof.Steps.lean ====
/-
  The body's vector operations read at a row: each of the five blocks that a row tile meets (two in a trip of the
  inner loop, one left over, one masked on the diagonal in two widths) is one step of the running softmax.
-/
module

public import proofs.«01_k».proof.Proof.Trip
public import proofs.«01_k».proof.Proof.Online
public import Idealize.ShloMosaic.Lib.Pointwise

@[expose] public section

set_option maxRecDepth 16384
set_option maxHeartbeats 1000000

noncomputable section

namespace Cert.Proof.KernelIdeal

open Cert.KernelIdeal Cert.KernelIdeal.Gen
open Idealize.ShloMosaic

/-- The scores of row `r` of the tile against the keys of a block. -/
def sc {W : ℕ} (qq : FVec Ideal S512x128 .bf16) (kb : Vec Ideal ⟨3, ![1, W, 128]⟩ .bf16) (r : Fin 512) (j : Fin W) : EReal :=
  ∑ e : Fin 128, qq (ix2 r e) * kb (ix3 0 j e)

/-- Column `e` of the values of a block. -/
def col {W : ℕ} (vb : Vec Ideal ⟨3, ![1, W, 128]⟩ .bf16) (e : Fin 128) (j : Fin W) : EReal := vb (ix3 0 j e)

variable (qq : FVec Ideal S512x128 .bf16) (m l : FVec Ideal S512x1 .f32) (a : FVec Ideal S512x128 .f32)
  (kA vA kB vB : Vec Ideal S1x512x128 .bf16) (r : Fin 512) (e : Fin 128)

theorem ofBits_neg_inf : Ideal.ofBits .f32 0xFF800000#32 = ⊥ := by
  simp [Ideal.ofBits, Ideal.ieee]

theorem mask_named : (Named.named κ "mask" 0xF149F2CA#32 : Ideal .f32) = (⊥ : EReal) := rfl

/-! ## The first block of a trip, and the block left over -/

theorem pay15_at (j : Fin 512) : k0_pay15 qq kA (ix2 r j) = sc qq kA r j := by
  pointwise [k0_pay15, sc]

theorem pay16_at : k0_pay16 qq m kA (ix2 r 0) = stepM (m (ix2 r 0)) (sc qq kA r) := by
  pointwise [k0_pay16, stepM, pay15_at]
  rw [ofBits_neg_inf]

theorem pay17_at (j : Fin 512) :
    k0_pay17 qq m kA (ix2 r j) = Ideal.exp2 (sc qq kA r j - stepM (m (ix2 r 0)) (sc qq kA r)) := by
  pointwise [k0_pay17, pay15_at, pay16_at]
  rfl

theorem pay18_at :
    k0_pay18 qq m kA (ix2 r 0) = Ideal.exp2 (m (ix2 r 0) - stepM (m (ix2 r 0)) (sc qq kA r)) := by
  pointwise [k0_pay18, pay16_at]
  rfl

theorem pay19_at : k0_pay19 qq m l kA (ix2 r 0) = stepL (m (ix2 r 0)) (l (ix2 r 0)) (sc qq kA r) := by
  pointwise [k0_pay19, pay17_at, pay18_at, stepL]

theorem pay20_at :
    k0_pay20 qq m a kA vA (ix2 r e) = stepA (m (ix2 r 0)) (a (ix2 r e)) (sc qq kA r) (col vA e) := by
  pointwise [k0_pay20, pay17_at, pay18_at, stepA, col]

theorem pay48_at : k0_pay48 qq m kA (ix2 r 0) = stepM (m (ix2 r 0)) (sc qq kA r) := pay16_at qq m kA r
theorem pay51_at : k0_pay51 qq m l kA (ix2 r 0) = stepL (m (ix2 r 0)) (l (ix2 r 0)) (sc qq kA r) := pay19_at qq m l kA r
theorem pay52_at : k0_pay52 qq m a kA vA (ix2 r e) = stepA (m (ix2 r 0)) (a (ix2 r e)) (sc qq kA r) (col vA e) :=
  pay20_at qq m a kA vA r e

/-! ## The second block of a trip -/

theorem pay37_eq : k0_pay37 m (k0_pay23 qq kB) = k0_pay16 qq m kB := rfl
theorem pay40_eq : k0_pay40 m l (k0_pay22 qq kB) (k0_pay23 qq kB) = k0_pay19 qq m l kB := rfl
theorem pay41_eq : k0_pay41 m a (k0_pay21 vB) (k0_pay22 qq kB) (k0_pay23 qq kB) = k0_pay20 qq m a kB vB := rfl

/-! ## The chunks of 64 keys -/

/-- The chunk of a column and the chunk of a row within its tile, as the body's floor divisions compute them. -/
theorem gap_at (j : Fin 512) :
    k0_pay1 k0_pay54 k0_pay55 k0_pay56 k0_pay57 (ix2 r j)
      = IntOp.subi (BitVec.ofNat 32 (j.val / 64)) (BitVec.ofNat 32 (r.val % 256 / 64)) := by
  pointwise [k0_pay1, k0_pay54, k0_pay55, k0_pay56, k0_pay57]
  congr 1
  · revert j; decide +kernel
  · revert r; decide +kernel

theorem gap_le (g : BitVec 32) (n : ℕ) (hg : g = 0#32 ∧ n = 0 ∨ g = 4#32 ∧ n = 4) (j : Fin 512) :
    IntOp.cmpi .sle (IntOp.subi (BitVec.ofNat 32 (j.val / 64)) (BitVec.ofNat 32 (r.val % 256 / 64))) g
      = if j.val / 64 ≤ r.val % 256 / 64 + n then 1#1 else 0#1 := by
  have hj : j.val / 64 < 8 := by omega
  have hr : r.val % 256 / 64 < 4 := by omega
  generalize j.val / 64 = x at *
  generalize r.val % 256 / 64 = y at *
  rcases hg with ⟨rfl, rfl⟩ | ⟨rfl, rfl⟩ <;> revert x y <;> decide +kernel

/-! ## The masked block, half a block wide -/

section Narrow
variable (kN vN : Vec Ideal S1x256x128 .bf16)

/-- The masked scores of a row: the keys of later chunks are below every score. -/
def scN (j : Fin 256) : EReal := if j.val / 64 ≤ r.val % 256 / 64 then sc qq kN r j else ⊥

theorem pay2_at (j : Fin 256) : k0_pay2 k0_pay54 k0_pay55 k0_pay56 k0_pay57 qq kN (ix2 r j) = scN qq r kN j := by
  pointwise [k0_pay2, gap_at]
  rw [gap_le r _ 0 (.inl ⟨rfl, rfl⟩) ⟨j.val, by omega⟩, mask_named]
  unfold scN sc Scalar.select
  by_cases h : j.val / 64 ≤ r.val % 256 / 64 <;> simp [h]

theorem pay3_at : k0_pay3 k0_pay54 k0_pay55 k0_pay56 k0_pay57 qq m kN (ix2 r 0) = stepM (m (ix2 r 0)) (scN qq r kN) := by
  pointwise [k0_pay3, stepM, pay2_at]
  rw [ofBits_neg_inf]

theorem pay4_at (j : Fin 256) : k0_pay4 k0_pay54 k0_pay55 k0_pay56 k0_pay57 qq m kN (ix2 r j)
    = Ideal.exp2 (scN qq r kN j - stepM (m (ix2 r 0)) (scN qq r kN)) := by
  pointwise [k0_pay4, pay2_at, pay3_at]
  rfl

theorem pay5_at : k0_pay5 k0_pay54 k0_pay55 k0_pay56 k0_pay57 qq m kN (ix2 r 0)
    = Ideal.exp2 (m (ix2 r 0) - stepM (m (ix2 r 0)) (scN qq r kN)) := by
  pointwise [k0_pay5, pay3_at]
  rfl

theorem pay6_at : k0_pay6 k0_pay54 k0_pay55 k0_pay56 k0_pay57 qq m l kN (ix2 r 0)
    = stepL (m (ix2 r 0)) (l (ix2 r 0)) (scN qq r kN) := by
  pointwise [k0_pay6, pay4_at, pay5_at, stepL]

theorem pay7_at : k0_pay7 k0_pay54 k0_pay55 k0_pay56 k0_pay57 qq m a kN vN (ix2 r e)
    = stepA (m (ix2 r 0)) (a (ix2 r e)) (scN qq r kN) (col vN e) := by
  pointwise [k0_pay7, pay4_at, pay5_at, stepA, col]

end Narrow

/-! ## The masked block, a whole block wide -/

/-- The masked scores of a row of an odd tile: its keys start four chunks below the tile's first row. -/
def scW (j : Fin 512) : EReal := if j.val / 64 ≤ r.val % 256 / 64 + 4 then sc qq kA r j else ⊥

theorem pay8_at (j : Fin 512) : k0_pay8 k0_pay54 k0_pay55 k0_pay56 k0_pay57 qq kA (ix2 r j) = scW qq kA r j := by
  pointwise [k0_pay8, gap_at]
  rw [gap_le r _ 4 (.inr ⟨rfl, rfl⟩) j, mask_named]
  unfold scW sc Scalar.select
  by_cases h : j.val / 64 ≤ r.val % 256 / 64 + 4 <;> simp [h]

theorem pay9_at : k0_pay9 k0_pay54 k0_pay55 k0_pay56 k0_pay57 qq m kA (ix2 r 0) = stepM (m (ix2 r 0)) (scW qq kA r) := by
  pointwise [k0_pay9, stepM, pay8_at]
  rw [ofBits_neg_inf]

theorem pay10_at (j : Fin 512) : k0_pay10 k0_pay54 k0_pay55 k0_pay56 k0_pay57 qq m kA (ix2 r j)
    = Ideal.exp2 (scW qq kA r j - stepM (m (ix2 r 0)) (scW qq kA r)) := by
  pointwise [k0_pay10, pay8_at, pay9_at]
  rfl

theorem pay11_at : k0_pay11 k0_pay54 k0_pay55 k0_pay56 k0_pay57 qq m kA (ix2 r 0)
    = Ideal.exp2 (m (ix2 r 0) - stepM (m (ix2 r 0)) (scW qq kA r)) := by
  pointwise [k0_pay11, pay9_at]
  rfl

theorem pay12_at : k0_pay12 k0_pay54 k0_pay55 k0_pay56 k0_pay57 qq m l kA (ix2 r 0)
    = stepL (m (ix2 r 0)) (l (ix2 r 0)) (scW qq kA r) := by
  pointwise [k0_pay12, pay10_at, pay11_at, stepL]

theorem pay13_at : k0_pay13 k0_pay54 k0_pay55 k0_pay56 k0_pay57 qq m a kA vA (ix2 r e)
    = stepA (m (ix2 r 0)) (a (ix2 r e)) (scW qq kA r) (col vA e) := by
  pointwise [k0_pay13, pay10_at, pay11_at, stepA, col]

/-! ## The tile's queries, the first state and the result -/

theorem pay34_at : (k0_pay34 : FVec Ideal S512x1 .f32) (ix2 r 0) = ⊥ := rfl
theorem pay35_at : (k0_pay35 : FVec Ideal S512x1 .f32) (ix2 r 0) = 0 := by
  pointwise [k0_pay35]
theorem pay36_at : (k0_pay36 : FVec Ideal S512x128 .f32) (ix2 r e) = 0 := by
  pointwise [k0_pay36]

theorem lane_lt (e : Fin 128) : IntOp.cmpi .slt (BitVec.ofNat 32 e.val) 64#32 = if e.val < 64 then 1#1 else 0#1 := by
  revert e; decide +kernel
theorem lane_ge (e : Fin 128) : IntOp.cmpi .sge (BitVec.ofNat 32 e.val) 64#32 = if e.val < 64 then 0#1 else 1#1 := by
  revert e; decide +kernel

/-- The upper half of the tile keeps the first map's 64 lanes of the queries, the lower half the second's. -/
theorem pay33_at (x : Vec Ideal S1x256x128 .bf16) :
    k0_pay33 (iota .tc S256x128 32 [1] iota_S256x128_d1_w32) x (ix2 r e)
      = if (r.val < 256 ↔ e.val < 64) then x (ix3 0 ⟨r.val % 256, Nat.mod_lt _ (by decide)⟩ e) else 0 := by
  pointwise [k0_pay33]
  rw [lane_lt, lane_ge]
  unfold Scalar.select
  by_cases hr : r.val < 256
  · have h1 : (⟨r.val % 256, Nat.mod_lt _ (by decide)⟩ : Fin 256) = ⟨r.val, hr⟩ := Fin.ext (Nat.mod_eq_of_lt hr)
    rw [dif_pos hr, h1]
    by_cases he : e.val < 64 <;> simp [hr, he]
  · have h1 : (⟨r.val % 256, Nat.mod_lt _ (by decide)⟩ : Fin 256) = ⟨r.val - 256, by omega⟩ := Fin.ext (by show r.val % 256 = r.val - 256; omega)
    rw [dif_neg hr, h1]
    by_cases he : e.val < 64 <;> simp [hr, he]

theorem pay14_at (lam : FVec Ideal S1x1 .f32) (g : Vec Ideal S1x128 .f32) (r : Fin 256) :
    k0_pay14 lam l a g (ix3 0 r e)
      = normed (fun x => Ideal.div (a (ix2 (⟨r.val, by omega⟩ : Fin 512) x)) (l (ix2 (⟨r.val, by omega⟩ : Fin 512) 0))
          - lam (ix2 0 0) * Ideal.div (a (ix2 (⟨256 + r.val, by omega⟩ : Fin 512) x)) (l (ix2 (⟨256 + r.val, by omega⟩ : Fin 512) 0)))
        (g (ix2 0 e)) e := by
  pointwise [k0_pay14, normed]

theorem pay53_at (x : Vec Ideal S4x64 .f32) :
    k0_pay53 x (ix2 0 0) = lamOf (∑ d : Fin 64, x (ix2 0 d) * x (ix2 1 d)) (∑ d : Fin 64, x (ix2 2 d) * x (ix2 3 d)) := by
  pointwise [k0_pay53, lamOf]

end Cert.Proof.KernelIdeal
end
-- ==== Proof.Rows.lean ====
/-
  One row of a row tile, through all its blocks: from the empty state through the whole blocks in pairs, the block left
  over and the masked block, its running sum and its running weighted sum are those over all the keys the row may see,
  so their quotient is the exponentially weighted mean of the values.
-/
module

public import proofs.«01_k».proof.Proof.Steps

@[expose] public section

set_option maxRecDepth 16384
set_option maxHeartbeats 1000000

noncomputable section

namespace Cert.Proof.KernelIdeal

open Cert.KernelIdeal Cert.KernelIdeal.Gen
open Idealize.ShloMosaic

/-! ## Where the blocks lie -/

theorem trips1 : k0_t1_loop.trips = 16 := by decide
theorem trips2 : ∀ k : Fin k0_t1_loop.trips, (k0_t2_loop k).trips = k.val / 4 := by decide +kernel
theorem off2_eq : ∀ (k : Fin k0_t1_loop.trips) (t : Fin (k0_t2_loop k).trips), k0_off2 k t = ![0, 1024 * t.val, 0] := by decide +kernel
theorem off3_eq : ∀ (k : Fin k0_t1_loop.trips) (t : Fin (k0_t2_loop k).trips), k0_off3 k t = ![0, 1024 * t.val + 512, 0] := by decide +kernel
theorem off6_eq : ∀ k : Fin k0_t1_loop.trips, k0_cond1 k = 1#1 → k0_off6 k = ![0, 1024 * (k.val / 4), 0] := by decide +kernel
theorem off8_eq : ∀ k : Fin k0_t1_loop.trips, ¬ k0_cond2 k = 1#1 → k0_off8 k = ![0, 512 * (k.val / 2), 0] := by decide +kernel
theorem cond1_iff : ∀ k : Fin k0_t1_loop.trips, k0_cond1 k = 1#1 ↔ k.val / 2 % 2 = 1 := by decide +kernel
theorem cond2_iff : ∀ k : Fin k0_t1_loop.trips, k0_cond2 k = 1#1 ↔ k.val % 2 = 0 := by decide +kernel

/-- The number of keys that row `r` of row tile `k` may see: its own chunk's and those of the chunks before. -/
def nKeys (k : Fin k0_t1_loop.trips) (r : Fin 512) : ℕ := 64 * ((256 * k.val + r.val % 256) / 64 + 1)

/-- Rows of a block, read at a place. -/
theorem ld_at {W : ℕ} (x : Vec Ideal S1x4096x128 .bf16) (f : ℕ → Fin 128 → ℝ)
    (hf : ∀ (n : Fin 4096) (e : Fin 128), x (ix3 0 n e) = (f n.val e : EReal))
    (off : Fin S1x4096x128.rank → ℕ) (inb : ∀ a, off a + (![1, W, 128] : Fin 3 → ℕ) a ≤ S1x4096x128.size a)
    (o : ℕ) (h : off = ![0, o, 0]) (j : Fin W) (e : Fin 128) :
    View.ld x (Rect.unit (s := S1x4096x128) off ![1, W, 128] inb) (ix3 0 j e) = (f (o + j.val) e : EReal) := by
  subst h
  have hb : o + W ≤ 4096 := inb 1
  rw [← hf ⟨o + j.val, by omega⟩ e]
  refine congrArg x (funext fun a => Fin.ext ?_)
  fin_cases a
  · rfl
  · show o + 1 * j.val = o + j.val; omega
  · show 0 + 1 * e.val = e.val; omega

section Row
variable (x4 x5 x6 : Vec Ideal S1x4096x128 .bf16) (Q K U : ℕ → Fin 128 → ℝ)
  (h4 : ∀ (n : Fin 4096) (e : Fin 128), x4 (ix3 0 n e) = (Q n.val e : EReal))
  (h5 : ∀ (n : Fin 4096) (e : Fin 128), x5 (ix3 0 n e) = (K n.val e : EReal))
  (h6 : ∀ (n : Fin 4096) (e : Fin 128), x6 (ix3 0 n e) = (U n.val e : EReal))
  (k : Fin k0_t1_loop.trips) (r : Fin 512) (e : Fin 128)

/-- The queries of row `r` of the tile: the lanes of the other map are zero. -/
def qRow (d : Fin 128) : ℝ := if (r.val < 256 ↔ d.val < 64) then Q (256 * k.val + r.val % 256) d else 0

/-- The score of row `r` against key `n`. -/
def score (n : ℕ) : ℝ := ∑ d : Fin 128, qRow Q k r d * K n d

/-- The tile's queries. -/
abbrev qq : FVec Ideal S512x128 .bf16 := qTile (iota .tc S256x128 32 [1] iota_S256x128_d1_w32) x4 k

include h4 in
theorem qq_at (d : Fin 128) : qq x4 k (ix2 r d) = (qRow Q k r d : EReal) := by
  unfold qq qTile qRow
  rw [pay33_at]
  split
  · exact ld_at x4 Q h4 _ _ _ (k0_off1_eq k) _ _
  · rfl

include h4 in
theorem sc_real {W : ℕ} (kb : Vec Ideal ⟨3, ![1, W, 128]⟩ .bf16) (o : ℕ)
    (hk : ∀ (j : Fin W) (d : Fin 128), kb (ix3 0 j d) = (K (o + j.val) d : EReal)) (j : Fin W) :
    sc (qq x4 k) kb r j = (score Q K k r (o + j.val) : EReal) := by
  unfold sc score
  rw [coe_sum]
  refine Finset.sum_congr rfl fun d _ => ?_
  rw [qq_at x4 Q h4, hk, EReal.coe_mul]

/-- The state of the row after the keys below `n`. -/
def RowInv (n : ℕ) (s : St Ideal) : Prop :=
  Inv n (score Q K k r) (fun n => U n e) (s.1 (ix2 r 0)) (s.2.1 (ix2 r 0)) (s.2.2 (ix2 r e))

theorem row_start : RowInv Q K U k r e 0 (k0_pay34, k0_pay35, k0_pay36) := by
  unfold RowInv
  dsimp only
  rw [pay34_at, pay35_at, pay36_at]
  exact Inv.zero _ _

/-- One whole block of 512 keys. -/
theorem row_block {o : ℕ} {s : St Ideal} (h : RowInv Q K U k r e o s) (kb vb : Vec Ideal S1x512x128 .bf16)
    (hs : ∀ j : Fin 512, sc (qq x4 k) kb r j = (score Q K k r (o + j.val) : EReal))
    (hv : ∀ j : Fin 512, vb (ix3 0 j e) = (U (o + j.val) e : EReal)) :
    RowInv Q K U k r e (o + 512)
      (k0_pay16 (qq x4 k) s.1 kb, k0_pay19 (qq x4 k) s.1 s.2.1 kb, k0_pay20 (qq x4 k) s.1 s.2.2 kb vb) := by
  unfold RowInv
  dsimp only
  rw [pay16_at, pay19_at, pay20_at]
  exact h.step (by omega) le_rfl _ _ (fun j => by rw [hs, if_pos (by omega)]) hv

include h4 h5 h6 in
theorem row_pairs (n : ℕ) (hn : n ≤ (k0_t2_loop k).trips) :
    RowInv Q K U k r e (1024 * n) (pairs x5 x6 (qq x4 k) k (k0_pay34, k0_pay35, k0_pay36) n) := by
  induction n with
  | zero => exact row_start Q K U k r e
  | succ n ih =>
    have hn' : n < (k0_t2_loop k).trips := hn
    rw [pairs_succ x5 x6 (qq x4 k) k _ ⟨n, hn'⟩]
    have hA5 := ld_at x5 K h5 _ (k0_off2_inb k ⟨n, hn'⟩) _ (off2_eq k ⟨n, hn'⟩)
    have hA6 := ld_at x6 U h6 _ (k0_off2_inb k ⟨n, hn'⟩) _ (off2_eq k ⟨n, hn'⟩)
    have hB5 := ld_at x5 K h5 _ (k0_off3_inb k ⟨n, hn'⟩) _ (off3_eq k ⟨n, hn'⟩)
    have hB6 := ld_at x6 U h6 _ (k0_off3_inb k ⟨n, hn'⟩) _ (off3_eq k ⟨n, hn'⟩)
    have h1 := row_block x4 Q K U k r e (ih (by omega)) (rdA x5 k ⟨n, hn'⟩) (rdA x6 k ⟨n, hn'⟩)
      (sc_real x4 Q K h4 k r _ _ hA5) (fun j => hA6 j e)
    have h2 := row_block x4 Q K U k r e h1 (rdB x5 k ⟨n, hn'⟩) (rdB x6 k ⟨n, hn'⟩)
      (sc_real x4 Q K h4 k r _ _ hB5) (fun j => hB6 j e)
    rw [show 1024 * (n + 1) = 1024 * n + 512 + 512 by omega]
    unfold pairStep
    rw [pay37_eq, pay40_eq, pay41_eq]
    exact h2

include h4 h5 h6 in
theorem row_whole :
    RowInv Q K U k r e (512 * (k.val / 2)) (whole (iota .tc S256x128 32 [1] iota_S256x128_d1_w32) x4 x5 x6 k) := by
  have h := row_pairs x4 x5 x6 Q K U h4 h5 h6 k r e _ le_rfl
  unfold whole oddStep
  rw [trips2 k] at h ⊢
  split
  · next h1 =>
    have hk := (cond1_iff k).1 h1
    have hA5 := ld_at x5 K h5 _ (k0_off6_inb k h1) _ (off6_eq k h1)
    have hA6 := ld_at x6 U h6 _ (k0_off6_inb k h1) _ (off6_eq k h1)
    have h2 := row_block x4 Q K U k r e h _ _ (sc_real x4 Q K h4 k r _ _ hA5) (fun j => hA6 j e)
    rw [show 512 * (k.val / 2) = 1024 * (k.val / 4) + 512 by omega]
    exact h2
  · next h1 =>
    have hk : ¬ k.val / 2 % 2 = 1 := fun h => h1 ((cond1_iff k).2 h)
    rw [show 512 * (k.val / 2) = 1024 * (k.val / 4) by omega]
    exact h

/-- What the masked block leaves of the row. -/
abbrev last : FVec Ideal S512x1 .f32 × FVec Ideal S512x128 .f32 :=
  diagStep k0_pay54 k0_pay55 k0_pay56 k0_pay57 x5 x6 k (qq x4 k) (whole (iota .tc S256x128 32 [1] iota_S256x128_d1_w32) x4 x5 x6 k)

include h4 h5 h6 in
theorem row_last : ∃ m, Inv (nKeys k r) (score Q K k r) (fun n => U n e) m
    ((last x4 x5 x6 k).1 (ix2 r 0)) ((last x4 x5 x6 k).2 (ix2 r e)) := by
  have h := row_whole x4 x5 x6 Q K U h4 h5 h6 k r e
  unfold last diagStep
  generalize whole (iota .tc S256x128 32 [1] iota_S256x128_d1_w32) x4 x5 x6 k = s at h ⊢
  split
  · next h2 =>
    have hk := (cond2_iff k).1 h2
    have ho : k0_off7 k = ![0, 512 * (k.val / 2), 0] := by rw [k0_off7_eq]; congr 2; omega
    have hA5 := ld_at x5 K h5 _ (k0_off7_inb k h2) _ ho
    have hA6 := ld_at x6 U h6 _ (k0_off7_inb k h2) _ ho
    have hn : 512 * (k.val / 2) < nKeys k r := by unfold nKeys; omega
    have hW : nKeys k r ≤ 512 * (k.val / 2) + 256 := by unfold nKeys; omega
    have hs := fun j : Fin 256 => (show scN (qq x4 k) r _ j = if 512 * (k.val / 2) + j.val < nKeys k r
        then (score Q K k r (512 * (k.val / 2) + j.val) : EReal) else ⊥ by
      unfold scN
      rw [sc_real x4 Q K h4 k r _ _ hA5]
      refine if_congr ?_ rfl rfl
      unfold nKeys; omega)
    dsimp only
    rw [pay6_at, pay7_at]
    exact ⟨_, h.step hn hW _ _ hs fun j => hA6 j e⟩
  · next h2 =>
    have hk : ¬ k.val % 2 = 0 := fun h => h2 ((cond2_iff k).2 h)
    have hA5 := ld_at x5 K h5 _ (k0_off8_inb k h2) _ (off8_eq k h2)
    have hA6 := ld_at x6 U h6 _ (k0_off8_inb k h2) _ (off8_eq k h2)
    have hn : 512 * (k.val / 2) < nKeys k r := by unfold nKeys; omega
    have hW : nKeys k r ≤ 512 * (k.val / 2) + 512 := by unfold nKeys; omega
    have hs := fun j : Fin 512 => (show scW (qq x4 k) _ r j = if 512 * (k.val / 2) + j.val < nKeys k r
        then (score Q K k r (512 * (k.val / 2) + j.val) : EReal) else ⊥ by
      unfold scW
      rw [sc_real x4 Q K h4 k r _ _ hA5]
      refine if_congr ?_ rfl rfl
      unfold nKeys; omega)
    dsimp only
    rw [pay12_at, pay13_at]
    exact ⟨_, h.step hn hW _ _ hs fun j => hA6 j e⟩

include h4 h5 h6 in
theorem row_div : Ideal.div ((last x4 x5 x6 k).2 (ix2 r e)) ((last x4 x5 x6 k).1 (ix2 r 0))
    = (mean (nKeys k r) (fun n => score Q K k r n * Real.log 2) (fun n => U n e) : EReal) := by
  obtain ⟨m, h⟩ := row_last x4 x5 x6 Q K U h4 h5 h6 k r e
  exact h.div (by unfold nKeys; omega) fun _ => rfl

/-- A row of the difference of the two maps' outputs. -/
def odRow (lam : EReal) (n : ℕ) (x : Fin 128) : EReal :=
  (mean (64 * (n / 64 + 1)) (fun j => (∑ d : Fin 128, if d.val < 64 then Q n d * K j d else 0) * Real.log 2) (fun j => U j x) : ℝ)
    - lam * (mean (64 * (n / 64 + 1)) (fun j => (∑ d : Fin 128, if d.val < 64 then 0 else Q n d * K j d) * Real.log 2) (fun j => U j x) : ℝ)

include h4 h5 h6 in
/-- What row tile `k` stores, at a row. -/
theorem tile_at (v16 : FVec Ideal S1x1 .f32) (x3 : Vec Ideal S1x128 .f32) (r : Fin 256) :
    tile v16 (iota .tc S256x128 32 [1] iota_S256x128_d1_w32) k0_pay54 k0_pay55 k0_pay56 k0_pay57 x3 x4 x5 x6 k (ix3 0 r e)
      = normed (odRow Q K U (v16 (ix2 0 0)) (256 * k.val + r.val)) (x3 (ix2 0 e)) e := by
  unfold tile
  rw [pay14_at]
  have h1 : ∀ x, Ideal.div ((last x4 x5 x6 k).2 (ix2 (⟨r.val, by omega⟩ : Fin 512) x)) ((last x4 x5 x6 k).1 (ix2 (⟨r.val, by omega⟩ : Fin 512) 0)) = _ :=
    fun x => row_div x4 x5 x6 Q K U h4 h5 h6 k ⟨r.val, by omega⟩ x
  have h2 : ∀ x, Ideal.div ((last x4 x5 x6 k).2 (ix2 (⟨256 + r.val, by omega⟩ : Fin 512) x)) ((last x4 x5 x6 k).1 (ix2 (⟨256 + r.val, by omega⟩ : Fin 512) 0)) = _ :=
    fun x => row_div x4 x5 x6 Q K U h4 h5 h6 k ⟨256 + r.val, by omega⟩ x
  have hg : View.ld x3 (Rect.unit (s := S1x128) ![0, 0] S1x128.size inb_S1x128_S1x128_0_0) (ix2 0 e) = x3 (ix2 0 e) := by
    refine congrArg x3 (funext fun a => Fin.ext ?_)
    fin_cases a
    · rfl
    · show 0 + 1 * e.val = e.val; omega
  rw [hg]
  congr 1
  funext x
  unfold last at h1 h2
  rw [h1, h2]
  unfold odRow nKeys score qRow
  have e1 : r.val % 256 = r.val := Nat.mod_eq_of_lt r.isLt
  have e2 : (256 + r.val) % 256 = r.val := by omega
  simp only [e1, e2]
  have t1 : r.val < 256 := r.isLt
  have t2 : ¬ 256 + r.val < 256 := by omega
  simp only [t1, t2, true_iff, false_iff, ite_mul, zero_mul, not_lt]
  congr 4

end Row

end Cert.Proof.KernelIdeal
end
-- ==== Proof.Ref.lean ====
/-
  The reference's run: it ends with its arguments unchanged and its counters at zero.
-/
module

public import proofs.«01_k».proof.Proof.Gen.ReferenceIdeal.Run
public import proofs.«01_k».proof.Proof.Gen.ReferenceIdeal.Read
public import proofs.«01_k».proof.Defs
public import Idealize.ShloMosaic.Lib.Quiescent

@[expose] public section

noncomputable section

namespace Cert.Proof

open Idealize.ShloMosaic

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
end
-- ==== Proof.RefValue.lean ====
/-
  The reference's result at an index: each row of the two softmax maps, the difference of the two weighted means of
  the values, and its root mean square.
-/
module

public import proofs.«01_k».proof.Proof.Ref
public import proofs.«01_k».proof.Proof.Online
public import Idealize.ShloMosaic.Lib.Pointwise

@[expose] public section

set_option maxRecDepth 16384
set_option maxHeartbeats 1000000

noncomputable section

namespace Cert.Proof.Reference

open Cert.ReferenceIdeal Cert.ReferenceIdeal.Gen Cert.ReferenceIdeal.Read
open Idealize.ShloMosaic

theorem ofBits_neg_inf : Ideal.ofBits .f32 0xFF800000#32 = ⊥ := by
  simp [Ideal.ofBits, Ideal.ieee]

variable (x0 x1 x2 : (⟨S8x4096x512, .f32⟩ : BufTy).Contents (Elt Ideal)) (x3 x4 x5 x6 : (⟨S1x64, .f32⟩ : BufTy).Contents (Elt Ideal))
  (x7 : (⟨S1x128, .f32⟩ : BufTy).Contents (Elt Ideal))
  (b : Fin 8) (h : Fin 4) (s : Fin 2) (i j : Fin 4096) (e : Fin 128)

/-- The second map's weight. -/
theorem lam_at (z : S_.Idx) : val_main_v11 (F := Ideal) x3 x4 x5 x6 z
    = lamOf (∑ d : Fin 64, x3 (ix2 0 d) * x4 (ix2 0 d)) (∑ d : Fin 64, x5 (ix2 0 d) * x6 (ix2 0 d)) := by
  pointwise [val_main_v11, val_main_v10, val_main_v9, val_main_v8, val_main_v7, val_main_v6, val_main_v5, val_main_v4,
    val_main_v3, val_main_v2, val_main_v1, val_main_v0, val_main_cst, val_main_cst_0, val_main_cst_1, lamOf]

theorem chunk_at : val_main_v19 (F := Ideal) (ix1 i) = BitVec.ofNat 32 (i.val / 64) := by
  pointwise [val_main_v19, val_main_call0_v13, val_main_call0_v12, val_main_call0_c_0, val_main_call0_v11, val_main_call0_v10,
    val_main_call0_v9, val_main_call0_c, val_main_call0_v8, val_main_call0_v7, val_main_call0_v6, val_main_call0_v5,
    val_main_call0_v4, val_main_call0_v3, val_main_call0_v2, val_main_call0_v1, val_main_call0_v0, val_main_c, val_main_v18]
  simp only [id, constantI]
  revert i; decide +kernel

theorem chunk_le_fin (x y : Fin 64) : IntOp.cmpi .sle (BitVec.ofNat 32 x.val) (BitVec.ofNat 32 y.val) = if x.val ≤ y.val then 1#1 else 0#1 := by
  revert x y; decide +kernel

theorem chunk_le (x y : ℕ) (hx : x < 64) (hy : y < 64) : IntOp.cmpi .sle (BitVec.ofNat 32 x) (BitVec.ofNat 32 y) = if x ≤ y then 1#1 else 0#1 :=
  chunk_le_fin ⟨x, hx⟩ ⟨y, hy⟩

/-! ## The scores and their softmax -/

theorem score_at : val_main_v17 (F := Ideal) x0 x1 (ix5 b h s i j)
    = (∑ d : Fin 64, x0 (ix3 b i ⟨128 * h.val + (64 * s.val + d.val), by omega⟩)
        * x1 (ix3 b j ⟨128 * h.val + (64 * s.val + d.val), by omega⟩)) * Ideal.ofBits .f32 0x3E000000#32 := by
  pointwise [val_main_v17, val_main_v16, val_main_cst_2, val_main_v15, val_main_v13, val_main_v12]
  congr 1
  refine Finset.sum_congr rfl fun d _ => ?_
  have : h.val * 128 + s.val * 64 + d.val = 128 * h.val + (64 * s.val + d.val) := by omega
  simp only [this]

theorem masked_at : val_main_v25 (F := Ideal) x0 x1 (ix5 b h s i j)
    = if j.val / 64 ≤ i.val / 64 then val_main_v17 (F := Ideal) x0 x1 (ix5 b h s i j) else ⊥ := by
  rw [val_main_v25_apply]
  generalize val_main_v17 (F := Ideal) x0 x1 = y
  pointwise [val_main_call1_v2, val_main_call1_v1, val_main_call1_v0, val_main_cst_3, val_main_v24, val_main_v23,
    val_main_v22, val_main_v21, val_main_v20, chunk_at]
  rw [chunk_le _ _ (by omega) (by omega)]
  have : (id (constant S_ FTy.f32 4286578688#32 : FVec Ideal S_ .f32) ix0) = (⊥ : EReal) := ofBits_neg_inf
  rw [this]
  unfold Scalar.select
  by_cases h : j.val / 64 ≤ i.val / 64 <;> simp [h]

theorem greatest_at : val_main_v26 (F := Ideal) x0 x1 (ix4 b h s i)
    = Finset.univ.fold max ⊥ (fun j : Fin 4096 => val_main_v25 (F := Ideal) x0 x1 (ix5 b h s i j)) := by
  unfold val_main_v26
  generalize val_main_v25 (F := Ideal) x0 x1 = y
  pointwise [val_main_cst_4]
  rw [ofBits_neg_inf]

theorem shift_at : val_main_v30 (F := Ideal) x0 x1 (ix5 b h s i j)
    = max ⊥ (Finset.univ.fold max ⊥ (fun j : Fin 4096 => val_main_v25 (F := Ideal) x0 x1 (ix5 b h s i j))) := by
  rw [val_main_v30_apply, val_main_v29_apply, ← greatest_at]
  have hi : idx_main_v29 (idx_main_v30 (ix5 b h s i j)) = ix4 b h s i := by funext a; fin_cases a <;> rfl
  rw [hi, val_main_v28_apply]
  generalize val_main_v26 (F := Ideal) x0 x1 = y
  pointwise [val_main_v27, val_main_cst_5]
  rw [ofBits_neg_inf]

theorem exp_at : val_main_v32 (F := Ideal) x0 x1 (ix5 b h s i j)
    = Ideal.exp (val_main_v25 (F := Ideal) x0 x1 (ix5 b h s i j)
        - max ⊥ (Finset.univ.fold max ⊥ (fun j : Fin 4096 => val_main_v25 (F := Ideal) x0 x1 (ix5 b h s i j)))) := by
  rw [← shift_at x0 x1 b h s i j]
  rfl

theorem total_at : val_main_v33 (F := Ideal) x0 x1 (ix4 b h s i)
    = ∑ j : Fin 4096, val_main_v32 (F := Ideal) x0 x1 (ix5 b h s i j) := by
  rw [val_main_v33_apply, val_main_cst_6_apply]
  have : (FloatOps.ofBits .f32 0x00000000#32 : Ideal .f32) = (0 : EReal) := Ideal.ofBits_zero_f32
  rw [this]
  refine (zero_add _).trans ?_
  refine Finset.sum_congr rfl fun j _ => ?_
  congr 1
  funext a; fin_cases a <;> rfl

theorem spread_at : val_main_v35 (F := Ideal) x0 x1 (ix5 b h s i j) = val_main_v33 (F := Ideal) x0 x1 (ix4 b h s i) := by
  rw [val_main_v35_apply, val_main_v34_apply]
  congr 1
  funext a; fin_cases a <;> rfl

theorem map_at : val_main_v36 (F := Ideal) x0 x1 (ix5 b h s i j)
    = Ideal.div (val_main_v32 (F := Ideal) x0 x1 (ix5 b h s i j)) (∑ k : Fin 4096, val_main_v32 (F := Ideal) x0 x1 (ix5 b h s i k)) := by
  rw [← total_at, ← spread_at x0 x1 b h s i j]
  rfl

theorem first_at : val_main_v38 (F := Ideal) x0 x1 (ix4 b h i j) = val_main_v36 (F := Ideal) x0 x1 (ix5 b h 0 i j) := by
  unfold val_main_v38 val_main_v37
  generalize val_main_v36 (F := Ideal) x0 x1 = y
  pointwise []

theorem second_at : val_main_v40 (F := Ideal) x0 x1 (ix4 b h i j) = val_main_v36 (F := Ideal) x0 x1 (ix5 b h 1 i j) := by
  unfold val_main_v40 val_main_v39
  generalize val_main_v36 (F := Ideal) x0 x1 = y
  pointwise []

theorem values_at : val_main_v14 (F := Ideal) x2 (ix4 b j h e) = x2 (ix3 b j ⟨128 * h.val + e.val, by omega⟩) := by
  pointwise [val_main_v14]
  have : h.val * 128 + e.val = 128 * h.val + e.val := by omega
  simp only [this]

theorem weighed_at : val_main_v45 (F := Ideal) x0 x1 x2 x3 x4 x5 x6 (ix4 b i h e)
    = ∑ j : Fin 4096, x2 (ix3 b j ⟨128 * h.val + e.val, by omega⟩)
        * (val_main_v36 (F := Ideal) x0 x1 (ix5 b h 0 i j)
          - lamOf (∑ d : Fin 64, x3 (ix2 0 d) * x4 (ix2 0 d)) (∑ d : Fin 64, x5 (ix2 0 d) * x6 (ix2 0 d))
            * val_main_v36 (F := Ideal) x0 x1 (ix5 b h 1 i j)) := by
  rw [val_main_v45_apply, val_main_v44_apply]
  refine Finset.sum_congr rfl fun j _ => ?_
  have hl : lidx_main_v44 (idx_main_v45 (ix4 b i h e)) j = ix4 b j h e := by funext a; fin_cases a <;> rfl
  have hr : ridx_main_v44 (idx_main_v45 (ix4 b i h e)) j = ix4 b h i j := by funext a; fin_cases a <;> rfl
  rw [hl, hr, values_at, val_main_v43_apply, val_main_v42_apply, val_main_v41_apply, first_at, second_at, lam_at]
  rfl

theorem result_at : val_main_v63 (F := Ideal) x0 x1 x2 x3 x4 x5 x6 x7 (ix3 b i ⟨128 * h.val + e.val, by omega⟩)
    = normed (fun x => val_main_v45 (F := Ideal) x0 x1 x2 x3 x4 x5 x6 (ix4 b i h x)) (x7 (ix2 0 e)) e := by
  unfold val_main_v63 val_main_v62 val_main_v61 val_main_v59 val_main_v55 val_main_v54 val_main_v53 val_main_v52 val_main_v50
    val_main_v48 val_main_v47 val_main_v46
  generalize val_main_v45 (F := Ideal) x0 x1 x2 x3 x4 x5 x6 = y
  pointwise [val_main_v60, val_main_cst_10, val_main_v58, val_main_v57,
    val_main_v56, val_main_v51, val_main_cst_9,
    val_main_v49, val_main_cst_8, val_main_cst_7, normed]

/-! ## Over real queries, keys and values -/

theorem eighth : Ideal.ofBits .f32 0x3E000000#32 = ((1 / 8 : ℝ) : EReal) := by
  simp [Ideal.ofBits, Ideal.ieee, -EReal.coe_mul]; norm_num

section Real
variable (Q K U : ℕ → Fin 128 → ℝ)
  (h0 : ∀ (n : Fin 4096) (d : Fin 128), x0 (ix3 b n ⟨128 * h.val + d.val, by omega⟩) = (Q n.val d : EReal))
  (h1 : ∀ (n : Fin 4096) (d : Fin 128), x1 (ix3 b n ⟨128 * h.val + d.val, by omega⟩) = (K n.val d : EReal))
  (h2 : ∀ (n : Fin 4096) (d : Fin 128), x2 (ix3 b n ⟨128 * h.val + d.val, by omega⟩) = (U n.val d : EReal))

/-- Map `s`'s score of query `n` against key `j`. -/
def refScore (s : Fin 2) (n j : ℕ) : ℝ :=
  (∑ d : Fin 64, Q n ⟨64 * s.val + d.val, by omega⟩ * K j ⟨64 * s.val + d.val, by omega⟩) * (1 / 8)

include h0 h1 in
theorem score_real : val_main_v17 (F := Ideal) x0 x1 (ix5 b h s i j) = (refScore Q K s i.val j.val : EReal) := by
  rw [score_at, eighth]
  unfold refScore
  rw [EReal.coe_mul, coe_sum]
  congr 1
  refine Finset.sum_congr rfl fun d _ => ?_
  rw [EReal.coe_mul, ← h0 i ⟨64 * s.val + d.val, by omega⟩, ← h1 j ⟨64 * s.val + d.val, by omega⟩]

include h0 h1 in
theorem map_real : val_main_v36 (F := Ideal) x0 x1 (ix5 b h s i j)
    = ((if j.val < 64 * (i.val / 64 + 1) then Real.exp (refScore Q K s i.val j.val)
        / ∑ k ∈ Finset.range (64 * (i.val / 64 + 1)), Real.exp (refScore Q K s i.val k) else 0 : ℝ) : EReal) := by
  rw [map_at]
  simp only [exp_at]
  refine softmax_at (W := 4096) (by omega) (by omega) (refScore Q K s i.val)
    (fun j => val_main_v25 (F := Ideal) x0 x1 (ix5 b h s i j)) (fun j => ?_) j
  rw [masked_at, score_real x0 x1 b h s i j Q K h0 h1]
  refine if_congr ?_ rfl rfl
  omega

include h0 h1 h2 in
theorem weighed_real (lam : ℝ)
    (hl : lamOf (∑ d : Fin 64, x3 (ix2 0 d) * x4 (ix2 0 d)) (∑ d : Fin 64, x5 (ix2 0 d) * x6 (ix2 0 d)) = (lam : EReal)) :
    val_main_v45 (F := Ideal) x0 x1 x2 x3 x4 x5 x6 (ix4 b i h e)
      = (mean (64 * (i.val / 64 + 1)) (refScore Q K 0 i.val) (fun j => U j e) : EReal)
        - (lam : EReal) * (mean (64 * (i.val / 64 + 1)) (refScore Q K 1 i.val) (fun j => U j e) : EReal) := by
  rw [weighed_at, hl, ← weigh_diff (W := 4096) (by omega)]
  refine Finset.sum_congr rfl fun j _ => ?_
  rw [map_real x0 x1 b h 0 i j Q K h0 h1, map_real x0 x1 b h 1 i j Q K h0 h1, h2]

end Real

end Cert.Proof.Reference
end
-- ==== Proof.Blocks.lean ====
/-
  What one grid point stores, at an index of the output block, and how the kernel's scores are the reference's.
-/
module

public import proofs.«01_k».proof.Proof.Rows
public import proofs.«01_k».proof.Proof.Body
public import proofs.«01_k».proof.Proof.RefValue
public import Idealize.ShloMosaic.Lib.Pipeline.ValueKit

@[expose] public section

set_option maxRecDepth 16384
set_option maxHeartbeats 1000000

noncomputable section

namespace Cert.Proof.KernelIdeal

open Cert.KernelIdeal Cert.KernelIdeal.Gen
open Idealize.ShloMosaic

/-! ## The output block -/

theorem ld_lam (x2 : Vec Ideal S4x64 .f32) :
    View.ld x2 (Rect.unit (s := S4x64) ![0, 0] S4x64.size inb_S4x64_S4x64_0_0) = x2 := by
  funext y
  refine congrArg x2 (funext fun a => Fin.ext ?_)
  fin_cases a
  · show 0 + 1 * (y 0).val = (y 0).val; omega
  · show 0 + 1 * (y 1).val = (y 1).val; omega

/-- The block a grid point leaves: every row is the normalized difference of the two weighted means. -/
theorem outBlk_at (x2 : Vec Ideal S4x64 .f32) (x3 : Vec Ideal S1x128 .f32) (x4 x5 x6 : Vec Ideal S1x4096x128 .bf16)
    (Q K U : ℕ → Fin 128 → ℝ)
    (h4 : ∀ (n : Fin 4096) (e : Fin 128), x4 (ix3 0 n e) = (Q n.val e : EReal))
    (h5 : ∀ (n : Fin 4096) (e : Fin 128), x5 (ix3 0 n e) = (K n.val e : EReal))
    (h6 : ∀ (n : Fin 4096) (e : Fin 128), x6 (ix3 0 n e) = (U n.val e : EReal))
    (n : Fin 4096) (e : Fin 128) :
    outBlk x2 x3 x4 x5 x6 (ix3 0 n e)
      = normed (odRow Q K U (lamOf (∑ d : Fin 64, x2 (ix2 0 d) * x2 (ix2 1 d)) (∑ d : Fin 64, x2 (ix2 2 d) * x2 (ix2 3 d))) n.val)
          (x3 (ix2 0 e)) e := by
  unfold outBlk
  rw [ld_lam]
  refine View.canon_eq_of_allAt _ _ _ (cover_pieces ..) fun p hp x hx => ?_
  obtain ⟨k, rfl⟩ := of_mem_pieces _ _ _ _ _ _ _ _ _ _ _ _ hp
  have hx1 : k0_off1 k 1 + 1 * (x 1).val = n.val := congrArg (fun y => (y 1).val) hx
  have hx2 : k0_off1 k 2 + 1 * (x 2).val = e.val := congrArg (fun y => (y 2).val) hx
  rw [k0_off1_eq] at hx1 hx2
  have hx1 : 256 * k.val + 1 * (x 1).val = n.val := hx1
  have hx2 : 0 + 1 * (x 2).val = e.val := hx2
  have hb1 : (x 1).val < 256 := (x 1).isLt
  have hx0 : x = ix3 0 ⟨(x 1).val, hb1⟩ e := by
    funext a
    fin_cases a
    · exact Fin.ext (by have : (x 0).val < 1 := (x 0).isLt; show (x 0).val = 0; omega)
    · rfl
    · exact Fin.ext (by show (x 2).val = e.val; omega)
  rw [hx0]
  show tile _ _ _ _ _ _ x3 x4 x5 x6 k _ = _
  rw [tile_at x4 x5 x6 Q K U h4 h5 h6 k e, pay53_at]
  congr 2
  show 256 * k.val + (x 1).val = n.val
  omega

/-! ## The scores -/

theorem sum_halves (f : Fin 128 → ℝ) :
    ∑ d : Fin 128, f d = ∑ d : Fin 64, f ⟨d.val, by omega⟩ + ∑ d : Fin 64, f ⟨64 + d.val, by omega⟩ :=
  Fin.sum_univ_add (a := 64) (b := 64) f

/-- Half a row's products, the query scaled by an eighth over the logarithm of two, back in powers of e: map 0. -/
theorem score_lo (Q K : ℕ → Fin 128 → ℝ) (n j : ℕ) :
    (∑ d : Fin 128, if d.val < 64 then (Q n d * ((1 / 8) / Real.log 2)) * K j d else 0) * Real.log 2
      = Reference.refScore Q K 0 n j := by
  have hl : Real.log 2 ≠ 0 := (Real.log_pos (by norm_num)).ne'
  rw [sum_halves, Finset.sum_congr rfl (g := fun d : Fin 64 => (Q n ⟨d.val, by omega⟩ * ((1 / 8) / Real.log 2)) * K j ⟨d.val, by omega⟩)
      (fun d _ => if_pos d.isLt),
    Finset.sum_congr rfl (g := fun _ : Fin 64 => (0 : ℝ)) (fun d _ => if_neg (by show ¬ 64 + d.val < 64; omega)),
    Finset.sum_const_zero, add_zero]
  unfold Reference.refScore
  rw [Finset.sum_mul, Finset.sum_mul]
  refine Finset.sum_congr rfl fun d _ => ?_
  have e : (⟨64 * (0 : Fin 2).val + d.val, by have : (0 : Fin 2).val = 0 := rfl; omega⟩ : Fin 128) = ⟨d.val, by omega⟩ := Fin.ext (by simp)
  rw [e]
  field_simp

/-- The same of the other half: map 1. -/
theorem score_hi (Q K : ℕ → Fin 128 → ℝ) (n j : ℕ) :
    (∑ d : Fin 128, if d.val < 64 then 0 else (Q n d * ((1 / 8) / Real.log 2)) * K j d) * Real.log 2
      = Reference.refScore Q K 1 n j := by
  have hl : Real.log 2 ≠ 0 := (Real.log_pos (by norm_num)).ne'
  rw [sum_halves, Finset.sum_congr rfl (g := fun _ : Fin 64 => (0 : ℝ)) (fun d _ => if_pos d.isLt),
    Finset.sum_congr rfl (g := fun d : Fin 64 => (Q n ⟨64 + d.val, by omega⟩ * ((1 / 8) / Real.log 2)) * K j ⟨64 + d.val, by omega⟩)
      (fun d _ => if_neg (by show ¬ 64 + d.val < 64; omega)),
    Finset.sum_const_zero, zero_add]
  unfold Reference.refScore
  rw [Finset.sum_mul, Finset.sum_mul]
  refine Finset.sum_congr rfl fun d _ => ?_
  have e : (⟨64 * (1 : Fin 2).val + d.val, by have : (1 : Fin 2).val = 1 := rfl; omega⟩ : Fin 128) = ⟨64 + d.val, by omega⟩ := Fin.ext (by simp)
  rw [e]
  field_simp

/-- So over scaled queries the kernel's row is the reference's. -/
theorem odRow_eq (Q K U : ℕ → Fin 128 → ℝ) (lam : EReal) (n : ℕ) (x : Fin 128) :
    odRow (fun n d => Q n d * ((1 / 8) / Real.log 2)) K U lam n x
      = (mean (64 * (n / 64 + 1)) (Reference.refScore Q K 0 n) (fun j => U j x) : EReal)
        - lam * (mean (64 * (n / 64 + 1)) (Reference.refScore Q K 1 n) (fun j => U j x) : EReal) := by
  unfold odRow
  rw [show (fun j => (∑ d : Fin 128, if d.val < 64 then (Q n d * ((1 / 8) / Real.log 2)) * K j d else 0) * Real.log 2)
      = Reference.refScore Q K 0 n from funext fun j => score_lo Q K n j,
    show (fun j => (∑ d : Fin 128, if d.val < 64 then 0 else (Q n d * ((1 / 8) / Real.log 2)) * K j d) * Real.log 2)
      = Reference.refScore Q K 1 n from funext fun j => score_hi Q K n j]

end Cert.Proof.KernelIdeal
end
-- ==== Proof.Inputs.lean ====
/-
  What the kernel's windows read at a grid point, in the program's arguments.
-/
module

public import proofs.«01_k».proof.Proof.Body
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Proof.KernelIdeal

open Cert.KernelIdeal Cert.KernelIdeal.Gen
open Idealize.ShloMosaic

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 4, 0, t.val % 4] := (by decide +kernel : ∀ t : Fin grid0.N, _)
theorem index3 : ∀ t : Fin cfg0.N, win0_3.index t = ![t.val / 4, 0, t.val % 4] := (by decide +kernel : ∀ t : Fin grid0.N, _)
theorem index4 : ∀ t : Fin cfg0.N, win0_4.index t = ![t.val / 4, 0, t.val % 4] := (by decide +kernel : ∀ t : Fin grid0.N, _)
theorem index5 : ∀ t : Fin cfg0.N, win0_5.index t = ![t.val / 4, 0, t.val % 4] := (by decide +kernel : ∀ t : Fin grid0.N, _)

theorem points : cfg0.N = 32 := N_0

/-- The batch element and the head of a grid point. -/
def batch (t : Fin cfg0.N) : Fin 8 := ⟨t.val / 4, by have h : t.val < 32 := lt_of_lt_of_eq t.isLt points; omega⟩
def head (t : Fin cfg0.N) : Fin 4 := ⟨t.val % 4, by omega⟩

theorem scale_eq : Ideal.div (Ideal.ofBits .f32 0x3E000000#32) (Ideal.log (Ideal.ofBits .f32 0x40000000#32)) = ((1 / 8 / Real.log 2 : ℝ) : EReal) := by
  have e2 : Ideal.ofBits .f32 0x40000000#32 = ((2 : ℝ) : EReal) := by
    simp [Ideal.ofBits, Ideal.ieee, -EReal.coe_mul]; norm_num
  have e8 : Ideal.ofBits .f32 0x3E000000#32 = ((1 / 8 : ℝ) : EReal) := by
    simp [Ideal.ofBits, Ideal.ieee, -EReal.coe_mul]; norm_num
  rw [e2, e8]
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [hl, Ideal.div_coe (Real.log_pos (by norm_num)).ne', ← EReal.coe_mul]
  congr 1
  ring

theorem q_at (t : Fin cfg0.N) (n : Fin 4096) (e : Fin 128) :
    iblk m c 2 t (ix3 0 n e)
      = (show EReal from m (c.tc.loc main_arg0) (ix3 (batch t) n ⟨128 * (head t).val + e.val, by omega⟩)) * ((1 / 8 / Real.log 2 : ℝ) : EReal) := by
  have h : iblk m c 2 t (ix3 0 n e) = V m c main_v4 (ix3 (batch t) n ⟨128 * (head t).val + e.val, by omega⟩) := by
    blk_ext [iblk, index2 t, batch, head]
  rw [h]
  entry_read
  rw [← scale_eq]
  pointwise

theorem k_at (t : Fin cfg0.N) (n : Fin 4096) (e : Fin 128) :
    iblk m c 3 t (ix3 0 n e) = m (c.tc.loc main_arg1) (ix3 (batch t) n ⟨128 * (head t).val + e.val, by omega⟩) := by
  have h : iblk m c 3 t (ix3 0 n e) = V m c main_v5 (ix3 (batch t) n ⟨128 * (head t).val + e.val, by omega⟩) := by
    blk_ext [iblk, index3 t, batch, head]
  rw [h]
  entry_read
  pointwise

theorem v_at (t : Fin cfg0.N) (n : Fin 4096) (e : Fin 128) :
    iblk m c 4 t (ix3 0 n e) = m (c.tc.loc main_arg2) (ix3 (batch t) n ⟨128 * (head t).val + e.val, by omega⟩) := by
  have h : iblk m c 4 t (ix3 0 n e) = V m c main_v6 (ix3 (batch t) n ⟨128 * (head t).val + e.val, by omega⟩) := by
    blk_ext [iblk, index4 t, batch, head]
  rw [h]
  entry_read
  pointwise

theorem gain_at (t : Fin cfg0.N) (e : Fin 128) : iblk m c 1 t (ix2 0 e) = m (c.tc.loc main_arg7) (ix2 0 e) := by
  have h : iblk m c 1 t (ix2 0 e) = V m c main_v17 (ix2 0 e) := by
    blk_ext [iblk, index1 t]
  rw [h]
  entry_read
  pointwise

end Cert.Proof.KernelIdeal
end
-- ==== Proof.Lambda.lean ====
/-
  The kernel's lambda operand: the four vectors, one to a row.
-/
module

public import proofs.«01_k».proof.Proof.Inputs

@[expose] public section

set_option maxRecDepth 16384
set_option maxHeartbeats 1000000

noncomputable section

namespace Cert.Proof.KernelIdeal

open Cert.KernelIdeal Cert.KernelIdeal.Gen
open Idealize.ShloMosaic

variable (m : (ℓ : Loc nD τ sig) → Buf (Elt Ideal) ℓ) (c : Dev nD)

/-- The four lambda vectors stacked, in the four rows that were stacked. -/
theorem stacked : V m c main_v15 = concatenate S4x64 0 [⟨S1x64, (V m c main_v11 : Vec Ideal S1x64 .f32)⟩, ⟨S1x64, (V m c main_v12 : Vec Ideal S1x64 .f32)⟩,
    ⟨S1x64, (V m c main_v13 : Vec Ideal S1x64 .f32)⟩, ⟨S1x64, (V m c main_v14 : Vec Ideal S1x64 .f32)⟩] concatenates_S1x64_S1x64_S1x64_S1x64_S4x64_d0 := by
  unfold V
  simp only [hostOps0, StableHlo.after_cons, StableHlo.after_nil]
  generalize (StableHlo.unary main_v10 main_v14 _ _ _).result _ = W
  repeat rw [StableHlo.reshape_result_ne]
  rw [StableHlo.nary_result, StableHlo.nary_result_ne, StableHlo.nary_result_ne, StableHlo.nary_result_ne, StableHlo.nary_result_ne]
  · rfl
  all_goals decide

theorem row0_at (d : Fin 64) : V m c main_v11 (ix2 0 d) = m (c.tc.loc main_arg3) (ix2 0 d) := by
  entry_read
  pointwise

theorem row1_at (d : Fin 64) : V m c main_v12 (ix2 0 d) = m (c.tc.loc main_arg4) (ix2 0 d) := by
  entry_read
  pointwise

theorem row2_at (d : Fin 64) : V m c main_v13 (ix2 0 d) = m (c.tc.loc main_arg5) (ix2 0 d) := by
  entry_read
  pointwise

theorem row3_at (d : Fin 64) : V m c main_v14 (ix2 0 d) = m (c.tc.loc main_arg6) (ix2 0 d) := by
  entry_read
  pointwise

theorem lam0_at (t : Fin cfg0.N) (d : Fin 64) : iblk m c 0 t (ix2 0 d) = m (c.tc.loc main_arg3) (ix2 0 d) := by
  have e : iblk m c 0 t (ix2 0 d) = V m c main_v15 (ix2 0 d) := by
    blk_ext [iblk, index0 t]
  rw [e, stacked]
  concat_tiles i h
  all_goals first
    | (refine absurd h ?_; show ¬ (0 : ℕ) = _; decide)
    | (rw [show i = ix2 0 d from funext fun a => by fin_cases a <;> exact Fin.ext (by assumption)]
       exact row0_at m c d)

theorem lam1_at (t : Fin cfg0.N) (d : Fin 64) : iblk m c 0 t (ix2 1 d) = m (c.tc.loc main_arg4) (ix2 0 d) := by
  have e : iblk m c 0 t (ix2 1 d) = V m c main_v15 (ix2 1 d) := by
    blk_ext [iblk, index0 t]
  rw [e, stacked]
  concat_tiles i h
  all_goals first
    | (refine absurd h ?_; show ¬ (1 : ℕ) = _; decide)
    | (rw [show i = ix2 0 d from funext fun a => by fin_cases a <;> exact Fin.ext (by assumption)]
       exact row1_at m c d)

theorem lam2_at (t : Fin cfg0.N) (d : Fin 64) : iblk m c 0 t (ix2 2 d) = m (c.tc.loc main_arg5) (ix2 0 d) := by
  have e : iblk m c 0 t (ix2 2 d) = V m c main_v15 (ix2 2 d) := by
    blk_ext [iblk, index0 t]
  rw [e, stacked]
  concat_tiles i h
  all_goals first
    | (refine absurd h ?_; show ¬ (2 : ℕ) = _; decide)
    | (rw [show i = ix2 0 d from funext fun a => by fin_cases a <;> exact Fin.ext (by assumption)]
       exact row2_at m c d)

theorem lam3_at (t : Fin cfg0.N) (d : Fin 64) : iblk m c 0 t (ix2 3 d) = m (c.tc.loc main_arg6) (ix2 0 d) := by
  have e : iblk m c 0 t (ix2 3 d) = V m c main_v15 (ix2 3 d) := by
    blk_ext [iblk, index0 t]
  rw [e, stacked]
  concat_tiles i h
  all_goals first
    | (refine absurd h ?_; show ¬ (3 : ℕ) = _; decide)
    | (rw [show i = ix2 0 d from funext fun a => by fin_cases a <;> exact Fin.ext (by assumption)]
       exact row3_at m c d)

end Cert.Proof.KernelIdeal
end
-- ==== Proof.Finite.lean ====
/-
  The precondition read: every entry of the seven tensors it tests is a real number.
-/
module

public import proofs.«01_k».proof.Defs
public import proofs.«01_k».proof.Proof.Online
public import Idealize.ShloMosaic.Lib.Pointwise
public import Idealize.ShloMosaic.Lib.ReduceAll

@[expose] public section

set_option maxRecDepth 16384

noncomputable section

namespace Cert.Proof

open Idealize.ShloMosaic

theorem facts_finite : Cert.Pre_finite.Facts where
  bcast_S_S8x4096x512 := by decide
  reducesTo_S8x4096x512_S_d0_1_2 := by decide
  h_S_ := by decide
  bcast_S_S1x64 := by decide
  reducesTo_S1x64_S_d0_1 := by decide

theorem ofBits_inf : Ideal.ofBits .f32 0x7F800000#32 = ⊤ := by
  simp [Ideal.ofBits, Ideal.ieee]

/-- An extended real whose absolute value is below plus infinity is a real. -/
theorem real_of_abs_lt (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

open Cert.Pre_finite in
/-- One test of the precondition: all entries are below plus infinity in absolute value. -/
theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) := by
  haveI : Subsingleton S_.Idx := ⟨fun a b => funext fun k => k.elim0⟩
  have h1 := Host.reduce_andi_all _ _ hr hu j h i
  refine real_of_abs_lt (x i) ?_
  rw [← ofBits_inf]
  exact h1

/-- The precondition gives a real for every entry of the queries, keys, values and the four vectors of lambda. -/
theorem finite_all [Cert.Pre_finite.Facts] (x0 x1 x2 : FVec Ideal Cert.Pre_finite.S8x4096x512 .f32) (x3 x4 x5 x6 : FVec Ideal Cert.Pre_finite.S1x64 .f32)
    (x7 : FVec Ideal Cert.Pre_finite.S1x128 .f32) (h : Cert.Pre_finite.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have j : Cert.Pre_finite.S_.Idx := fun k => k.elim0
  have h := congrFun h j
  dsimp only [Cert.Pre_finite.fn, Cert.Pre_finite.fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ j h0, real_of_all x1 _ _ _ j h1, real_of_all x2 _ _ _ j h2, real_of_all x3 _ _ _ j h3,
    real_of_all x4 _ _ _ j h4, real_of_all x5 _ _ _ j h5, real_of_all x6 _ _ _ j h6⟩

end Cert.Proof
end
-- ==== Proof.Value.lean ====
/-
  The result array of the kernel is the reference's, and the two runs side by side.
-/
module

public import proofs.«01_k».proof.Proof.Blocks
public import proofs.«01_k».proof.Proof.Lambda
public import proofs.«01_k».proof.Proof.Finite

@[expose] public section

set_option maxRecDepth 16384
set_option maxHeartbeats 1000000

noncomputable section

namespace Cert.Proof.KernelIdeal

open Cert.KernelIdeal Cert.KernelIdeal.Gen
open Idealize.ShloMosaic

/-- The factor of the second map is a real when the two sums of products are. -/
theorem lamOf_real (s1 s2 : ℝ) : ∃ r : ℝ, lamOf (s1 : EReal) (s2 : EReal) = (r : EReal) := by
  have e : Ideal.ofBits .f32 0x3E4CCCCD#32 = ((13421773 / 67108864 : ℝ) : EReal) := by
    simp [Ideal.ofBits, Ideal.ieee, -EReal.coe_mul]; norm_num
  refine ⟨Real.exp s1 - Real.exp s2 + 13421773 / 67108864, ?_⟩
  unfold lamOf
  rw [Ideal.exp_coe, Ideal.exp_coe, e, ← EReal.coe_sub, ← EReal.coe_add]

/-- A sum of products of reals is a real. -/
theorem sum_real (x y : Fin 64 → EReal) (hx : ∀ d, ∃ r : ℝ, x d = (r : EReal)) (hy : ∀ d, ∃ r : ℝ, y d = (r : EReal)) :
    ∃ r : ℝ, ∑ d, x d * y d = (r : EReal) := by
  choose f hf using hx
  choose g hg using hy
  refine ⟨∑ d, f d * g d, ?_⟩
  rw [coe_sum]
  refine Finset.sum_congr rfl fun d _ => ?_
  rw [hf, hg, EReal.coe_mul]

variable (m : (ℓ : Loc nD τ sig) → Buf (Elt Ideal) ℓ) (c : Dev nD)

/-- The reference's result on the kernel's arguments. -/
abbrev G : Vec Ideal S8x4096x512 .bf16 :=
  Cert.ReferenceIdeal.Read.val_main_v63 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))

/-- The row numbers past the array hold zero: no row reads them. -/
def rowsOf (f : S8x4096x512.Idx → ℝ) (b : Fin 8) (h : Fin 4) (n : ℕ) (d : Fin 128) : ℝ :=
  if hn : n < 4096 then f (ix3 b ⟨n, hn⟩ ⟨128 * h.val + d.val, by omega⟩) else 0

theorem rowsOf_fin (f : S8x4096x512.Idx → ℝ) (b : Fin 8) (h : Fin 4) (n : Fin 4096) (d : Fin 128) :
    rowsOf f b h n.val d = f (ix3 b n ⟨128 * h.val + d.val, by omega⟩) := dif_pos n.isLt

/-- What a grid point leaves is the reference's result there. -/
theorem block_eq (x0 x1 x2 : FVec Ideal S8x4096x512 .f32) (x3 x4 x5 x6 : FVec Ideal S1x64 .f32) (x7 : FVec Ideal S1x128 .f32)
    (f0 f1 f2 : S8x4096x512.Idx → ℝ) (h0 : ∀ i, x0 i = (f0 i : EReal)) (h1 : ∀ i, x1 i = (f1 i : EReal)) (h2 : ∀ i, x2 i = (f2 i : EReal))
    (lam : ℝ) (hl : lamOf (∑ d : Fin 64, x3 (ix2 0 d) * x4 (ix2 0 d)) (∑ d : Fin 64, x5 (ix2 0 d) * x6 (ix2 0 d)) = (lam : EReal))
    (b : Fin 8) (h : Fin 4) (y2 : Vec Ideal S4x64 .f32) (y3 : Vec Ideal S1x128 .f32) (y4 y5 y6 : Vec Ideal S1x4096x128 .bf16)
    (e20 : ∀ d : Fin 64, y2 (ix2 0 d) = x3 (ix2 0 d)) (e21 : ∀ d : Fin 64, y2 (ix2 1 d) = x4 (ix2 0 d))
    (e22 : ∀ d : Fin 64, y2 (ix2 2 d) = x5 (ix2 0 d)) (e23 : ∀ d : Fin 64, y2 (ix2 3 d) = x6 (ix2 0 d))
    (e3 : ∀ e : Fin 128, y3 (ix2 0 e) = x7 (ix2 0 e))
    (e4 : ∀ (n : Fin 4096) (e : Fin 128), y4 (ix3 0 n e) = (show EReal from x0 (ix3 b n ⟨128 * h.val + e.val, by omega⟩)) * ((1 / 8 / Real.log 2 : ℝ) : EReal))
    (e5 : ∀ (n : Fin 4096) (e : Fin 128), y5 (ix3 0 n e) = x1 (ix3 b n ⟨128 * h.val + e.val, by omega⟩))
    (e6 : ∀ (n : Fin 4096) (e : Fin 128), y6 (ix3 0 n e) = x2 (ix3 b n ⟨128 * h.val + e.val, by omega⟩))
    (n : Fin 4096) (e : Fin 128) :
    outBlk y2 y3 y4 y5 y6 (ix3 0 n e)
      = Cert.ReferenceIdeal.Read.val_main_v63 (F := Ideal) x0 x1 x2 x3 x4 x5 x6 x7 (ix3 b n ⟨128 * h.val + e.val, by omega⟩) := by
  rw [outBlk_at y2 y3 y4 y5 y6 (fun n d => rowsOf f0 b h n d * (1 / 8 / Real.log 2)) (rowsOf f1 b h) (rowsOf f2 b h)
      (fun n e => by rw [e4, h0, EReal.coe_mul, rowsOf_fin])
      (fun n e => by rw [e5, h1, rowsOf_fin]) (fun n e => by rw [e6, h2, rowsOf_fin]) n e,
    Reference.result_at x0 x1 x2 x3 x4 x5 x6 x7 b h n e, e3]
  congr 1
  funext x
  rw [odRow_eq, Reference.weighed_real x0 x1 x2 x3 x4 x5 x6 b h n x (rowsOf f0 b h) (rowsOf f1 b h) (rowsOf f2 b h)
    (fun n e => by rw [h0, rowsOf_fin]) (fun n e => by rw [h1, rowsOf_fin]) (fun n e => by rw [h2, rowsOf_fin]) lam hl]
  congr 2
  rw [← hl]
  congr 1
  · exact Finset.sum_congr rfl fun d _ => by rw [e20, e21]
  · exact Finset.sum_congr rfl fun d _ => by rw [e22, e23]

/-- The kernel's result array after the run is the reference's result on the same arguments. -/
theorem final [Cert.Pre_finite.Facts] (hm : Cert.Pre_KernelIdeal_finite m) : (dats m 0 c).arrAt 5 cfg0.N = G m c := by
  obtain ⟨a0, a1, a2, a3, a4, a5, a6⟩ := finite_all _ _ _ _ _ _ _ _ (hm c)
  choose f0 h0 using a0
  choose f1 h1 using a1
  choose f2 h2 using a2
  obtain ⟨s1, hs1⟩ := sum_real (fun d => m (c.tc.loc main_arg3) (ix2 0 d)) (fun d => m (c.tc.loc main_arg4) (ix2 0 d)) (fun d => a3 _) (fun d => a4 _)
  obtain ⟨s2, hs2⟩ := sum_real (fun d => m (c.tc.loc main_arg5) (ix2 0 d)) (fun d => m (c.tc.loc main_arg6) (ix2 0 d)) (fun d => a5 _) (fun d => a6 _)
  obtain ⟨lam, hl⟩ := lamOf_real s1 s2
  rw [← hs1, ← hs2] at hl
  refine (dats m 0 c).arrAt_eq_of_covers 5 _ (by decide +kernel) fun t hf y => ?_
  blk_simp
  rw [after0_5]
  have hy : y = ix3 0 (y 1) (y 2) := by
    funext a
    fin_cases a
    · exact Fin.ext (by have : (y 0).val < 1 := (y 0).isLt; show (y 0).val = 0; omega)
    · rfl
    · rfl
  have he : (win0_5.blk t).view.emb y = ix3 (batch t) (y 1) ⟨128 * (head t).val + (y 2).val, by have := (head t).isLt; have : (y 2).val < 128 := (y 2).isLt; omega⟩ := by
    blk_ext [index5 t, batch, head]
  rw [he]
  have key := block_eq _ _ _ _ _ _ _ _ f0 f1 f2 h0 h1 h2 lam hl (batch t) (head t) (iblk m c 0 t) (iblk m c 1 t) (iblk m c 2 t) (iblk m c 3 t) (iblk m c 4 t)
    (lam0_at m c t) (lam1_at m c t) (lam2_at m c t) (lam3_at m c t) (gain_at m c t) (q_at m c t) (k_at m c t) (v_at m c t) (y 1) (y 2)
  rw [hy]
  exact key

/-- Both programs, from equal arguments that are real, end with equal results. -/
theorem algebraic (hF : Cert.Pre_finite.Facts) : @Cert.algebraic_KernelIdeal_ReferenceIdeal_pre_finite Cert.KernelIdeal.Gen.facts Cert.ReferenceIdeal.Gen.facts hF := by
  intro m g m' g' hm hagree
  refine ⟨fun c => G m c, ?_, ?_⟩
  · refine (θ_run Cert.KernelIdeal.defs _ _).mono (fun r h c => ?_) (θ_run_and (run_main m g) (frame_claim m g))
    exact ⟨(h.1.out_eq c 5).trans (final m c hm), h.2.1 c⟩
  · refine (θ_run Cert.ReferenceIdeal.defs _ _).mono (fun r h c => ?_) (Cert.ReferenceIdeal.Value.run (F := Ideal) m' g')
    refine ⟨(h c).1.trans ?_, (h c).2⟩
    rw [Cert.ReferenceIdeal.Read.val_main_v63_eq]
    obtain ⟨e0, e1, e2, e3, e4, e5, e6, e7⟩ := hagree c
    rw [e0, e1, e2, e3, e4, e5, e6, e7]

end Cert.Proof.KernelIdeal
end
-- ==== Proof.Project.lean ====
/-
  The combined projection: the kernel's four result arrays are the four column ranges of `x @ w_in`, the queries
  scaled by one eighth over the logarithm of two.
-/
module

public import proofs.«01_k».proof.Proof.Gen.Project.Frame
public import proofs.«01_k».proof.Proof.Gen.ProjectIdeal.Value
public import proofs.«01_k».proof.Proof.Gen.ReferenceProjectIdeal.Run
public import proofs.«01_k».proof.Proof.Gen.ReferenceProjectIdeal.Read
public import proofs.«01_k».proof.Defs
public import proofs.«01_k».proof.Proof.Inputs
public import Idealize.ShloMosaic.Lib.Quiescent
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Proof.Project

open Cert.ProjectIdeal Cert.ProjectIdeal.Gen Cert.ReferenceProjectIdeal.Read
open Idealize.ShloMosaic

/-- The reference's run ends with its arguments unchanged and its counters at zero. -/
theorem frame_reference : Cert.quiescent_ReferenceProjectIdeal := fun m ρ _ =>
  (θ_run Cert.ReferenceProjectIdeal.defs _ _).mono
    (fun r h => ⟨fun c => (h c).2.2.2.2, sem_eq_zero_of_no_sems (by decide) r.2⟩)
    (Cert.ReferenceProjectIdeal.Value.run (F := Ideal) m ρ)

variable (m : (ℓ : Loc nD τ sig) → Buf (Elt Ideal) ℓ) (c : Dev nD)

theorem index0 : ∀ t : Fin cfg0.N, win0_0.index t = ![t.val / 8, t.val % 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 8, t.val % 8, 0] := (by decide +kernel : ∀ t : Fin grid0.N, _)
theorem index3 : ∀ t : Fin cfg0.N, win0_3.index t = ![t.val / 8, t.val % 8, 0] := (by decide +kernel : ∀ t : Fin grid0.N, _)
theorem index4 : ∀ t : Fin cfg0.N, win0_4.index t = ![t.val / 8, t.val % 8, 0] := (by decide +kernel : ∀ t : Fin grid0.N, _)
theorem index5 : ∀ t : Fin cfg0.N, win0_5.index t = ![t.val / 8, t.val % 8, 0] := (by decide +kernel : ∀ t : Fin grid0.N, _)

theorem points : cfg0.N = 64 := N_0

/-- The batch element of a grid point. -/
def batch (t : Fin cfg0.N) : Fin 8 := ⟨t.val / 8, by have h : t.val < 64 := lt_of_lt_of_eq t.isLt points; omega⟩
/-- The position of row `n` of the point's block. -/
def pos (t : Fin cfg0.N) (n : Fin 512) : Fin 4096 := ⟨t.val % 8 * 512 + n.val, by omega⟩

theorem x_at (t : Fin cfg0.N) (n : Fin 512) (k : Fin 1024) :
    iblk m c 0 t (ix3 0 n k) = m (c.tc.loc main_arg0) (ix3 (batch t) (pos t n) k) := by
  have h : iblk m c 0 t (ix3 0 n k) = V m c main_arg0 (ix3 (batch t) (pos t n) k) := by
    blk_ext [iblk, index0 t, batch, pos]
  rw [h, V_main_arg0]

theorem w_at (t : Fin cfg0.N) (k : Fin 1024) (e : Fin 2048) :
    iblk m c 1 t (ix2 k e) = m (c.tc.loc main_arg1) (ix3 0 k e) := by
  have h : iblk m c 1 t (ix2 k e) = V m c main_v1 (ix2 k e) := by
    blk_ext [iblk, index1 t]
  rw [h]
  entry_read
  pointwise

/-- The queries' block: the first 512 columns of the rows' product with the weights, scaled. -/
theorem block2 (y0 : Vec Ideal S1x512x1024 .f32) (y1 : Vec Ideal S1024x2048 .bf16) (n e : Fin 512) :
    out0_2 y0 y1 (ix3 0 n e)
      = (∑ k : Fin 1024, y0 (ix3 0 n k) * y1 (ix2 k ⟨e.val, by omega⟩)) * ((1 / 8 / Real.log 2 : ℝ) : EReal) := by
  have hs : (8 * Real.log 2)⁻¹ = 1 / 8 / Real.log 2 := by rw [mul_inv]; ring
  frame_out
  unfold_payloads
  pointwise [Named.named, κ, hs, Option.getD_some]

/-- The keys' block: the second 512 columns. -/
theorem block3 (y0 : Vec Ideal S1x512x1024 .f32) (y1 : Vec Ideal S1024x2048 .bf16) (n e : Fin 512) :
    out0_3 y0 y1 (ix3 0 n e) = ∑ k : Fin 1024, y0 (ix3 0 n k) * y1 (ix2 k ⟨512 + e.val, by omega⟩) := by
  frame_out
  unfold_payloads
  pointwise

/-- The values' block: the third 512 columns. -/
theorem block4 (y0 : Vec Ideal S1x512x1024 .f32) (y1 : Vec Ideal S1024x2048 .bf16) (n e : Fin 512) :
    out0_4 y0 y1 (ix3 0 n e) = ∑ k : Fin 1024, y0 (ix3 0 n k) * y1 (ix2 k ⟨1024 + e.val, by omega⟩) := by
  frame_out
  unfold_payloads
  pointwise

/-- The recurrence inputs' block: the fourth 512 columns. -/
theorem block5 (y0 : Vec Ideal S1x512x1024 .f32) (y1 : Vec Ideal S1024x2048 .bf16) (n e : Fin 512) :
    out0_5 y0 y1 (ix3 0 n e) = ∑ k : Fin 1024, y0 (ix3 0 n k) * y1 (ix2 k ⟨1536 + e.val, by omega⟩) := by
  frame_out
  unfold_payloads
  pointwise

theorem ref2 (x0 : (⟨S8x4096x1024, .f32⟩ : BufTy).Contents (Elt Ideal)) (x1 : (⟨S1x1024x2048, .f32⟩ : BufTy).Contents (Elt Ideal))
    (b : Fin 8) (n : Fin 4096) (e : Fin 512) :
    val_main_v10 (F := Ideal) x0 x1 (ix3 b n e)
      = (∑ k : Fin 1024, x0 (ix3 b n k) * x1 (ix3 0 k ⟨e.val, by omega⟩)) * ((1 / 8 / Real.log 2 : ℝ) : EReal) := by
  rw [← Cert.Proof.KernelIdeal.scale_eq]
  pointwise [val_main_v10, val_main_v9, val_main_v8, val_main_v7, val_main_v6, val_main_cst, val_main_cst_0, val_main_v2,
    val_main_v1, val_main_v0]

theorem ref3 (x0 : (⟨S8x4096x1024, .f32⟩ : BufTy).Contents (Elt Ideal)) (x1 : (⟨S1x1024x2048, .f32⟩ : BufTy).Contents (Elt Ideal))
    (b : Fin 8) (n : Fin 4096) (e : Fin 512) :
    val_main_v11 (F := Ideal) x0 x1 (ix3 b n e) = ∑ k : Fin 1024, x0 (ix3 b n k) * x1 (ix3 0 k ⟨512 + e.val, by omega⟩) := by
  pointwise [val_main_v11, val_main_v3, val_main_v1, val_main_v0]

theorem ref4 (x0 : (⟨S8x4096x1024, .f32⟩ : BufTy).Contents (Elt Ideal)) (x1 : (⟨S1x1024x2048, .f32⟩ : BufTy).Contents (Elt Ideal))
    (b : Fin 8) (n : Fin 4096) (e : Fin 512) :
    val_main_v12 (F := Ideal) x0 x1 (ix3 b n e) = ∑ k : Fin 1024, x0 (ix3 b n k) * x1 (ix3 0 k ⟨1024 + e.val, by omega⟩) := by
  pointwise [val_main_v12, val_main_v4, val_main_v1, val_main_v0]

theorem ref5 (x0 : (⟨S8x4096x1024, .f32⟩ : BufTy).Contents (Elt Ideal)) (x1 : (⟨S1x1024x2048, .f32⟩ : BufTy).Contents (Elt Ideal))
    (b : Fin 8) (n : Fin 4096) (e : Fin 512) :
    val_main_v5 (F := Ideal) x0 x1 (ix3 b n e) = ∑ k : Fin 1024, x0 (ix3 b n k) * x1 (ix3 0 k ⟨1536 + e.val, by omega⟩) := by
  pointwise [val_main_v5, val_main_v1, val_main_v0]

theorem row_of (y : S1x512x512.Idx) : y = ix3 0 (y 1) (y 2) := by
  funext a
  fin_cases a
  · exact Fin.ext (by have : (y 0).val < 1 := (y 0).isLt; show (y 0).val = 0; omega)
  · rfl
  · rfl

theorem point2 (t : Fin cfg0.N) (n e : Fin 512) : out0_2 (iblk m c 0 t) (iblk m c 1 t) (ix3 0 n e)
    = val_main_v10 (F := Ideal) (m (c.tc.loc main_arg0)) (m (c.tc.loc main_arg1)) (ix3 (batch t) (pos t n) e) := by
  rw [block2, ref2]
  simp only [x_at, w_at]

/-- The queries after the run are the reference's. -/
theorem final2 : (dats m 0 c).arrAt 2 cfg0.N = val_main_v10 (F := Ideal) (m (c.tc.loc main_arg0)) (m (c.tc.loc main_arg1)) := by
  refine (dats m 0 c).arrAt_eq_of_covers 2 _ (by decide +kernel) fun t hf y => ?_
  blk_simp
  rw [after0_2]
  have he : (win0_2.blk t).view.emb y = ix3 (batch t) (pos t (y 1)) (y 2) := by
    blk_ext [index2 t, batch, pos]
  rw [he]
  rw [row_of y]
  exact point2 m c t (y 1) (y 2)

theorem point3 (t : Fin cfg0.N) (n e : Fin 512) : out0_3 (iblk m c 0 t) (iblk m c 1 t) (ix3 0 n e)
    = val_main_v11 (F := Ideal) (m (c.tc.loc main_arg0)) (m (c.tc.loc main_arg1)) (ix3 (batch t) (pos t n) e) := by
  rw [block3, ref3]
  simp only [x_at, w_at]

/-- The keys after the run are the reference's. -/
theorem final3 : (dats m 0 c).arrAt 3 cfg0.N = val_main_v11 (F := Ideal) (m (c.tc.loc main_arg0)) (m (c.tc.loc main_arg1)) := by
  refine (dats m 0 c).arrAt_eq_of_covers 3 _ (by decide +kernel) fun t hf y => ?_
  blk_simp
  rw [after0_3]
  have he : (win0_3.blk t).view.emb y = ix3 (batch t) (pos t (y 1)) (y 2) := by
    blk_ext [index3 t, batch, pos]
  rw [he]
  rw [row_of y]
  exact point3 m c t (y 1) (y 2)

theorem point4 (t : Fin cfg0.N) (n e : Fin 512) : out0_4 (iblk m c 0 t) (iblk m c 1 t) (ix3 0 n e)
    = val_main_v12 (F := Ideal) (m (c.tc.loc main_arg0)) (m (c.tc.loc main_arg1)) (ix3 (batch t) (pos t n) e) := by
  rw [block4, ref4]
  simp only [x_at, w_at]

/-- The values after the run are the reference's. -/
theorem final4 : (dats m 0 c).arrAt 4 cfg0.N = val_main_v12 (F := Ideal) (m (c.tc.loc main_arg0)) (m (c.tc.loc main_arg1)) := by
  refine (dats m 0 c).arrAt_eq_of_covers 4 _ (by decide +kernel) fun t hf y => ?_
  blk_simp
  rw [after0_4]
  have he : (win0_4.blk t).view.emb y = ix3 (batch t) (pos t (y 1)) (y 2) := by
    blk_ext [index4 t, batch, pos]
  rw [he]
  rw [row_of y]
  exact point4 m c t (y 1) (y 2)

theorem point5 (t : Fin cfg0.N) (n e : Fin 512) : out0_5 (iblk m c 0 t) (iblk m c 1 t) (ix3 0 n e)
    = val_main_v5 (F := Ideal) (m (c.tc.loc main_arg0)) (m (c.tc.loc main_arg1)) (ix3 (batch t) (pos t n) e) := by
  rw [block5, ref5]
  simp only [x_at, w_at]

/-- The recurrence's inputs after the run are the reference's. -/
theorem final5 : (dats m 0 c).arrAt 5 cfg0.N = val_main_v5 (F := Ideal) (m (c.tc.loc main_arg0)) (m (c.tc.loc main_arg1)) := by
  refine (dats m 0 c).arrAt_eq_of_covers 5 _ (by decide +kernel) fun t hf y => ?_
  blk_simp
  rw [after0_5]
  have he : (win0_5.blk t).view.emb y = ix3 (batch t) (pos t (y 1)) (y 2) := by
    blk_ext [index5 t, batch, pos]
  rw [he]
  rw [row_of y]
  exact point5 m c t (y 1) (y 2)

/-- Both programs, from equal arguments, end with equal results. -/
theorem algebraic : @Cert.algebraic_ProjectIdeal_ReferenceProjectIdeal Cert.ProjectIdeal.Gen.facts Cert.ReferenceProjectIdeal.Gen.facts := by
  intro m g m' g' _ hagree
  refine ⟨fun c => val_main_v10 (F := Ideal) (m (c.tc.loc main_arg0)) (m (c.tc.loc main_arg1)),
    fun c => val_main_v11 (F := Ideal) (m (c.tc.loc main_arg0)) (m (c.tc.loc main_arg1)),
    fun c => val_main_v12 (F := Ideal) (m (c.tc.loc main_arg0)) (m (c.tc.loc main_arg1)),
    fun c => val_main_v5 (F := Ideal) (m (c.tc.loc main_arg0)) (m (c.tc.loc main_arg1)), ?_, ?_⟩
  · refine (θ_run Cert.ProjectIdeal.defs _ _).mono (fun r h c => ?_) (Cert.ProjectIdeal.Value.run_blocks m g)
    obtain ⟨h2, h3, h4, h5, ha⟩ := h c
    exact ⟨h2.trans (final2 m c), h3.trans (final3 m c), h4.trans (final4 m c), h5.trans (final5 m c), ha⟩
  · refine (θ_run Cert.ReferenceProjectIdeal.defs _ _).mono (fun r h c => ?_) (Cert.ReferenceProjectIdeal.Value.run (F := Ideal) m' g')
    obtain ⟨h2, h3, h4, h5, ha⟩ := h c
    obtain ⟨e0, e1⟩ := hagree c
    rw [val_main_v10_eq] at h2
    rw [val_main_v11_eq] at h3
    rw [val_main_v12_eq] at h4
    rw [val_main_v5_eq] at h5
    rw [e0, e1] at h2 h3 h4 h5
    exact ⟨h2, h3, h4, h5, ha⟩

end Cert.Proof.Project
end
-- ==== Proof.Combine.lean ====
/-
  The second residual and its normalization: the weighted sum of the two experts' outputs, added to the scaled hidden
  state, row by row, and normalized.
-/
module

public import proofs.«01_k».proof.Proof.Gen.Combine.Frame
public import proofs.«01_k».proof.Proof.Gen.CombineIdeal.Frame
public import proofs.«01_k».proof.Proof.Gen.ReferenceCombineIdeal.Run
public import proofs.«01_k».proof.Proof.Gen.ReferenceCombineIdeal.Read
public import proofs.«01_k».proof.Defs
public import Idealize.ShloMosaic.Lib.Quiescent
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Proof.Combine

open Cert.CombineIdeal Cert.CombineIdeal.Gen Cert.ReferenceCombineIdeal.Read
open Idealize.ShloMosaic

/-- The reference's run ends with its arguments unchanged and its counters at zero. -/
theorem frame_reference : Cert.quiescent_ReferenceCombineIdeal := fun m ρ _ =>
  (θ_run Cert.ReferenceCombineIdeal.defs _ _).mono
    (fun r h => ⟨fun c => (h c).2, sem_eq_zero_of_no_sems (by decide) r.2⟩)
    (Cert.ReferenceCombineIdeal.Value.run (F := Ideal) m ρ)

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![128 + t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)

theorem points : cfg0.N = 128 := N_0

/-- The layer normalization of a row, its gain and its offset. -/
def norm (g b r : Fin 1024 → EReal) (e : Fin 1024) : EReal :=
  let mu := Ideal.div (∑ k, r k) (Ideal.ofBits .f32 0x44800000#32)
  let var := Ideal.div (∑ k, (r k - mu) * (r k - mu)) (Ideal.ofBits .f32 0x44800000#32)
  (r e - mu) * Ideal.rsqrt (var + Ideal.ofBits .f32 0x3727C5AC#32) * g e + b e

theorem pay1_at (v62 : FVec Ideal S256x1024 .f32) (v64 : FVec Ideal S1x1024 .f32) (v65 : Vec Ideal S1x1024 .f32) (n : Fin 256) (e : Fin 1024) :
    k0_pay1 v62 v64 v65 (ix2 n e) = norm (fun e => v64 (ix2 0 e)) (fun e => v65 (ix2 0 e)) (fun e => v62 (ix2 n e)) e := by
  pointwise [k0_pay1, norm]

/-- Eight tiles side by side: column `e` is column `e % 128` of tile `e / 128`. -/
theorem tile_at (X : S2048x128.Idx → EReal) (v0 v1 v2 v3 v4 v5 v6 v7 : FVec Ideal S256x128 .f32) (h) (n : Fin 256) (e : Fin 1024)
    (h0 : ∀ l : Fin 128, v0 (ix2 n l) = X (ix2 ⟨8 * n.val + 0, by omega⟩ l))
    (h1 : ∀ l : Fin 128, v1 (ix2 n l) = X (ix2 ⟨8 * n.val + 1, by omega⟩ l))
    (h2 : ∀ l : Fin 128, v2 (ix2 n l) = X (ix2 ⟨8 * n.val + 2, by omega⟩ l))
    (h3 : ∀ l : Fin 128, v3 (ix2 n l) = X (ix2 ⟨8 * n.val + 3, by omega⟩ l))
    (h4 : ∀ l : Fin 128, v4 (ix2 n l) = X (ix2 ⟨8 * n.val + 4, by omega⟩ l))
    (h5 : ∀ l : Fin 128, v5 (ix2 n l) = X (ix2 ⟨8 * n.val + 5, by omega⟩ l))
    (h6 : ∀ l : Fin 128, v6 (ix2 n l) = X (ix2 ⟨8 * n.val + 6, by omega⟩ l))
    (h7 : ∀ l : Fin 128, v7 (ix2 n l) = X (ix2 ⟨8 * n.val + 7, by omega⟩ l)) :
    concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩] h (ix2 n e)
      = X (ix2 ⟨8 * n.val + e.val / 128, by omega⟩ ⟨e.val % 128, by omega⟩) := by
  pointwise
  by_cases q0 : e.val < 128
  · rw [dif_pos q0, h0]
    congr 3 <;> omega
  rw [dif_neg q0]
  by_cases q1 : e.val - 128 < 128
  · rw [dif_pos q1, h1]
    congr 3 <;> omega
  rw [dif_neg q1]
  by_cases q2 : e.val - 128 - 128 < 128
  · rw [dif_pos q2, h2]
    congr 3 <;> omega
  rw [dif_neg q2]
  by_cases q3 : e.val - 128 - 128 - 128 < 128
  · rw [dif_pos q3, h3]
    congr 3 <;> omega
  rw [dif_neg q3]
  by_cases q4 : e.val - 128 - 128 - 128 - 128 < 128
  · rw [dif_pos q4, h4]
    congr 3 <;> omega
  rw [dif_neg q4]
  by_cases q5 : e.val - 128 - 128 - 128 - 128 - 128 < 128
  · rw [dif_pos q5, h5]
    congr 3 <;> omega
  rw [dif_neg q5]
  by_cases q6 : e.val - 128 - 128 - 128 - 128 - 128 - 128 < 128
  · rw [dif_pos q6, h6]
    congr 3 <;> omega
  rw [dif_neg q6]
  rw [h7]
  congr 3 <;> omega

/-- The residual row before its normalization, over three arrays of tiles laid side by side. -/
theorem sum_at (v2 v3 : FVec Ideal S256x1 .f32) (A B C : FVec Ideal S256x1024 .f32) (h2 h3) (n : Fin 256) (e : Fin 1024) :
    addf (mulf (broadcast S256x1024 (Scalar.ofBits (F := Ideal) .f32 0x3F9837F0#32)) C)
        (addf (mulf (broadcastTo S256x1024 v2 h2) A) (mulf (broadcastTo S256x1024 v3 h3) B)) (ix2 n e)
      = Ideal.ofBits .f32 0x3F9837F0#32 * C (ix2 n e) + (v2 (ix2 n 0) * A (ix2 n e) + v3 (ix2 n 0) * B (ix2 n e)) := by
  pointwise

theorem gain_at (v : Vec Ideal S1x1024 .f32) (e : Fin 1024) : k0_pay12 v (ix2 0 e) = v (ix2 0 e) := by
  pointwise [k0_pay12]

theorem weight2_at (v : Vec Ideal S256x128 .f32) (n : Fin 256) : k0_pay3 v (ix2 n 0) = v (ix2 n 2) := by
  pointwise [k0_pay3, k0_pay2]

theorem weight3_at (v : Vec Ideal S256x128 .f32) (n : Fin 256) : k0_pay4 v (ix2 n 0) = v (ix2 n 3) := by
  pointwise [k0_pay4, k0_pay2]

/-- The residual row over the blocks of the hidden state, the two experts' outputs and the weights. -/
def row (X Y Z : S2048x128.Idx → EReal) (W : S256x128.Idx → EReal) (n : Fin 256) (e : Fin 1024) : EReal :=
  Ideal.ofBits .f32 0x3F9837F0#32 * X (ix2 ⟨8 * n.val + e.val / 128, by omega⟩ ⟨e.val % 128, by omega⟩)
    + (W (ix2 n 2) * Y (ix2 ⟨8 * n.val + e.val / 128, by omega⟩ ⟨e.val % 128, by omega⟩)
      + W (ix2 n 3) * Z (ix2 ⟨8 * n.val + e.val / 128, by omega⟩ ⟨e.val % 128, by omega⟩))

/-- A load of every eighth row of a block, from row `j` on. -/
theorem strided_at (M : Memref sig .tc .vmem S2048x128 .f32) (hM : M.IsWhole) (X : S2048x128.Idx → Elt Ideal .f32) (j : ℕ) (hj : j < 8) (h)
    (n : Fin 256) (l : Fin 128) :
    M.view.readAt (Elt Ideal) (⟨![j, 0], S256x128.size, ![8, 1], h⟩ : LoadRect S2048x128) (hM.unread X) (ix2 n l)
      = X (ix2 ⟨8 * n.val + j, by omega⟩ l) := by
  rw [View.readAt_apply, hM.read_unread]
  congr 1
  funext a
  fin_cases a
  · refine Fin.ext ?_
    show j + 8 * n.val = 8 * n.val + j
    omega
  · refine Fin.ext ?_
    show 0 + 1 * l.val = l.val
    omega

theorem norm_congr {g g' b b' r r' : Fin 1024 → EReal} (hg : ∀ e, g e = g' e) (hb : ∀ e, b e = b' e) (hr : ∀ e, r e = r' e) (e : Fin 1024) :
    norm g b r e = norm g' b' r' e := by
  rw [funext hg, funext hb, funext hr]

/-- A copy of a tile in its own shape. -/
theorem copy_at (v : Vec Ideal S256x128 .f32) (h) (i : S256x128.Idx) : shapeCast S256x128 v h i = v i := by
  rw [shapeCast_self]

theorem out_at (t : Fin cfg0.N) (n : Fin 256) (e : Fin 1024) :
    outsAt0 m c t (ix2 n e)
      = norm (fun e => iblk m c 4 t (ix2 0 e)) (fun e => iblk m c 5 t (ix2 0 e))
          (row (iblk m c 0 t) (iblk m c 1 t) (iblk m c 2 t) (iblk m c 3 t) n) e := by
  unfold outsAt0
  frame_out
  rw [pay1_at]
  refine norm_congr (fun e => ?_) (fun e => ?_) (fun e => ?_) e
  · exact gain_at _ _
  · pointwise
  · unfold k0_pay11
    refine (sum_at _ _ _ _ _ _ _ _ _).trans ?_
    rw [weight2_at, weight3_at]
    unfold k0_pay5 k0_pay6 k0_pay7 k0_pay8 k0_pay9 k0_pay10
    rw [tile_at (iblk m c 0 t), tile_at (iblk m c 1 t), tile_at (iblk m c 2 t)]
    · rfl
    all_goals
      intro l
      rw [copy_at]
      exact strided_at _ _ _ _ (by decide) _ n l

theorem read_entry (b : Ref sig .tc) : V m c b = StableHlo.after hostOps0 (fun b => m (c, b)) (Proc.devRef .tc b) := rfl

theorem v0_at (R : Fin 262144) (l : Fin 128) : V m c main_v0 (ix2 R l)
    = m (c.tc.loc main_arg0) (ix3 ⟨R.val / 32768, by omega⟩ ⟨R.val / 8 % 4096, by omega⟩ ⟨R.val % 8 * 128 + l.val, by omega⟩) := by
  rw [read_entry]
  entry_read
  pointwise

theorem v3_at (R : Fin 528384) (l : Fin 128) (hR : R.val < 524288) : V m c main_v3 (ix2 R l)
    = m (c.tc.loc main_arg1) (ix2 ⟨R.val / 8, by omega⟩ ⟨R.val % 8 * 128 + l.val, by omega⟩) := by
  rw [read_entry]
  entry_read
  pointwise
  rw [dif_pos (by omega)]

/-- The two weights between two zero columns before them and the columns of zeros after. -/
theorem padded : V m c main_v6 = concatenate S32768x128 1 [⟨S32768x2, (V m c main_v4 : Vec Ideal S32768x2 .f32)⟩, ⟨S32768x2, (m (c.tc.loc main_arg2) : Vec Ideal S32768x2 .f32)⟩,
    ⟨S32768x124, (V m c main_v5 : Vec Ideal S32768x124 .f32)⟩] concatenates_S32768x2_S32768x2_S32768x124_S32768x128_d1 := by
  rw [← V_main_arg2 m c]
  rw [read_entry, read_entry, read_entry, read_entry]
  simp only [hostOps0, StableHlo.after_cons, StableHlo.after_nil]
  generalize (StableHlo.unary main_cst_1 main_v5 _ _ _).result _ = W
  repeat rw [StableHlo.reshape_result_ne]
  rw [StableHlo.nary_result, StableHlo.nary_result_ne, StableHlo.nary_result_ne, StableHlo.nary_result_ne]
  · rfl
  all_goals decide

theorem v6_first (T : Fin 32768) : V m c main_v6 (ix2 T 2) = m (c.tc.loc main_arg2) (ix2 T 0) := by
  rw [padded]
  pointwise

theorem v6_second (T : Fin 32768) : V m c main_v6 (ix2 T 3) = m (c.tc.loc main_arg2) (ix2 T 1) := by
  rw [padded]
  pointwise

theorem v8_at (l : Fin 1024) : V m c main_v8 (ix2 0 l) = m (c.tc.loc main_arg3) (ix2 0 l) := by
  rw [read_entry]
  entry_read
  pointwise

theorem v10_at (l : Fin 1024) : V m c main_v10 (ix2 0 l) = m (c.tc.loc main_arg4) (ix2 0 l) := by
  rw [read_entry]
  entry_read
  pointwise

theorem h_at (t : Fin cfg0.N) (R : Fin 2048) (l : Fin 128) :
    iblk m c 0 t (ix2 R l) = V m c main_v0 (ix2 ⟨2048 * t.val + R.val, by have h : t.val < 128 := lt_of_lt_of_eq t.isLt points; omega⟩ l) := by
  blk_ext [iblk, index0 t]

theorem y0_at (t : Fin cfg0.N) (R : Fin 2048) (l : Fin 128) :
    iblk m c 1 t (ix2 R l) = V m c main_v3 (ix2 ⟨2048 * t.val + R.val, by have h : t.val < 128 := lt_of_lt_of_eq t.isLt points; omega⟩ l) := by
  blk_ext [iblk, index1 t]

theorem y1_at (t : Fin cfg0.N) (R : Fin 2048) (l : Fin 128) :
    iblk m c 2 t (ix2 R l) = V m c main_v3 (ix2 ⟨262144 + (2048 * t.val + R.val), by have h : t.val < 128 := lt_of_lt_of_eq t.isLt points; omega⟩ l) := by
  blk_ext [iblk, index2 t]

theorem w_at (t : Fin cfg0.N) (n : Fin 256) (l : Fin 128) :
    iblk m c 3 t (ix2 n l) = V m c main_v6 (ix2 ⟨256 * t.val + n.val, by have h : t.val < 128 := lt_of_lt_of_eq t.isLt points; omega⟩ l) := by
  blk_ext [iblk, index3 t]

theorem g_at (t : Fin cfg0.N) (e : Fin 1024) : iblk m c 4 t (ix2 0 e) = V m c main_v8 (ix2 0 e) := by
  blk_ext [iblk, index4 t]

theorem b_at (t : Fin cfg0.N) (e : Fin 1024) : iblk m c 5 t (ix2 0 e) = V m c main_v10 (ix2 0 e) := by
  blk_ext [iblk, index5 t]

/-- The reference's residual row. -/
theorem ref_at (x0 : (⟨S8x4096x1024, .f32⟩ : BufTy).Contents (Elt Ideal)) (x1 : (⟨S65536x1024, .f32⟩ : BufTy).Contents (Elt Ideal))
    (x2 : (⟨S32768x2, .f32⟩ : BufTy).Contents (Elt Ideal))
    (b : Fin 8) (n : Fin 4096) (e : Fin 1024) :
    val_main_v12 (F := Ideal) x0 x1 x2 (ix3 b n e)
      = Ideal.ofBits .f32 0x3F9837F0#32 * x0 (ix3 b n e)
        + (x2 (ix2 ⟨b.val * 4096 + n.val, by omega⟩ 0) * x1 (ix2 ⟨b.val * 4096 + n.val, by omega⟩ e)
          + x2 (ix2 ⟨b.val * 4096 + n.val, by omega⟩ 1) * x1 (ix2 ⟨32768 + (b.val * 4096 + n.val), by omega⟩ e)) := by
  pointwise [val_main_v12, val_main_v11, val_main_v10, val_main_cst, val_main_v9, val_main_v8, val_main_v7, val_main_v6, val_main_v5, val_main_v4, val_main_v3, val_main_v2, val_main_v1, val_main_v0]

theorem ref_norm (x0 : (⟨S8x4096x1024, .f32⟩ : BufTy).Contents (Elt Ideal)) (x1 : (⟨S65536x1024, .f32⟩ : BufTy).Contents (Elt Ideal))
    (x2 : (⟨S32768x2, .f32⟩ : BufTy).Contents (Elt Ideal)) (x3 x4 : (⟨S1x1024, .f32⟩ : BufTy).Contents (Elt Ideal))
    (b : Fin 8) (n : Fin 4096) (e : Fin 1024) :
    val_main_v38 (F := Ideal) x0 x1 x2 x3 x4 (ix3 b n e)
      = norm (fun e => x3 (ix2 0 e)) (fun e => x4 (ix2 0 e)) (fun e => val_main_v12 (F := Ideal) x0 x1 x2 (ix3 b n e)) e := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst_0, val_main_cst_1, val_main_cst_2, val_main_cst_3, val_main_cst_4, norm]

/-- The batch and the position of a row of the result. -/
theorem point (t : Fin cfg0.N) (n : Fin 256) (e : Fin 1024) (b : Fin 8) (p : Fin 4096) (hp : b.val * 4096 + p.val = 256 * t.val + n.val) :
    outsAt0 m c t (ix2 n e) = val_main_v38 (F := Ideal) (m (c.tc.loc main_arg0)) (m (c.tc.loc main_arg1)) (m (c.tc.loc main_arg2))
      (m (c.tc.loc main_arg3)) (m (c.tc.loc main_arg4)) (ix3 b p e) := by
  have ht : t.val < 128 := lt_of_lt_of_eq t.isLt points
  rw [out_at, ref_norm]
  refine norm_congr (fun e => ?_) (fun e => ?_) (fun e => ?_) e
  · exact (g_at m c t e).trans (v8_at m c e)
  · exact (b_at m c t e).trans (v10_at m c e)
  · rw [ref_at]
    have i0 : iblk m c 0 t (ix2 ⟨8 * n.val + e.val / 128, by omega⟩ ⟨e.val % 128, by omega⟩) = m (c.tc.loc main_arg0) (ix3 b p e) := by
      rw [h_at, v0_at]
      congr 1
      congr 1 <;> refine Fin.ext ?_ <;> simp only [] <;> omega
    have i1 : iblk m c 1 t (ix2 ⟨8 * n.val + e.val / 128, by omega⟩ ⟨e.val % 128, by omega⟩)
        = m (c.tc.loc main_arg1) (ix2 ⟨b.val * 4096 + p.val, by omega⟩ e) := by
      rw [y0_at, v3_at m c _ _ (by simp only []; omega)]
      congr 1
      congr 1 <;> refine Fin.ext ?_ <;> simp only [] <;> omega
    have i2 : iblk m c 2 t (ix2 ⟨8 * n.val + e.val / 128, by omega⟩ ⟨e.val % 128, by omega⟩)
        = m (c.tc.loc main_arg1) (ix2 ⟨32768 + (b.val * 4096 + p.val), by omega⟩ e) := by
      rw [y1_at, v3_at m c _ _ (by simp only []; omega)]
      congr 1
      congr 1 <;> refine Fin.ext ?_ <;> simp only [] <;> omega
    have row_eq : (⟨256 * t.val + n.val, by omega⟩ : Fin 32768) = ⟨b.val * 4096 + p.val, by omega⟩ := Fin.ext hp.symm
    have i3 : iblk m c 3 t (ix2 n 2) = m (c.tc.loc main_arg2) (ix2 ⟨b.val * 4096 + p.val, by omega⟩ 0) := by
      rw [w_at, v6_first, row_eq]
    have i4 : iblk m c 3 t (ix2 n 3) = m (c.tc.loc main_arg2) (ix2 ⟨b.val * 4096 + p.val, by omega⟩ 1) := by
      rw [w_at, v6_second, row_eq]
    unfold row
    rw [i0, i1, i2, i3, i4]

/-- The rows of all batches, one batch after another. -/
def flat (v : S8x4096x1024.Idx → EReal) (i : S32768x1024.Idx) : EReal :=
  v (ix3 ⟨(i 0).val / 4096, by have h : (i 0).val < 32768 := (i 0).isLt; omega⟩ ⟨(i 0).val % 4096, by omega⟩ (i 1))

/-- The call's result, whole: the reference's, its batches one after another. -/
theorem final : (dats m 0 c).arrAt 6 cfg0.N = flat (val_main_v38 (F := Ideal) (m (c.tc.loc main_arg0)) (m (c.tc.loc main_arg1))
    (m (c.tc.loc main_arg2)) (m (c.tc.loc main_arg3)) (m (c.tc.loc main_arg4))) := by
  refine (dats m 0 c).arrAt_eq_of_covers 6 _ (by decide +kernel) fun t hf y => ?_
  blk_simp
  rw [after0_6]
  have ht : t.val < 128 := lt_of_lt_of_eq t.isLt points
  have hn : (y 0).val < 256 := (y 0).isLt
  have hy : y = ix2 (y 0) (y 1) := by
    funext a
    fin_cases a <;> rfl
  have he : (win0_6.blk t).view.emb y = ix2 ⟨256 * t.val + (y 0).val, by omega⟩ (y 1) := by
    blk_ext [index6 t]
  rw [he]
  refine (congrArg (outsAt0 m c t) hy).trans ?_
  exact point m c t (y 0) (y 1) _ _ (by show (256 * t.val + (y 0).val) / 4096 * 4096 + (256 * t.val + (y 0).val) % 4096 = _; omega)

/-- Only the two blocks of the experts' outputs are taken from one array. -/
theorem shared : ∀ w w' : Fin 7, w ≠ w' → Pipeline.arrRef spec0 w = Pipeline.arrRef spec0 w' → w = 1 ∨ w = 2 := by decide

/-- The result after the last reshape is the reference's. -/
theorem result : Pipeline.afterTail₀ cfgs (dats m) 0 (V0 m) [hostOps1] c main_v12
    = val_main_v38 (F := Ideal) (m (c.tc.loc main_arg0)) (m (c.tc.loc main_arg1))
    (m (c.tc.loc main_arg2)) (m (c.tc.loc main_arg3)) (m (c.tc.loc main_arg4)) := by
  have hw : Pipeline.withArrays spec0 c (V0 m c) (fun w => (dats m 0 c).arrAt w cfg0.N) (Proc.devRef .tc main_v11) = (dats m 0 c).arrAt 6 cfg0.N := by
    refine Pipeline.withArrays_arr_shared spec0 c (V0 m c) _ (fun w w' hne e => ?_) 6
    rcases shared w w' hne e with rfl | rfl
    · exact ((dats m 0 c).arrAt_in 1 rfl _).trans (A_eq m c 1)
    · exact ((dats m 0 c).arrAt_in 2 rfl _).trans (A_eq m c 2)
  unfold Pipeline.afterTail₀
  simp only [hostOps1, List.flatten_cons, List.flatten_nil, List.append_nil, StableHlo.after_cons, StableHlo.after_nil]
  rw [StableHlo.reshape_result]
  funext i
  refine (congrArg (fun v : S32768x1024.Idx → EReal => shapeCast S8x4096x1024 v shapeCasts_S32768x1024_S8x4096x1024 i) (hw.trans (final m c))).trans ?_
  have hi : i = ix3 (i 0) (i 1) (i 2) := by
    funext a
    fin_cases a <;> rfl
  have h1 : (i 1).val < 4096 := (i 1).isLt
  rw [hi]
  pointwise [flat]
  refine congrArg _ (Eq.trans ?_ hi.symm)
  congr 1 <;> refine Fin.ext ?_ <;> simp only [] <;> omega

/-- Both programs, from equal arguments, end with equal results. -/
theorem algebraic : @Cert.algebraic_CombineIdeal_ReferenceCombineIdeal Cert.CombineIdeal.Gen.facts Cert.ReferenceCombineIdeal.Gen.facts := by
  intro m g m' g' _ hagree
  refine ⟨fun c => val_main_v38 (F := Ideal) (m (c.tc.loc main_arg0)) (m (c.tc.loc main_arg1))
    (m (c.tc.loc main_arg2)) (m (c.tc.loc main_arg3)) (m (c.tc.loc main_arg4)), ?_, ?_⟩
  · refine (θ_run Cert.CombineIdeal.defs _ _).mono (fun r h c => ?_) (θ_run_and (run_main m g) (unchanged m g))
    exact ⟨((h.1 c).2 main_v12 (Pipeline.mem_restRefs_of main_v12 (by decide) (by decide))).trans (result m c), h.2 c⟩
  · refine (θ_run Cert.ReferenceCombineIdeal.defs _ _).mono (fun r h c => ?_) (Cert.ReferenceCombineIdeal.Value.run (F := Ideal) m' g')
    obtain ⟨hv, ha⟩ := h c
    obtain ⟨e0, e1, e2, e3, e4⟩ := hagree c
    rw [val_main_v38_eq, e0, e1, e2, e3, e4] at hv
    exact ⟨hv, ha⟩

end Cert.Proof.Combine
end
-- ==== Proof.OutputRun.lean ====
/-
  The output projection's run: what its body leaves in the two results' blocks, the launch, and the frame. The hidden
  state's block is stored eight strided rows at a time, so its contents are read here off the eight stores.
-/
module

public import proofs.«01_k».proof.Proof.Gen.OutputIdeal.Frame
public import proofs.«01_k».proof.Proof.Gen.OutputIdeal.Skeleton
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Output

open Cert.OutputIdeal Cert.OutputIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body's stores leave in the two results' blocks, last store first, with the body's triple: the operands'
    blocks stay as they are. -/
def bodyRun (c : Dev nD) (i : grid0.Coords)
    (a0 : Memref sig .tc .vmem S1x512x512 .bf16) (w0 : a0.IsWhole) (a1 : Memref sig .tc .vmem S1x512x512 .bf16) (w1 : a1.IsWhole)
    (a2 : Memref sig .tc .vmem S1x512x1024 .f32) (w2 : a2.IsWhole) (a3 : Memref sig .tc .vmem S1024x1024 .bf16) (w3 : a3.IsWhole)
    (a4 : Memref sig .tc .vmem S1x1024 .f32) (w4 : a4.IsWhole) (a5 : Memref sig .tc .vmem S1x1024 .f32) (w5 : a5.IsWhole)
    (a6 : Memref sig .tc .vmem S1024x128 .bf16) (w6 : a6.IsWhole) (a7 : Memref sig .tc .vmem S4096x128 .f32) (w7 : a7.IsWhole)
    (a8 : Memref sig .tc .vmem S1x512x128 .f32) (w8 : a8.IsWhole)
    (x0 x1 : Vec F S1x512x512 .bf16) (x2 : Vec F S1x512x1024 .f32) (x3 : Vec F S1024x1024 .bf16) (x4 x5 : Vec F S1x1024 .f32) (x6 : Vec F S1024x128 .bf16) :
    { L : List (View.Piece (Elt F) S4096x128 .f32) × List (View.Piece (Elt F) S1x512x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ (∃ d, owns (c : Thread nD τ) a7 fullShare d) ∗ (∃ d, owns (c : Thread nD τ) a8 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4 ∗ owns (c : Thread nD τ) a5 fullShare x5
                ∗ owns (c : Thread nD τ) a6 fullShare x6
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E
              (cc0_out_proj_router i a0 w0 a1 w1 a2 w2 a3 w3 a4 w4 a5 w5 a6 w6 a7 w7 a8 w8) K } := by
  refine ⟨⟨?_, ?_⟩, fun E K => ?run⟩
  case run =>
    simp only [cc0_out_proj_router_eq_skeleton]; unfold cc0_out_proj_router_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := w0.eq_unread hf0; obtain rfl := w1.eq_unread hf1; obtain rfl := w2.eq_unread hf2
    obtain rfl := w3.eq_unread hf3; obtain rfl := w4.eq_unread hf4; obtain rfl := w5.eq_unread hf5; obtain rfl := w6.eq_unread hf6
    sl_exec
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; iexact H7
    iexists _; iexact H8

/-- Row `y 0` of the hidden state's block is stored by store `y 0 % 8`, at its row `y 0 / 8`. -/
theorem cover_hidden (c : Dev nD) (i : grid0.Coords)
    (a0 : Memref sig .tc .vmem S1x512x512 .bf16) (w0 : a0.IsWhole) (a1 : Memref sig .tc .vmem S1x512x512 .bf16) (w1 : a1.IsWhole)
    (a2 : Memref sig .tc .vmem S1x512x1024 .f32) (w2 : a2.IsWhole) (a3 : Memref sig .tc .vmem S1024x1024 .bf16) (w3 : a3.IsWhole)
    (a4 : Memref sig .tc .vmem S1x1024 .f32) (w4 : a4.IsWhole) (a5 : Memref sig .tc .vmem S1x1024 .f32) (w5 : a5.IsWhole)
    (a6 : Memref sig .tc .vmem S1024x128 .bf16) (w6 : a6.IsWhole) (a7 : Memref sig .tc .vmem S4096x128 .f32) (w7 : a7.IsWhole)
    (a8 : Memref sig .tc .vmem S1x512x128 .f32) (w8 : a8.IsWhole)
    (x0 x1 : Vec F S1x512x512 .bf16) (x2 : Vec F S1x512x1024 .f32) (x3 : Vec F S1024x1024 .bf16) (x4 x5 : Vec F S1x1024 .f32) (x6 : Vec F S1024x128 .bf16)
    (y : S4096x128.Idx) :
    ∃ p ∈ (bodyRun c i a0 w0 a1 w1 a2 w2 a3 w3 a4 w4 a5 w5 a6 w6 a7 w7 a8 w8 x0 x1 x2 x3 x4 x5 x6).1.1, y ∈ p.1.set := by
  have h0 : (y 0 : ℕ) < 4096 := (y 0).isLt
  have h1 : (y 1 : ℕ) < 128 := (y 1).isLt
  dsimp only [bodyRun]
  have key : ∀ j : ℕ, (y 0 : ℕ) % 8 = j → ∀ inb,
      y ∈ ({ off := ![j, 0], size := ![512, 128], stride := ![8, 1], inb := inb, stride_pos := spos_8_1 } : Rect S4096x128).set := fun j hj inb => by
    refine (LoadRect.mem_set _).mpr fun a => ?_
    match a with
    | ⟨0, _⟩ => exact ⟨(y 0 : ℕ) / 8, by show (y 0 : ℕ) / 8 < 512; omega, by show (y 0 : ℕ) = j + 8 * ((y 0 : ℕ) / 8); omega⟩
    | ⟨1, _⟩ => exact ⟨(y 1 : ℕ), h1, by show (y 1 : ℕ) = 0 + 1 * (y 1 : ℕ); omega⟩
  simp only [List.mem_cons, exists_eq_or_imp, List.not_mem_nil, false_and, exists_false, or_false]
  have hm : (y 0 : ℕ) % 8 < 8 := Nat.mod_lt _ (by omega)
  rcases (show (y 0 : ℕ) % 8 = 7 ∨ (y 0 : ℕ) % 8 = 6 ∨ (y 0 : ℕ) % 8 = 5 ∨ (y 0 : ℕ) % 8 = 4 ∨ (y 0 : ℕ) % 8 = 3 ∨ (y 0 : ℕ) % 8 = 2
    ∨ (y 0 : ℕ) % 8 = 1 ∨ (y 0 : ℕ) % 8 = 0 by omega) with h | h | h | h | h | h | h | h
  · exact .inl (key 7 h _)
  · exact .inr (.inl (key 6 h _))
  · exact .inr (.inr (.inl (key 5 h _)))
  · exact .inr (.inr (.inr (.inl (key 4 h _))))
  · exact .inr (.inr (.inr (.inr (.inl (key 3 h _)))))
  · exact .inr (.inr (.inr (.inr (.inr (.inl (key 2 h _))))))
  · exact .inr (.inr (.inr (.inr (.inr (.inr (.inl (key 1 h _)))))))
  · exact .inr (.inr (.inr (.inr (.inr (.inr (.inr ⟨_, rfl, key 0 h _⟩))))))

/-- The routing's block is stored whole. -/
theorem cover_route (c : Dev nD) (i : grid0.Coords)
    (a0 : Memref sig .tc .vmem S1x512x512 .bf16) (w0 : a0.IsWhole) (a1 : Memref sig .tc .vmem S1x512x512 .bf16) (w1 : a1.IsWhole)
    (a2 : Memref sig .tc .vmem S1x512x1024 .f32) (w2 : a2.IsWhole) (a3 : Memref sig .tc .vmem S1024x1024 .bf16) (w3 : a3.IsWhole)
    (a4 : Memref sig .tc .vmem S1x1024 .f32) (w4 : a4.IsWhole) (a5 : Memref sig .tc .vmem S1x1024 .f32) (w5 : a5.IsWhole)
    (a6 : Memref sig .tc .vmem S1024x128 .bf16) (w6 : a6.IsWhole) (a7 : Memref sig .tc .vmem S4096x128 .f32) (w7 : a7.IsWhole)
    (a8 : Memref sig .tc .vmem S1x512x128 .f32) (w8 : a8.IsWhole)
    (x0 x1 : Vec F S1x512x512 .bf16) (x2 : Vec F S1x512x1024 .f32) (x3 : Vec F S1024x1024 .bf16) (x4 x5 : Vec F S1x1024 .f32) (x6 : Vec F S1024x128 .bf16)
    (y : S1x512x128.Idx) :
    ∃ p ∈ (bodyRun c i a0 w0 a1 w1 a2 w2 a3 w3 a4 w4 a5 w5 a6 w6 a7 w7 a8 w8 x0 x1 x2 x3 x4 x5 x6).1.2, y ∈ p.1.set := by
  dsimp only [bodyRun]
  refine ⟨_, List.mem_cons_self .., (LoadRect.mem_set _).mpr fun a => ⟨(y a : ℕ), ?_⟩⟩
  match a with
  | ⟨0, _⟩ => exact ⟨(y 0).isLt, by show (y 0 : ℕ) = 0 + 1 * (y 0 : ℕ); omega⟩
  | ⟨1, _⟩ => exact ⟨(y 1).isLt, by show (y 1 : ℕ) = 0 + 1 * (y 1 : ℕ); omega⟩
  | ⟨2, _⟩ => exact ⟨(y 2).isLt, by show (y 2 : ℕ) = 0 + 1 * (y 2 : ℕ); omega⟩

variable (m : (ℓ : Loc nD τ sig) → Buf (Elt F) ℓ) (ρ : Dev nD → PrngReg)

/-! ## What the body is called with and what it leaves at each point -/

abbrev ms0 (t : Fin cfg0.N) := win0_0.stage (cfg0.slots t 0)
theorem hs0 (t : Fin cfg0.N) : (ms0 t).IsWhole := hstage0_0 ((cfg0.slots t 0).cast nbuf0_0)
abbrev ms1 (t : Fin cfg0.N) := win0_1.stage (cfg0.slots t 1)
theorem hs1 (t : Fin cfg0.N) : (ms1 t).IsWhole := hstage0_1 ((cfg0.slots t 1).cast nbuf0_1)
abbrev ms2 (t : Fin cfg0.N) := win0_2.stage (cfg0.slots t 2)
theorem hs2 (t : Fin cfg0.N) : (ms2 t).IsWhole := hstage0_2 ((cfg0.slots t 2).cast nbuf0_2)
abbrev ms3 (t : Fin cfg0.N) := win0_3.stage (cfg0.slots t 3)
theorem hs3 (t : Fin cfg0.N) : (ms3 t).IsWhole := hstage0_3 ((cfg0.slots t 3).cast nbuf0_3)
abbrev ms4 (t : Fin cfg0.N) := win0_4.stage (cfg0.slots t 4)
theorem hs4 (t : Fin cfg0.N) : (ms4 t).IsWhole := hstage0_4 ((cfg0.slots t 4).cast nbuf0_4)
abbrev ms5 (t : Fin cfg0.N) := win0_5.stage (cfg0.slots t 5)
theorem hs5 (t : Fin cfg0.N) : (ms5 t).IsWhole := hstage0_5 ((cfg0.slots t 5).cast nbuf0_5)
abbrev ms6 (t : Fin cfg0.N) := win0_6.stage (cfg0.slots t 6)
theorem hs6 (t : Fin cfg0.N) : (ms6 t).IsWhole := hstage0_6 ((cfg0.slots t 6).cast nbuf0_6)
abbrev ms7 (t : Fin cfg0.N) := win0_7.stage (cfg0.slots t 7)
theorem hs7 (t : Fin cfg0.N) : (ms7 t).IsWhole := hstage0_7 ((cfg0.slots t 7).cast nbuf0_7)
abbrev ms8 (t : Fin cfg0.N) := win0_8.stage (cfg0.slots t 8)
theorem hs8 (t : Fin cfg0.N) : (ms8 t).IsWhole := hstage0_8 ((cfg0.slots t 8).cast nbuf0_8)

/-- The stores' pieces at point `t`. -/
def piecesAt (c : Dev nD) (t : Fin cfg0.N) : List (View.Piece (Elt F) S4096x128 .f32) × List (View.Piece (Elt F) S1x512x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) (iblk m c 5 t) (iblk m c 6 t)).1

/-- The hidden state's block after point `t`. -/
def hiddenAt (c : Dev nD) (t : Fin cfg0.N) : Vec F S4096x128 .f32 := View.canon (piecesAt m c t).1

/-- The routing's block after point `t`. -/
def routeAt (c : Dev nD) (t : Fin cfg0.N) : Vec F S1x512x128 .f32 := View.canon (piecesAt m c t).2

/-- The proof data: the arrays as the region finds them, the inputs' blocks kept, the results' blocks as the stores leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hiddenAt m c t
    | ⟨8, _⟩ => routeAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = hiddenAt m c t := by dsimp only [dats]
theorem after_8 (c : Dev nD) (t : Fin cfg0.N) : (dats m 0 c).after 8 t = routeAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body's obligation at each point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold hiddenAt routeAt piecesAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover_hidden c _ _ _ _ _ _ _ _ _ _ _ _ _ _ _ _ _ _ _ _ _ _ _ _ _ _ )
  · unfold owns; iexists _; isplitr
    swap; · iexact H8
    ipureintro; exact View.read_writes_eq_canon _ _ _ (cover_route c _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- Every run ends with the windows' arrays as the proof data compute them, the lines after the region done, and every
    counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) :=
  frame_of m ρ (dats m) (A_eq m) (run_main m ρ)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.Output
end
-- ==== Proof.Output.lean ====
/-
  The output projection, the first residual and its normalization: the product over the two halves of the mixed heads,
  added to the scaled input, row by row, and normalized.
-/
module

public import proofs.«01_k».proof.Proof.Gen.Output.Frame
public import proofs.«01_k».proof.Proof.Gen.ReferenceOutputIdeal.Run
public import proofs.«01_k».proof.Proof.Gen.ReferenceOutputIdeal.Read
public import proofs.«01_k».proof.Proof.OutputRun
public import proofs.«01_k».proof.Proof.Combine
public import proofs.«01_k».proof.Defs
public import Idealize.ShloMosaic.Lib.Quiescent
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Proof.Output

open Cert.OutputIdeal Cert.OutputIdeal.Gen Cert.ReferenceOutputIdeal.Read
open Cert.Proof.Combine (norm norm_congr)
open Idealize.ShloMosaic

/-- The idealized kernel's run. -/
theorem frame_ideal : Cert.quiescent_OutputIdeal := fun m ρ _ => frame (F := Ideal) m ρ

/-- The two kernels' body tables have the same text. -/
theorem body_table : Cert.Output.defs₀ (F := Bits) = Cert.OutputIdeal.defs₀ (F := Bits) := by
  unfold Cert.Output.defs₀ Cert.OutputIdeal.defs₀
  refine congrArg _ (funext fun l => ?_)
  match l with
  | 0 => rfl

theorem table : Cert.Output.defs (F := Bits) = Cert.OutputIdeal.defs (F := Bits) :=
  congrArg (Pipeline.defs Cert.OutputIdeal.pcfgs) body_table

/-- The kernel's text is its idealized twin's, so the run over any values is its run too. -/
theorem frame_bits : Cert.quiescent_Output := fun m ρ _ => by
  rw [table]
  exact frame (F := Bits) m ρ

/-- The reference's run ends with its arguments unchanged and its counters at zero. -/
theorem frame_reference : Cert.quiescent_ReferenceOutputIdeal := fun m ρ _ =>
  (θ_run Cert.ReferenceOutputIdeal.defs _ _).mono
    (fun r h => ⟨fun c => (h c).2, sem_eq_zero_of_no_sems (by decide) r.2⟩)
    (Cert.ReferenceOutputIdeal.Value.run (F := Ideal) m ρ)

variable (m : (ℓ : Loc nD τ sig) → Buf (Elt Ideal) ℓ) (c : Dev nD)

theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![t.val / 8, t.val % 8, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index7 : ∀ t : Fin cfg0.N, win0_7.index t = ![t.val, 0] := (by decide +kernel : ∀ t : Fin grid0.N, _)

theorem points : cfg0.N = 64 := N_0

/-! ## The body's row -/

/-- The residual row over the two halves of the mixed heads, the halves of the weights and the input. -/
def row (A Z : S1x512x512.Idx → EReal) (U L : S512x1024.Idx → EReal) (X : S1x512x1024.Idx → EReal) (n : Fin 512) (e : Fin 1024) : EReal :=
  Ideal.ofBits .f32 0x3F9837F0#32 * X (ix3 0 n e)
    + (∑ k : Fin 512, A (ix3 0 n k) * U (ix2 k e) + ∑ k : Fin 512, Z (ix3 0 n k) * L (ix2 k e))

theorem centred_at (v0 : Vec Ideal S1x512x512 .bf16) (v2 : Vec Ideal S512x1024 .bf16) (v5 : Vec Ideal S1x512x512 .bf16) (v7 : Vec Ideal S512x1024 .bf16)
    (v11 : Vec Ideal S1x512x1024 .f32) (n : Fin 512) (e : Fin 1024) :
    k0_pay4 v0 v2 v5 v7 v11 (ix2 n e)
      = row v0 v5 v2 v7 v11 n e - Ideal.div (∑ k, row v0 v5 v2 v7 v11 n k) (Ideal.ofBits .f32 0x44800000#32) := by
  pointwise [k0_pay4, row]

theorem spread_at (v0 : Vec Ideal S1x512x512 .bf16) (v2 : Vec Ideal S512x1024 .bf16) (v5 : Vec Ideal S1x512x512 .bf16) (v7 : Vec Ideal S512x1024 .bf16)
    (v11 : Vec Ideal S1x512x1024 .f32) (n : Fin 512) :
    k0_pay5 v0 v2 v5 v7 v11 (ix2 n 0)
      = Ideal.div (∑ k : Fin 1024, k0_pay4 v0 v2 v5 v7 v11 (ix2 n k) * k0_pay4 v0 v2 v5 v7 v11 (ix2 n k)) (Ideal.ofBits .f32 0x44800000#32)
        + Ideal.ofBits .f32 0x3727C5AC#32 := by
  pointwise [k0_pay5]

theorem scaled_at (v17 v19 : FVec Ideal S1x1024 .f32) (v25 : FVec Ideal S512x1024 .f32) (v32 : FVec Ideal S512x1 .f32) (n : Fin 512) (e : Fin 1024) :
    k0_pay6 v17 v19 v25 v32 (ix2 n e) = v25 (ix2 n e) * Ideal.rsqrt (v32 (ix2 n 0)) * v17 (ix2 0 e) + v19 (ix2 0 e) := by
  pointwise [k0_pay6]

theorem gain_at (v : Vec Ideal S1x1024 .f32) (e : Fin 1024) : k0_pay2 v (ix2 0 e) = v (ix2 0 e) := by
  pointwise [k0_pay2]

theorem offset_at (v : Vec Ideal S1x1024 .f32) (e : Fin 1024) : k0_pay3 v (ix2 0 e) = v (ix2 0 e) := by
  pointwise [k0_pay3]

theorem normal_at (v0 : Vec Ideal S1x512x512 .bf16) (v2 : Vec Ideal S512x1024 .bf16) (v5 : Vec Ideal S1x512x512 .bf16) (v7 : Vec Ideal S512x1024 .bf16)
    (v11 : Vec Ideal S1x512x1024 .f32) (v16 v18 : Vec Ideal S1x1024 .f32) (n : Fin 512) (e : Fin 1024) :
    k0_pay6 (k0_pay2 v16) (k0_pay3 v18) (k0_pay4 v0 v2 v5 v7 v11) (k0_pay5 v0 v2 v5 v7 v11) (ix2 n e)
      = norm (fun e => v16 (ix2 0 e)) (fun e => v18 (ix2 0 e)) (row v0 v5 v2 v7 v11 n) e := by
  rw [scaled_at, spread_at, gain_at, offset_at]
  simp only [centred_at]
  rfl

/-! ## The eight strided stores -/

theorem tile0_at (v17 v19 : FVec Ideal S1x1024 .f32) (v25 : FVec Ideal S512x1024 .f32) (v32 : FVec Ideal S512x1 .f32) (n : Fin 512) (l : Fin 128) :
    k0_pay7 v17 v19 v25 v32 (ix2 n l) = k0_pay6 v17 v19 v25 v32 (ix2 n ⟨0 + l.val, by omega⟩) := by
  pointwise [k0_pay7]

theorem tile1_at (v17 v19 : FVec Ideal S1x1024 .f32) (v25 : FVec Ideal S512x1024 .f32) (v32 : FVec Ideal S512x1 .f32) (n : Fin 512) (l : Fin 128) :
    k0_pay8 v17 v19 v25 v32 (ix2 n l) = k0_pay6 v17 v19 v25 v32 (ix2 n ⟨128 + l.val, by omega⟩) := by
  pointwise [k0_pay8]

theorem tile2_at (v17 v19 : FVec Ideal S1x1024 .f32) (v25 : FVec Ideal S512x1024 .f32) (v32 : FVec Ideal S512x1 .f32) (n : Fin 512) (l : Fin 128) :
    k0_pay9 v17 v19 v25 v32 (ix2 n l) = k0_pay6 v17 v19 v25 v32 (ix2 n ⟨256 + l.val, by omega⟩) := by
  pointwise [k0_pay9]

theorem tile3_at (v17 v19 : FVec Ideal S1x1024 .f32) (v25 : FVec Ideal S512x1024 .f32) (v32 : FVec Ideal S512x1 .f32) (n : Fin 512) (l : Fin 128) :
    k0_pay10 v17 v19 v25 v32 (ix2 n l) = k0_pay6 v17 v19 v25 v32 (ix2 n ⟨384 + l.val, by omega⟩) := by
  pointwise [k0_pay10]

theorem tile4_at (v17 v19 : FVec Ideal S1x1024 .f32) (v25 : FVec Ideal S512x1024 .f32) (v32 : FVec Ideal S512x1 .f32) (n : Fin 512) (l : Fin 128) :
    k0_pay11 v17 v19 v25 v32 (ix2 n l) = k0_pay6 v17 v19 v25 v32 (ix2 n ⟨512 + l.val, by omega⟩) := by
  pointwise [k0_pay11]

theorem tile5_at (v17 v19 : FVec Ideal S1x1024 .f32) (v25 : FVec Ideal S512x1024 .f32) (v32 : FVec Ideal S512x1 .f32) (n : Fin 512) (l : Fin 128) :
    k0_pay12 v17 v19 v25 v32 (ix2 n l) = k0_pay6 v17 v19 v25 v32 (ix2 n ⟨640 + l.val, by omega⟩) := by
  pointwise [k0_pay12]

theorem tile6_at (v17 v19 : FVec Ideal S1x1024 .f32) (v25 : FVec Ideal S512x1024 .f32) (v32 : FVec Ideal S512x1 .f32) (n : Fin 512) (l : Fin 128) :
    k0_pay13 v17 v19 v25 v32 (ix2 n l) = k0_pay6 v17 v19 v25 v32 (ix2 n ⟨768 + l.val, by omega⟩) := by
  pointwise [k0_pay13]

theorem tile7_at (v17 v19 : FVec Ideal S1x1024 .f32) (v25 : FVec Ideal S512x1024 .f32) (v32 : FVec Ideal S512x1 .f32) (n : Fin 512) (l : Fin 128) :
    k0_pay14 v17 v19 v25 v32 (ix2 n l) = k0_pay6 v17 v19 v25 v32 (ix2 n ⟨896 + l.val, by omega⟩) := by
  pointwise [k0_pay14]

/-- The block's row `R` is the normalized row `R / 8`, its columns from `R % 8 * 128` on. -/
def spread (N : S512x1024.Idx → EReal) (y : S4096x128.Idx) : EReal :=
  N (ix2 ⟨(y 0).val / 8, by have h : (y 0).val < 4096 := (y 0).isLt; omega⟩
    ⟨128 * ((y 0).val % 8) + (y 1).val, by have h : (y 1).val < 128 := (y 1).isLt; omega⟩)

/-- One store's piece of the block. -/
theorem piece_at (N : S512x1024.Idx → EReal) (T : S512x128.Idx → EReal) (j o : ℕ) (hj : j < 8) (ho : o = 128 * j) (h)
    (hT : ∀ (n : Fin 512) (l : Fin 128), T (ix2 n l) = N (ix2 n ⟨o + l.val, by omega⟩))
    (x : ({ off := ![j, 0], size := ![512, 128], stride := ![8, 1], inb := h, stride_pos := spos_8_1 } : Rect S4096x128).shape.Idx) :
    T x = spread N (({ off := ![j, 0], size := ![512, 128], stride := ![8, 1], inb := h, stride_pos := spos_8_1 } : Rect S4096x128).emb x) := by
  have h0 : (x 0 : ℕ) < 512 := (x 0).isLt
  have h1 : (x 1 : ℕ) < 128 := (x 1).isLt
  have hx : x = (ix2 (⟨(x 0 : ℕ), h0⟩ : Fin 512) (⟨(x 1 : ℕ), h1⟩ : Fin 128) : S512x128.Idx) := by
    funext a
    fin_cases a <;> rfl
  refine (congrArg T hx).trans ((hT _ _).trans ?_)
  unfold spread
  congr 1
  congr 1 <;> refine Fin.ext ?_
  · show (x 0 : ℕ) = (j + 8 * (x 0 : ℕ)) / 8
    omega
  · show o + (x 1 : ℕ) = 128 * ((j + 8 * (x 0 : ℕ)) % 8) + (0 + 1 * (x 1 : ℕ))
    omega

/-! ## The loads -/

theorem load_half (M : Memref sig .tc .vmem S1x512x512 .bf16) (hM : M.IsWhole) (X : Vec Ideal S1x512x512 .bf16) (h) :
    M.view.readAt (Elt Ideal) (Rect.unit (s := S1x512x512) ![0, 0, 0] S1x512x512.size h).toLoadRect (hM.unread X) = X := by
  funext x
  rw [View.readAt_apply, hM.read_unread]
  congr 1
  funext a
  refine Fin.ext ?_
  fin_cases a <;> (show 0 + 1 * _ = _; omega)

theorem load_input (M : Memref sig .tc .vmem S1x512x1024 .f32) (hM : M.IsWhole) (X : Vec Ideal S1x512x1024 .f32) (h) :
    M.view.readAt (Elt Ideal) (Rect.unit (s := S1x512x1024) ![0, 0, 0] S1x512x1024.size h).toLoadRect (hM.unread X) = X := by
  funext x
  rw [View.readAt_apply, hM.read_unread]
  congr 1
  funext a
  refine Fin.ext ?_
  fin_cases a <;> (show 0 + 1 * _ = _; omega)

theorem load_gain (M : Memref sig .tc .vmem S1x1024 .f32) (hM : M.IsWhole) (X : Vec Ideal S1x1024 .f32) (h) :
    M.view.readAt (Elt Ideal) (Rect.unit (s := S1x1024) ![0, 0] S1x1024.size h).toLoadRect (hM.unread X) = X := by
  funext x
  rw [View.readAt_apply, hM.read_unread]
  congr 1
  funext a
  refine Fin.ext ?_
  fin_cases a <;> (show 0 + 1 * _ = _; omega)

/-- The weights' rows from `o` on. -/
theorem load_weights (M : Memref sig .tc .vmem S1024x1024 .bf16) (hM : M.IsWhole) (X : Vec Ideal S1024x1024 .bf16) (o : ℕ) (ho : o ≤ 512) (h) (k : Fin 512) (e : Fin 1024) :
    M.view.readAt (Elt Ideal) (Rect.unit (s := S1024x1024) ![o, 0] S512x1024.size h).toLoadRect (hM.unread X) (ix2 k e) = X (ix2 ⟨o + k.val, by omega⟩ e) := by
  rw [View.readAt_apply, hM.read_unread]
  congr 1
  funext a
  refine Fin.ext ?_
  fin_cases a
  · show o + 1 * k.val = o + k.val
    omega
  · show 0 + 1 * e.val = e.val
    omega

/-- The block after point `t`: the rows of the residual, normalized. -/
theorem hidden_at (t : Fin cfg0.N) (y : S4096x128.Idx) :
    hiddenAt m c t y = spread (fun i => norm (fun e => iblk m c 4 t (ix2 0 e)) (fun e => iblk m c 5 t (ix2 0 e))
      (row (iblk m c 0 t) (iblk m c 1 t) (fun i => iblk m c 3 t (ix2 ⟨(i 0).val, by have h : (i 0).val < 512 := (i 0).isLt; omega⟩ (i 1)))
        (fun i => iblk m c 3 t (ix2 ⟨512 + (i 0).val, by have h : (i 0).val < 512 := (i 0).isLt; omega⟩ (i 1))) (iblk m c 2 t) (i 0)) (i 1)) y := by
  have hc := cover_hidden c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) (iblk m c 5 t) (iblk m c 6 t) y
  unfold hiddenAt piecesAt
  refine View.canon_apply_of_pieces _ _ ?_ y hc
  dsimp only [bodyRun]
  have key : ∀ (n : Fin 512) (e : Fin 1024),
      k0_pay6 (bodyRun.sl.r c (ms4 t) (hs4 t) (iblk m c 4 t)) (bodyRun.sl.r_1 c (ms5 t) (hs5 t) (iblk m c 5 t))
        (bodyRun.sl.r_2 c (ms0 t) (hs0 t) (ms1 t) (hs1 t) (ms2 t) (hs2 t) (ms3 t) (hs3 t) (iblk m c 0 t) (iblk m c 1 t) (iblk m c 2 t) (iblk m c 3 t))
        (bodyRun.sl.r_3 c (ms0 t) (hs0 t) (ms1 t) (hs1 t) (ms2 t) (hs2 t) (ms3 t) (hs3 t) (iblk m c 0 t) (iblk m c 1 t) (iblk m c 2 t) (iblk m c 3 t)) (ix2 n e)
      = norm (fun e => iblk m c 4 t (ix2 0 e)) (fun e => iblk m c 5 t (ix2 0 e))
      (row (iblk m c 0 t) (iblk m c 1 t) (fun i => iblk m c 3 t (ix2 ⟨(i 0).val, by have h : (i 0).val < 512 := (i 0).isLt; omega⟩ (i 1)))
        (fun i => iblk m c 3 t (ix2 ⟨512 + (i 0).val, by have h : (i 0).val < 512 := (i 0).isLt; omega⟩ (i 1))) (iblk m c 2 t) n) e := by
    intro n e
    unfold bodyRun.sl.r bodyRun.sl.r_1 bodyRun.sl.r_2 bodyRun.sl.r_3
    rw [normal_at]
    refine norm_congr (fun e => ?_) (fun e => ?_) (fun e => ?_) e
    · rw [load_gain]
    · rw [load_gain]
    · unfold row
      rw [load_half, load_half, load_input]
      refine congrArg₂ (· + ·) rfl (congrArg₂ (· + ·) (Finset.sum_congr rfl fun k _ => congrArg₂ (· * ·) rfl ?_)
        (Finset.sum_congr rfl fun k _ => congrArg₂ (· * ·) rfl ?_))
      · refine (load_weights _ _ _ 0 (by decide) _ k e).trans ?_
        exact congrArg (fun r : Fin 1024 => iblk m c 3 t (ix2 r e)) (Fin.ext (Nat.zero_add k.val))
      · exact load_weights _ _ _ 512 (by decide) _ k e
  intro p hp
  simp only [List.mem_cons, List.not_mem_nil, or_false] at hp
  rcases hp with rfl | rfl | rfl | rfl | rfl | rfl | rfl | rfl
  · exact piece_at _ _ 7 896 (by decide) (by decide) _ (fun n l => (tile7_at _ _ _ _ n l).trans (key n _))
  · exact piece_at _ _ 6 768 (by decide) (by decide) _ (fun n l => (tile6_at _ _ _ _ n l).trans (key n _))
  · exact piece_at _ _ 5 640 (by decide) (by decide) _ (fun n l => (tile5_at _ _ _ _ n l).trans (key n _))
  · exact piece_at _ _ 4 512 (by decide) (by decide) _ (fun n l => (tile4_at _ _ _ _ n l).trans (key n _))
  · exact piece_at _ _ 3 384 (by decide) (by decide) _ (fun n l => (tile3_at _ _ _ _ n l).trans (key n _))
  · exact piece_at _ _ 2 256 (by decide) (by decide) _ (fun n l => (tile2_at _ _ _ _ n l).trans (key n _))
  · exact piece_at _ _ 1 128 (by decide) (by decide) _ (fun n l => (tile1_at _ _ _ _ n l).trans (key n _))
  · exact piece_at _ _ 0 0 (by decide) (by decide) _ (fun n l => (tile0_at _ _ _ _ n l).trans (key n _))

/-! ## What the arrays hold -/

theorem read_entry (b : Ref sig .tc) : V m c b = StableHlo.after hostOps0 (fun b => m (c, b)) (Proc.devRef .tc b) := rfl

theorem v9_at (b : Fin 8) (n : Fin 4096) (k : Fin 512) : V m c main_v9 (ix3 b n k) = m (c.tc.loc main_arg0) (ix3 b n k) := by
  rw [read_entry]
  entry_read
  pointwise

theorem v10_at (b : Fin 8) (n : Fin 4096) (k : Fin 512) : V m c main_v10 (ix3 b n k) = m (c.tc.loc main_arg1) (ix3 b n k) := by
  rw [read_entry]
  entry_read
  pointwise

theorem v12_at (k e : Fin 1024) : V m c main_v12 (ix2 k e) = m (c.tc.loc main_arg3) (ix3 0 k e) := by
  rw [read_entry]
  entry_read
  pointwise

theorem v14_at (e : Fin 1024) : V m c main_v14 (ix2 0 e) = m (c.tc.loc main_arg4) (ix2 0 e) := by
  rw [read_entry]
  entry_read
  pointwise

theorem v16_at (e : Fin 1024) : V m c main_v16 (ix2 0 e) = m (c.tc.loc main_arg5) (ix2 0 e) := by
  rw [read_entry]
  entry_read
  pointwise

theorem a_at (t : Fin cfg0.N) (n : Fin 512) (k : Fin 512) : iblk m c 0 t (ix3 0 n k) = V m c main_v9 (ix3 ⟨t.val / 8, by have h : t.val < 64 := lt_of_lt_of_eq t.isLt points; omega⟩ ⟨512 * (t.val % 8) + n.val, by omega⟩ k) := by
  blk_ext [iblk, index0 t]

theorem z_at (t : Fin cfg0.N) (n : Fin 512) (k : Fin 512) : iblk m c 1 t (ix3 0 n k) = V m c main_v10 (ix3 ⟨t.val / 8, by have h : t.val < 64 := lt_of_lt_of_eq t.isLt points; omega⟩ ⟨512 * (t.val % 8) + n.val, by omega⟩ k) := by
  blk_ext [iblk, index1 t]

theorem x_at (t : Fin cfg0.N) (n : Fin 512) (e : Fin 1024) : iblk m c 2 t (ix3 0 n e) = V m c main_arg2 (ix3 ⟨t.val / 8, by have h : t.val < 64 := lt_of_lt_of_eq t.isLt points; omega⟩ ⟨512 * (t.val % 8) + n.val, by omega⟩ e) := by
  blk_ext [iblk, index2 t]

theorem w_at (t : Fin cfg0.N) (k e : Fin 1024) : iblk m c 3 t (ix2 k e) = V m c main_v12 (ix2 k e) := by
  blk_ext [iblk, index3 t]

theorem g_at (t : Fin cfg0.N) (e : Fin 1024) : iblk m c 4 t (ix2 0 e) = V m c main_v14 (ix2 0 e) := by
  blk_ext [iblk, index4 t]

theorem b_at (t : Fin cfg0.N) (e : Fin 1024) : iblk m c 5 t (ix2 0 e) = V m c main_v16 (ix2 0 e) := by
  blk_ext [iblk, index5 t]

/-! ## The reference -/

theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

theorem first_at (x0 x1 : (⟨S8x4096x512, .f32⟩ : BufTy).Contents (Elt Ideal)) (b : Fin 8) (n : Fin 4096) (k : Fin 512) :
    val_main_v0 (F := Ideal) x0 x1 (ix3 b n ⟨k.val, by omega⟩) = x0 (ix3 b n k) := by
  pointwise [val_main_v0]

theorem second_at (x0 x1 : (⟨S8x4096x512, .f32⟩ : BufTy).Contents (Elt Ideal)) (b : Fin 8) (n : Fin 4096) (k : Fin 512) :
    val_main_v0 (F := Ideal) x0 x1 (ix3 b n ⟨512 + k.val, by omega⟩) = x1 (ix3 b n k) := by
  pointwise [val_main_v0]

theorem ref_product (x0 x1 : (⟨S8x4096x512, .f32⟩ : BufTy).Contents (Elt Ideal)) (x3 : (⟨S1x1024x1024, .f32⟩ : BufTy).Contents (Elt Ideal))
    (b : Fin 8) (n : Fin 4096) (e : Fin 1024) :
    val_main_v2 (F := Ideal) x0 x1 x3 (ix3 b n e) = ∑ k : Fin 1024, val_main_v0 (F := Ideal) x0 x1 (ix3 b n k) * x3 (ix3 0 k e) := by
  pointwise [val_main_v2, val_main_v1]

/-- The reference's residual row, its product in two halves. -/
theorem ref_at (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (b : Fin 8) (n : Fin 4096) (e : Fin 1024) :
    val_main_v5 (F := Ideal) x0 x1 x2 x3 (ix3 b n e)
      = Ideal.ofBits .f32 0x3F9837F0#32 * x2 (ix3 b n e)
        + (∑ k : Fin 512, x0 (ix3 b n k) * x3 (ix3 0 ⟨k.val, by omega⟩ e) + ∑ k : Fin 512, x1 (ix3 b n k) * x3 (ix3 0 ⟨512 + k.val, by omega⟩ e)) := by
  have hs : val_main_v5 (F := Ideal) x0 x1 x2 x3 (ix3 b n e)
      = Ideal.ofBits .f32 0x3F9837F0#32 * x2 (ix3 b n e) + val_main_v2 (F := Ideal) x0 x1 x3 (ix3 b n e) := by
    pointwise [val_main_v5, val_main_v4, val_main_v3, val_main_cst]
  rw [hs, ref_product, sum_halves]
  simp only [first_at, second_at]

theorem ref_norm (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (x4 x5 : (⟨S1x1024, .f32⟩ : BufTy).Contents (Elt Ideal))
    (b : Fin 8) (n : Fin 4096) (e : Fin 1024) :
    val_main_v31 (F := Ideal) x0 x1 x2 x3 x4 x5 (ix3 b n e)
      = norm (fun e => x4 (ix2 0 e)) (fun e => x5 (ix2 0 e)) (fun e => val_main_v5 (F := Ideal) x0 x1 x2 x3 (ix3 b n e)) e := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0, val_main_cst_1, val_main_cst_2, val_main_cst_3, val_main_cst_4, Combine.norm]

/-! ## The results -/

/-- The batch, the position and the column that row `R` and lane `l` of the result stand for. -/
theorem point (t : Fin cfg0.N) (y : S4096x128.Idx) (b : Fin 8) (p : Fin 4096) (e : Fin 1024)
    (hb : b.val = t.val / 8) (hp : p.val = 512 * (t.val % 8) + (y 0).val / 8) (he : e.val = 128 * ((y 0).val % 8) + (y 1).val) :
    hiddenAt m c t y = val_main_v31 (F := Ideal) (m (c.tc.loc main_arg0)) (m (c.tc.loc main_arg1)) (m (c.tc.loc main_arg2)) (m (c.tc.loc main_arg3)) (m (c.tc.loc main_arg4)) (m (c.tc.loc main_arg5)) (ix3 b p e) := by
  have ht : t.val < 64 := lt_of_lt_of_eq t.isLt points
  rw [hidden_at, ref_norm]
  unfold spread
  have hb' : (⟨t.val / 8, by omega⟩ : Fin 8) = b := Fin.ext hb.symm
  have he' : ∀ h, (⟨128 * ((y 0).val % 8) + (y 1).val, h⟩ : Fin 1024) = e := fun _ => Fin.ext he.symm
  have hp' : ∀ h, (⟨512 * (t.val % 8) + (y 0).val / 8, h⟩ : Fin 4096) = p := fun _ => Fin.ext hp.symm
  refine (norm_congr (fun e => ?_) (fun e => ?_) (fun e => ?_) _).trans (congrArg _ (he' _))
  · exact (g_at m c t e).trans (v14_at m c e)
  · exact (b_at m c t e).trans (v16_at m c e)
  · rw [ref_at]
    unfold row
    have i2 := (x_at m c t ⟨(y 0).val / 8, by have h : (y 0).val < 4096 := (y 0).isLt; omega⟩ e).trans (congrFun (V_main_arg2 m c) _)
    rw [hb', hp'] at i2
    have i0 : ∀ k, iblk m c 0 t (ix3 0 ⟨(y 0).val / 8, by have h : (y 0).val < 4096 := (y 0).isLt; omega⟩ k) = m (c.tc.loc main_arg0) (ix3 b p k) := fun k => by
      rw [a_at, v9_at, hb', hp']
    have i1 : ∀ k, iblk m c 1 t (ix3 0 ⟨(y 0).val / 8, by have h : (y 0).val < 4096 := (y 0).isLt; omega⟩ k) = m (c.tc.loc main_arg1) (ix3 b p k) := fun k => by
      rw [z_at, v10_at, hb', hp']
    have i3 : ∀ k e, iblk m c 3 t (ix2 k e) = m (c.tc.loc main_arg3) (ix3 0 k e) := fun k e => (w_at m c t k e).trans (v12_at m c k e)
    refine congrArg₂ (· + ·) (congrArg _ i2) (congrArg₂ (· + ·) (Finset.sum_congr rfl fun k _ => ?_) (Finset.sum_congr rfl fun k _ => ?_))
    · exact congrArg₂ (· * ·) (i0 k) (i3 _ e)
    · exact congrArg₂ (· * ·) (i1 k) (i3 _ e)

/-- The rows of all batches, each cut into eight. -/
def flat (v : S8x4096x1024.Idx → EReal) (i : S262144x128.Idx) : EReal :=
  v (ix3 ⟨(i 0).val / 32768, by have h : (i 0).val < 262144 := (i 0).isLt; omega⟩ ⟨(i 0).val / 8 % 4096, by omega⟩
    ⟨128 * ((i 0).val % 8) + (i 1).val, by have h : (i 1).val < 128 := (i 1).isLt; omega⟩)

/-- The call's hidden state, whole: the reference's, its rows cut into eight. -/
theorem final : (dats m 0 c).arrAt 7 cfg0.N = flat (val_main_v31 (F := Ideal) (m (c.tc.loc main_arg0)) (m (c.tc.loc main_arg1)) (m (c.tc.loc main_arg2)) (m (c.tc.loc main_arg3)) (m (c.tc.loc main_arg4)) (m (c.tc.loc main_arg5))) := by
  refine (dats m 0 c).arrAt_eq_of_covers 7 _ (by decide +kernel) fun t hf y => ?_
  blk_simp
  rw [after_7]
  have ht : t.val < 64 := lt_of_lt_of_eq t.isLt points
  have hn : (y 0).val < 4096 := (y 0).isLt
  have he : (win0_7.blk t).view.emb y = ix2 ⟨4096 * t.val + (y 0).val, by omega⟩ (y 1) := by
    blk_ext [index7 t]
  rw [he]
  refine point m c t y _ _ _ ?_ ?_ ?_
  · show (4096 * t.val + (y 0).val) / 32768 = t.val / 8
    omega
  · show (4096 * t.val + (y 0).val) / 8 % 4096 = 512 * (t.val % 8) + (y 0).val / 8
    omega
  · show 128 * ((4096 * t.val + (y 0).val) % 8) + (y 1).val = 128 * ((y 0).val % 8) + (y 1).val
    omega

/-- The result after the last reshape is the reference's. -/
theorem result : Pipeline.afterTail₀ cfgs (dats m) 0 (V0 m) [hostOps1] c main_v18
    = val_main_v31 (F := Ideal) (m (c.tc.loc main_arg0)) (m (c.tc.loc main_arg1)) (m (c.tc.loc main_arg2)) (m (c.tc.loc main_arg3)) (m (c.tc.loc main_arg4)) (m (c.tc.loc main_arg5)) := by
  have hw : Pipeline.withArrays spec0 c (V0 m c) (fun w => (dats m 0 c).arrAt w cfg0.N) (Proc.devRef .tc main_v17_0) = (dats m 0 c).arrAt 7 cfg0.N :=
    Pipeline.withArrays_arr spec0 launch0.win.arr_inj c (V0 m c) _ 7
  unfold Pipeline.afterTail₀
  simp only [hostOps1, List.flatten_cons, List.flatten_nil, List.append_nil, StableHlo.after_cons, StableHlo.after_nil]
  rw [StableHlo.reshape_result]
  funext i
  refine (congrArg (fun v : S262144x128.Idx → EReal => shapeCast S8x4096x1024 v shapeCasts_S262144x128_S8x4096x1024 i) (hw.trans (final m c))).trans ?_
  have hi : i = ix3 (i 0) (i 1) (i 2) := by
    funext a
    fin_cases a <;> rfl
  have h1 : (i 1).val < 4096 := (i 1).isLt
  have h2 : (i 2).val < 1024 := (i 2).isLt
  rw [hi]
  pointwise [flat]
  refine congrArg _ (Eq.trans ?_ hi.symm)
  congr 1 <;> refine Fin.ext ?_ <;> simp only [] <;> omega

/-- Both programs, from equal arguments, end with equal results. -/
theorem algebraic : @Cert.algebraic_OutputIdeal_ReferenceOutputIdeal Cert.OutputIdeal.Gen.facts Cert.ReferenceOutputIdeal.Gen.facts := by
  intro m g m' g' _ hagree
  refine ⟨fun c => val_main_v31 (F := Ideal) (m (c.tc.loc main_arg0)) (m (c.tc.loc main_arg1)) (m (c.tc.loc main_arg2)) (m (c.tc.loc main_arg3)) (m (c.tc.loc main_arg4)) (m (c.tc.loc main_arg5)), ?_, ?_⟩
  · refine (θ_run Cert.OutputIdeal.defs _ _).mono (fun r h c => ?_) (θ_run_and (run_main m g) (unchanged m g))
    exact ⟨((h.1 c).2 main_v18 (Pipeline.mem_restRefs_of main_v18 (by decide) (by decide))).trans (result m c), h.2 c⟩
  · refine (θ_run Cert.ReferenceOutputIdeal.defs _ _).mono (fun r h c => ?_) (Cert.ReferenceOutputIdeal.Value.run (F := Ideal) m' g')
    obtain ⟨hv, ha⟩ := h c
    obtain ⟨e0, e1, e2, e3, e4, e5, e6, e7⟩ := hagree c
    rw [val_main_v31_eq, e0, e1, e2, e3, e4, e5] at hv
    exact ⟨hv, ha⟩

end Cert.Proof.Output
end
-- ==== Proof.RouterRun.lean ====
/-
  The run of the output projection and its routing, the routing being the result: what the body leaves in the two results' blocks,
  the launch, and the frame. The program is the one of OutputRun with the mask a named constant and other last lines.
-/
module

public import proofs.«01_k».proof.Proof.Gen.RouterIdeal.Frame
public import proofs.«01_k».proof.Proof.Gen.RouterIdeal.Skeleton
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Router

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body's stores leave in the two results' blocks, last store first, with the body's triple: the operands'
    blocks stay as they are. -/
def bodyRun (c : Dev nD) (i : grid0.Coords)
    (a0 : Memref sig .tc .vmem S1x512x512 .bf16) (w0 : a0.IsWhole) (a1 : Memref sig .tc .vmem S1x512x512 .bf16) (w1 : a1.IsWhole)
    (a2 : Memref sig .tc .vmem S1x512x1024 .f32) (w2 : a2.IsWhole) (a3 : Memref sig .tc .vmem S1024x1024 .bf16) (w3 : a3.IsWhole)
    (a4 : Memref sig .tc .vmem S1x1024 .f32) (w4 : a4.IsWhole) (a5 : Memref sig .tc .vmem S1x1024 .f32) (w5 : a5.IsWhole)
    (a6 : Memref sig .tc .vmem S1024x128 .bf16) (w6 : a6.IsWhole) (a7 : Memref sig .tc .vmem S4096x128 .f32) (w7 : a7.IsWhole)
    (a8 : Memref sig .tc .vmem S1x512x128 .f32) (w8 : a8.IsWhole)
    (x0 x1 : Vec F S1x512x512 .bf16) (x2 : Vec F S1x512x1024 .f32) (x3 : Vec F S1024x1024 .bf16) (x4 x5 : Vec F S1x1024 .f32) (x6 : Vec F S1024x128 .bf16) :
    { L : List (View.Piece (Elt F) S4096x128 .f32) × List (View.Piece (Elt F) S1x512x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ (∃ d, owns (c : Thread nD τ) a7 fullShare d) ∗ (∃ d, owns (c : Thread nD τ) a8 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4 ∗ owns (c : Thread nD τ) a5 fullShare x5
                ∗ owns (c : Thread nD τ) a6 fullShare x6
                ∗ (∃ f, a7.view.loc (c : Thread nD τ) ↦[a7.view.set]{fullShare} a7.view.writes (Elt F) f L.1)
                ∗ (∃ f, a8.view.loc (c : Thread nD τ) ↦[a8.view.set]{fullShare} a8.view.writes (Elt F) f L.2)) -∗ K ⟨⟩))
          ⊢ wp frame (wpE (defs₀ (F := F)) Variants.none c none) E
              (cc0_out_proj_router i a0 w0 a1 w1 a2 w2 a3 w3 a4 w4 a5 w5 a6 w6 a7 w7 a8 w8) K } := by
  refine ⟨⟨?_, ?_⟩, fun E K => ?run⟩
  case run =>
    simp only [cc0_out_proj_router_eq_skeleton]; unfold cc0_out_proj_router_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := w0.eq_unread hf0; obtain rfl := w1.eq_unread hf1; obtain rfl := w2.eq_unread hf2
    obtain rfl := w3.eq_unread hf3; obtain rfl := w4.eq_unread hf4; obtain rfl := w5.eq_unread hf5; obtain rfl := w6.eq_unread hf6
    sl_exec
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; iexact H7
    iexists _; iexact H8

/-- Row `y 0` of the hidden state's block is stored by store `y 0 % 8`, at its row `y 0 / 8`. -/
theorem cover_hidden (c : Dev nD) (i : grid0.Coords)
    (a0 : Memref sig .tc .vmem S1x512x512 .bf16) (w0 : a0.IsWhole) (a1 : Memref sig .tc .vmem S1x512x512 .bf16) (w1 : a1.IsWhole)
    (a2 : Memref sig .tc .vmem S1x512x1024 .f32) (w2 : a2.IsWhole) (a3 : Memref sig .tc .vmem S1024x1024 .bf16) (w3 : a3.IsWhole)
    (a4 : Memref sig .tc .vmem S1x1024 .f32) (w4 : a4.IsWhole) (a5 : Memref sig .tc .vmem S1x1024 .f32) (w5 : a5.IsWhole)
    (a6 : Memref sig .tc .vmem S1024x128 .bf16) (w6 : a6.IsWhole) (a7 : Memref sig .tc .vmem S4096x128 .f32) (w7 : a7.IsWhole)
    (a8 : Memref sig .tc .vmem S1x512x128 .f32) (w8 : a8.IsWhole)
    (x0 x1 : Vec F S1x512x512 .bf16) (x2 : Vec F S1x512x1024 .f32) (x3 : Vec F S1024x1024 .bf16) (x4 x5 : Vec F S1x1024 .f32) (x6 : Vec F S1024x128 .bf16)
    (y : S4096x128.Idx) :
    ∃ p ∈ (bodyRun c i a0 w0 a1 w1 a2 w2 a3 w3 a4 w4 a5 w5 a6 w6 a7 w7 a8 w8 x0 x1 x2 x3 x4 x5 x6).1.1, y ∈ p.1.set := by
  have h0 : (y 0 : ℕ) < 4096 := (y 0).isLt
  have h1 : (y 1 : ℕ) < 128 := (y 1).isLt
  dsimp only [bodyRun]
  have key : ∀ j : ℕ, (y 0 : ℕ) % 8 = j → ∀ inb,
      y ∈ ({ off := ![j, 0], size := ![512, 128], stride := ![8, 1], inb := inb, stride_pos := spos_8_1 } : Rect S4096x128).set := fun j hj inb => by
    refine (LoadRect.mem_set _).mpr fun a => ?_
    match a with
    | ⟨0, _⟩ => exact ⟨(y 0 : ℕ) / 8, by show (y 0 : ℕ) / 8 < 512; omega, by show (y 0 : ℕ) = j + 8 * ((y 0 : ℕ) / 8); omega⟩
    | ⟨1, _⟩ => exact ⟨(y 1 : ℕ), h1, by show (y 1 : ℕ) = 0 + 1 * (y 1 : ℕ); omega⟩
  simp only [List.mem_cons, exists_eq_or_imp, List.not_mem_nil, false_and, exists_false, or_false]
  have hm : (y 0 : ℕ) % 8 < 8 := Nat.mod_lt _ (by omega)
  rcases (show (y 0 : ℕ) % 8 = 7 ∨ (y 0 : ℕ) % 8 = 6 ∨ (y 0 : ℕ) % 8 = 5 ∨ (y 0 : ℕ) % 8 = 4 ∨ (y 0 : ℕ) % 8 = 3 ∨ (y 0 : ℕ) % 8 = 2
    ∨ (y 0 : ℕ) % 8 = 1 ∨ (y 0 : ℕ) % 8 = 0 by omega) with h | h | h | h | h | h | h | h
  · exact .inl (key 7 h _)
  · exact .inr (.inl (key 6 h _))
  · exact .inr (.inr (.inl (key 5 h _)))
  · exact .inr (.inr (.inr (.inl (key 4 h _))))
  · exact .inr (.inr (.inr (.inr (.inl (key 3 h _)))))
  · exact .inr (.inr (.inr (.inr (.inr (.inl (key 2 h _))))))
  · exact .inr (.inr (.inr (.inr (.inr (.inr (.inl (key 1 h _)))))))
  · exact .inr (.inr (.inr (.inr (.inr (.inr (.inr ⟨_, rfl, key 0 h _⟩))))))

/-- The routing's block is stored whole. -/
theorem cover_route (c : Dev nD) (i : grid0.Coords)
    (a0 : Memref sig .tc .vmem S1x512x512 .bf16) (w0 : a0.IsWhole) (a1 : Memref sig .tc .vmem S1x512x512 .bf16) (w1 : a1.IsWhole)
    (a2 : Memref sig .tc .vmem S1x512x1024 .f32) (w2 : a2.IsWhole) (a3 : Memref sig .tc .vmem S1024x1024 .bf16) (w3 : a3.IsWhole)
    (a4 : Memref sig .tc .vmem S1x1024 .f32) (w4 : a4.IsWhole) (a5 : Memref sig .tc .vmem S1x1024 .f32) (w5 : a5.IsWhole)
    (a6 : Memref sig .tc .vmem S1024x128 .bf16) (w6 : a6.IsWhole) (a7 : Memref sig .tc .vmem S4096x128 .f32) (w7 : a7.IsWhole)
    (a8 : Memref sig .tc .vmem S1x512x128 .f32) (w8 : a8.IsWhole)
    (x0 x1 : Vec F S1x512x512 .bf16) (x2 : Vec F S1x512x1024 .f32) (x3 : Vec F S1024x1024 .bf16) (x4 x5 : Vec F S1x1024 .f32) (x6 : Vec F S1024x128 .bf16)
    (y : S1x512x128.Idx) :
    ∃ p ∈ (bodyRun c i a0 w0 a1 w1 a2 w2 a3 w3 a4 w4 a5 w5 a6 w6 a7 w7 a8 w8 x0 x1 x2 x3 x4 x5 x6).1.2, y ∈ p.1.set := by
  dsimp only [bodyRun]
  refine ⟨_, List.mem_cons_self .., (LoadRect.mem_set _).mpr fun a => ⟨(y a : ℕ), ?_⟩⟩
  match a with
  | ⟨0, _⟩ => exact ⟨(y 0).isLt, by show (y 0 : ℕ) = 0 + 1 * (y 0 : ℕ); omega⟩
  | ⟨1, _⟩ => exact ⟨(y 1).isLt, by show (y 1 : ℕ) = 0 + 1 * (y 1 : ℕ); omega⟩
  | ⟨2, _⟩ => exact ⟨(y 2).isLt, by show (y 2 : ℕ) = 0 + 1 * (y 2 : ℕ); omega⟩

variable (m : (ℓ : Loc nD τ sig) → Buf (Elt F) ℓ) (ρ : Dev nD → PrngReg)

/-! ## What the body is called with and what it leaves at each point -/

abbrev ms0 (t : Fin cfg0.N) := win0_0.stage (cfg0.slots t 0)
theorem hs0 (t : Fin cfg0.N) : (ms0 t).IsWhole := hstage0_0 ((cfg0.slots t 0).cast nbuf0_0)
abbrev ms1 (t : Fin cfg0.N) := win0_1.stage (cfg0.slots t 1)
theorem hs1 (t : Fin cfg0.N) : (ms1 t).IsWhole := hstage0_1 ((cfg0.slots t 1).cast nbuf0_1)
abbrev ms2 (t : Fin cfg0.N) := win0_2.stage (cfg0.slots t 2)
theorem hs2 (t : Fin cfg0.N) : (ms2 t).IsWhole := hstage0_2 ((cfg0.slots t 2).cast nbuf0_2)
abbrev ms3 (t : Fin cfg0.N) := win0_3.stage (cfg0.slots t 3)
theorem hs3 (t : Fin cfg0.N) : (ms3 t).IsWhole := hstage0_3 ((cfg0.slots t 3).cast nbuf0_3)
abbrev ms4 (t : Fin cfg0.N) := win0_4.stage (cfg0.slots t 4)
theorem hs4 (t : Fin cfg0.N) : (ms4 t).IsWhole := hstage0_4 ((cfg0.slots t 4).cast nbuf0_4)
abbrev ms5 (t : Fin cfg0.N) := win0_5.stage (cfg0.slots t 5)
theorem hs5 (t : Fin cfg0.N) : (ms5 t).IsWhole := hstage0_5 ((cfg0.slots t 5).cast nbuf0_5)
abbrev ms6 (t : Fin cfg0.N) := win0_6.stage (cfg0.slots t 6)
theorem hs6 (t : Fin cfg0.N) : (ms6 t).IsWhole := hstage0_6 ((cfg0.slots t 6).cast nbuf0_6)
abbrev ms7 (t : Fin cfg0.N) := win0_7.stage (cfg0.slots t 7)
theorem hs7 (t : Fin cfg0.N) : (ms7 t).IsWhole := hstage0_7 ((cfg0.slots t 7).cast nbuf0_7)
abbrev ms8 (t : Fin cfg0.N) := win0_8.stage (cfg0.slots t 8)
theorem hs8 (t : Fin cfg0.N) : (ms8 t).IsWhole := hstage0_8 ((cfg0.slots t 8).cast nbuf0_8)

/-- The stores' pieces at point `t`. -/
def piecesAt (c : Dev nD) (t : Fin cfg0.N) : List (View.Piece (Elt F) S4096x128 .f32) × List (View.Piece (Elt F) S1x512x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) (iblk m c 5 t) (iblk m c 6 t)).1

/-- The hidden state's block after point `t`. -/
def hiddenAt (c : Dev nD) (t : Fin cfg0.N) : Vec F S4096x128 .f32 := View.canon (piecesAt m c t).1

/-- The routing's block after point `t`. -/
def routeAt (c : Dev nD) (t : Fin cfg0.N) : Vec F S1x512x128 .f32 := View.canon (piecesAt m c t).2

/-- The proof data: the arrays as the region finds them, the inputs' blocks kept, the results' blocks as the stores leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hiddenAt m c t
    | ⟨8, _⟩ => routeAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = hiddenAt m c t := by dsimp only [dats]
theorem after_8 (c : Dev nD) (t : Fin cfg0.N) : (dats m 0 c).after 8 t = routeAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body's obligation at each point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold hiddenAt routeAt piecesAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover_hidden c _ _ _ _ _ _ _ _ _ _ _ _ _ _ _ _ _ _ _ _ _ _ _ _ _ _ )
  · unfold owns; iexists _; isplitr
    swap; · iexact H8
    ipureintro; exact View.read_writes_eq_canon _ _ _ (cover_route c _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- Every run ends with the windows' arrays as the proof data compute them, the lines after the region done, and every
    counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) :=
  frame_of m ρ (dats m) (A_eq m) (run_main m ρ)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.Router
end
-- ==== Proof.RouterParts.lean ====
/-
  The routing of the output projection, its parts: the three frames, the hidden row the body computes, what the arrays
  and their blocks hold, and the reference's hidden row.
-/
module

public import proofs.«01_k».proof.Proof.Gen.Router.Frame
public import proofs.«01_k».proof.Proof.Gen.ReferenceRouterIdeal.Run
public import proofs.«01_k».proof.Proof.Gen.ReferenceRouterIdeal.Read
public import proofs.«01_k».proof.Proof.RouterRun
public import proofs.«01_k».proof.Proof.Combine
public import proofs.«01_k».proof.Defs
public import Idealize.ShloMosaic.Lib.Quiescent
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.Proof.Router

open Cert.RouterIdeal Cert.RouterIdeal.Gen Cert.ReferenceRouterIdeal.Read
open Cert.Proof.Combine (norm norm_congr)
open Idealize.ShloMosaic

/-- The idealized kernel's run. -/
theorem frame_ideal : Cert.quiescent_RouterIdeal := fun m ρ _ => frame (F := Ideal) m ρ

/-- At bit patterns a named constant is its pattern: the idealized text there is the kernel's. -/
local instance namedBits : Named Bits where
  named _ _ φ bits := Scalar.ofBits (F := Bits) φ bits

/-- The two kernels' body tables have the same text. -/
theorem body_table : Cert.Router.defs₀ (F := Bits) = Cert.RouterIdeal.defs₀ (F := Bits) := by
  unfold Cert.Router.defs₀ Cert.RouterIdeal.defs₀
  refine congrArg _ (funext fun l => ?_)
  match l with
  | 0 => rfl

theorem table : Cert.Router.defs (F := Bits) = Cert.RouterIdeal.defs (F := Bits) :=
  congrArg (Pipeline.defs Cert.RouterIdeal.pcfgs) body_table

/-- The kernel's text is its idealized twin's, so the run over any values is its run too. -/
theorem frame_bits : Cert.quiescent_Router := fun m ρ _ => by
  rw [table]
  exact frame (F := Bits) m ρ

/-- The reference's run ends with its arguments unchanged and its counters at zero. -/
theorem frame_reference : Cert.quiescent_ReferenceRouterIdeal := fun m ρ _ =>
  (θ_run Cert.ReferenceRouterIdeal.defs _ _).mono
    (fun r h => ⟨fun c => (h c).2.2, sem_eq_zero_of_no_sems (by decide) r.2⟩)
    (Cert.ReferenceRouterIdeal.Value.run (F := Ideal) m ρ)

variable (m : (ℓ : Loc nD τ sig) → Buf (Elt Ideal) ℓ) (c : Dev nD)

theorem index0 : ∀ t : Fin cfg0.N, win0_0.index t = ![t.val / 8, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![t.val / 8, t.val % 8, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index8 : ∀ t : Fin cfg0.N, win0_8.index t = ![t.val / 8, t.val % 8, 0] := (by decide +kernel : ∀ t : Fin grid0.N, _)

theorem points : cfg0.N = 64 := N_0

/-! ## The body's row -/

/-- The residual row over the two halves of the mixed heads, the halves of the weights and the input. -/
def row (A Z : S1x512x512.Idx → EReal) (U L : S512x1024.Idx → EReal) (X : S1x512x1024.Idx → EReal) (n : Fin 512) (e : Fin 1024) : EReal :=
  Ideal.ofBits .f32 0x3F9837F0#32 * X (ix3 0 n e)
    + (∑ k : Fin 512, A (ix3 0 n k) * U (ix2 k e) + ∑ k : Fin 512, Z (ix3 0 n k) * L (ix2 k e))

theorem centred_at (v0 : Vec Ideal S1x512x512 .bf16) (v2 : Vec Ideal S512x1024 .bf16) (v5 : Vec Ideal S1x512x512 .bf16) (v7 : Vec Ideal S512x1024 .bf16)
    (v11 : Vec Ideal S1x512x1024 .f32) (n : Fin 512) (e : Fin 1024) :
    k0_pay4 v0 v2 v5 v7 v11 (ix2 n e)
      = row v0 v5 v2 v7 v11 n e - Ideal.div (∑ k, row v0 v5 v2 v7 v11 n k) (Ideal.ofBits .f32 0x44800000#32) := by
  pointwise [k0_pay4, row]

theorem spread_at (v0 : Vec Ideal S1x512x512 .bf16) (v2 : Vec Ideal S512x1024 .bf16) (v5 : Vec Ideal S1x512x512 .bf16) (v7 : Vec Ideal S512x1024 .bf16)
    (v11 : Vec Ideal S1x512x1024 .f32) (n : Fin 512) :
    k0_pay5 v0 v2 v5 v7 v11 (ix2 n 0)
      = Ideal.div (∑ k : Fin 1024, k0_pay4 v0 v2 v5 v7 v11 (ix2 n k) * k0_pay4 v0 v2 v5 v7 v11 (ix2 n k)) (Ideal.ofBits .f32 0x44800000#32)
        + Ideal.ofBits .f32 0x3727C5AC#32 := by
  pointwise [k0_pay5]

theorem scaled_at (v17 v19 : FVec Ideal S1x1024 .f32) (v25 : FVec Ideal S512x1024 .f32) (v32 : FVec Ideal S512x1 .f32) (n : Fin 512) (e : Fin 1024) :
    k0_pay6 v17 v19 v25 v32 (ix2 n e) = v25 (ix2 n e) * Ideal.rsqrt (v32 (ix2 n 0)) * v17 (ix2 0 e) + v19 (ix2 0 e) := by
  pointwise [k0_pay6]

theorem gain_at (v : Vec Ideal S1x1024 .f32) (e : Fin 1024) : k0_pay2 v (ix2 0 e) = v (ix2 0 e) := by
  pointwise [k0_pay2]

theorem offset_at (v : Vec Ideal S1x1024 .f32) (e : Fin 1024) : k0_pay3 v (ix2 0 e) = v (ix2 0 e) := by
  pointwise [k0_pay3]

theorem normal_at (v0 : Vec Ideal S1x512x512 .bf16) (v2 : Vec Ideal S512x1024 .bf16) (v5 : Vec Ideal S1x512x512 .bf16) (v7 : Vec Ideal S512x1024 .bf16)
    (v11 : Vec Ideal S1x512x1024 .f32) (v16 v18 : Vec Ideal S1x1024 .f32) (n : Fin 512) (e : Fin 1024) :
    k0_pay6 (k0_pay2 v16) (k0_pay3 v18) (k0_pay4 v0 v2 v5 v7 v11) (k0_pay5 v0 v2 v5 v7 v11) (ix2 n e)
      = norm (fun e => v16 (ix2 0 e)) (fun e => v18 (ix2 0 e)) (row v0 v5 v2 v7 v11 n) e := by
  rw [scaled_at, spread_at, gain_at, offset_at]
  simp only [centred_at]
  rfl

/-! ## The loads -/

theorem load_half (M : Memref sig .tc .vmem S1x512x512 .bf16) (hM : M.IsWhole) (X : Vec Ideal S1x512x512 .bf16) (h) :
    M.view.readAt (Elt Ideal) (Rect.unit (s := S1x512x512) ![0, 0, 0] S1x512x512.size h).toLoadRect (hM.unread X) = X := by
  funext x
  rw [View.readAt_apply, hM.read_unread]
  congr 1
  funext a
  refine Fin.ext ?_
  fin_cases a <;> (show 0 + 1 * _ = _; omega)

theorem load_input (M : Memref sig .tc .vmem S1x512x1024 .f32) (hM : M.IsWhole) (X : Vec Ideal S1x512x1024 .f32) (h) :
    M.view.readAt (Elt Ideal) (Rect.unit (s := S1x512x1024) ![0, 0, 0] S1x512x1024.size h).toLoadRect (hM.unread X) = X := by
  funext x
  rw [View.readAt_apply, hM.read_unread]
  congr 1
  funext a
  refine Fin.ext ?_
  fin_cases a <;> (show 0 + 1 * _ = _; omega)

theorem load_gain (M : Memref sig .tc .vmem S1x1024 .f32) (hM : M.IsWhole) (X : Vec Ideal S1x1024 .f32) (h) :
    M.view.readAt (Elt Ideal) (Rect.unit (s := S1x1024) ![0, 0] S1x1024.size h).toLoadRect (hM.unread X) = X := by
  funext x
  rw [View.readAt_apply, hM.read_unread]
  congr 1
  funext a
  refine Fin.ext ?_
  fin_cases a <;> (show 0 + 1 * _ = _; omega)

/-- The weights' rows from `o` on. -/
theorem load_weights (M : Memref sig .tc .vmem S1024x1024 .bf16) (hM : M.IsWhole) (X : Vec Ideal S1024x1024 .bf16) (o : ℕ) (ho : o ≤ 512) (h) (k : Fin 512) (e : Fin 1024) :
    M.view.readAt (Elt Ideal) (Rect.unit (s := S1024x1024) ![o, 0] S512x1024.size h).toLoadRect (hM.unread X) (ix2 k e) = X (ix2 ⟨o + k.val, by omega⟩ e) := by
  rw [View.readAt_apply, hM.read_unread]
  congr 1
  funext a
  refine Fin.ext ?_
  fin_cases a
  · show o + 1 * k.val = o + k.val
    omega
  · show 0 + 1 * e.val = e.val
    omega

theorem load_route (M : Memref sig .tc .vmem S1024x128 .bf16) (hM : M.IsWhole) (X : Vec Ideal S1024x128 .bf16) (h) :
    M.view.readAt (Elt Ideal) (Rect.unit (s := S1024x128) ![0, 0] S1024x128.size h).toLoadRect (hM.unread X) = X := by
  funext x
  rw [View.readAt_apply, hM.read_unread]
  congr 1
  funext a
  refine Fin.ext ?_
  fin_cases a <;> (show 0 + 1 * _ = _; omega)

/-- The hidden row the body computes at point `t`. -/
def hiddenRow (t : Fin cfg0.N) (n : Fin 512) (e : Fin 1024) : EReal :=
  norm (fun e => iblk m c 4 t (ix2 0 e)) (fun e => iblk m c 5 t (ix2 0 e))
      (row (iblk m c 0 t) (iblk m c 1 t) (fun i => iblk m c 3 t (ix2 ⟨(i 0).val, by have h : (i 0).val < 512 := (i 0).isLt; omega⟩ (i 1)))
        (fun i => iblk m c 3 t (ix2 ⟨512 + (i 0).val, by have h : (i 0).val < 512 := (i 0).isLt; omega⟩ (i 1))) (iblk m c 2 t) n) e

theorem hidden_at (t : Fin cfg0.N) (n : Fin 512) (e : Fin 1024) :
      k0_pay6 (bodyRun.sl.r c (ms4 t) (hs4 t) (iblk m c 4 t)) (bodyRun.sl.r_1 c (ms5 t) (hs5 t) (iblk m c 5 t))
        (bodyRun.sl.r_2 c (ms0 t) (hs0 t) (ms1 t) (hs1 t) (ms2 t) (hs2 t) (ms3 t) (hs3 t) (iblk m c 0 t) (iblk m c 1 t) (iblk m c 2 t) (iblk m c 3 t))
        (bodyRun.sl.r_3 c (ms0 t) (hs0 t) (ms1 t) (hs1 t) (ms2 t) (hs2 t) (ms3 t) (hs3 t) (iblk m c 0 t) (iblk m c 1 t) (iblk m c 2 t) (iblk m c 3 t)) (ix2 n e)
      = hiddenRow m c t n e := by
    unfold bodyRun.sl.r bodyRun.sl.r_1 bodyRun.sl.r_2 bodyRun.sl.r_3 hiddenRow
    rw [normal_at]
    refine norm_congr (fun e => ?_) (fun e => ?_) (fun e => ?_) e
    · rw [load_gain]
    · rw [load_gain]
    · unfold row
      rw [load_half, load_half, load_input]
      refine congrArg₂ (· + ·) rfl (congrArg₂ (· + ·) (Finset.sum_congr rfl fun k _ => congrArg₂ (· * ·) rfl ?_)
        (Finset.sum_congr rfl fun k _ => congrArg₂ (· * ·) rfl ?_))
      · refine (load_weights _ _ _ 0 (by decide) _ k e).trans ?_
        exact congrArg (fun r : Fin 1024 => iblk m c 3 t (ix2 r e)) (Fin.ext (Nat.zero_add k.val))
      · exact load_weights _ _ _ 512 (by decide) _ k e

/-! ## What the arrays hold -/

theorem read_entry (b : Ref sig .tc) : V m c b = StableHlo.after hostOps0 (fun b => m (c, b)) (Proc.devRef .tc b) := rfl

theorem v9_at (b : Fin 8) (n : Fin 4096) (k : Fin 512) : V m c main_v9 (ix3 b n k) = m (c.tc.loc main_arg0) (ix3 b n k) := by
  rw [read_entry]
  entry_read
  pointwise

theorem v10_at (b : Fin 8) (n : Fin 4096) (k : Fin 512) : V m c main_v10 (ix3 b n k) = m (c.tc.loc main_arg1) (ix3 b n k) := by
  rw [read_entry]
  entry_read
  pointwise

theorem v12_at (k e : Fin 1024) : V m c main_v12 (ix2 k e) = m (c.tc.loc main_arg3) (ix3 0 k e) := by
  rw [read_entry]
  entry_read
  pointwise

theorem v14_at (e : Fin 1024) : V m c main_v14 (ix2 0 e) = m (c.tc.loc main_arg4) (ix2 0 e) := by
  rw [read_entry]
  entry_read
  pointwise

theorem v16_at (e : Fin 1024) : V m c main_v16 (ix2 0 e) = m (c.tc.loc main_arg5) (ix2 0 e) := by
  rw [read_entry]
  entry_read
  pointwise

theorem a_at (t : Fin cfg0.N) (n : Fin 512) (k : Fin 512) : iblk m c 0 t (ix3 0 n k) = V m c main_v9 (ix3 ⟨t.val / 8, by have h : t.val < 64 := lt_of_lt_of_eq t.isLt points; omega⟩ ⟨512 * (t.val % 8) + n.val, by omega⟩ k) := by
  blk_ext [iblk, index0 t]

theorem z_at (t : Fin cfg0.N) (n : Fin 512) (k : Fin 512) : iblk m c 1 t (ix3 0 n k) = V m c main_v10 (ix3 ⟨t.val / 8, by have h : t.val < 64 := lt_of_lt_of_eq t.isLt points; omega⟩ ⟨512 * (t.val % 8) + n.val, by omega⟩ k) := by
  blk_ext [iblk, index1 t]

theorem x_at (t : Fin cfg0.N) (n : Fin 512) (e : Fin 1024) : iblk m c 2 t (ix3 0 n e) = V m c main_arg2 (ix3 ⟨t.val / 8, by have h : t.val < 64 := lt_of_lt_of_eq t.isLt points; omega⟩ ⟨512 * (t.val % 8) + n.val, by omega⟩ e) := by
  blk_ext [iblk, index2 t]

theorem w_at (t : Fin cfg0.N) (k e : Fin 1024) : iblk m c 3 t (ix2 k e) = V m c main_v12 (ix2 k e) := by
  blk_ext [iblk, index3 t]

theorem g_at (t : Fin cfg0.N) (e : Fin 1024) : iblk m c 4 t (ix2 0 e) = V m c main_v14 (ix2 0 e) := by
  blk_ext [iblk, index4 t]

theorem b_at (t : Fin cfg0.N) (e : Fin 1024) : iblk m c 5 t (ix2 0 e) = V m c main_v16 (ix2 0 e) := by
  blk_ext [iblk, index5 t]

theorem r_at (t : Fin cfg0.N) (k : Fin 1024) (j : Fin 128) : iblk m c 6 t (ix2 k j) = V m c main_v8 (ix2 k j) := by
  blk_ext [iblk, index6 t]

/-- The packed routing weights: the weights in the narrower type, what that type leaves of them, and zeros. -/
theorem packed : V m c main_v8 = concatenate S1024x128 1 [⟨S1024x36, (V m c main_v3 : Vec Ideal S1024x36 .bf16)⟩, ⟨S1024x36, (V m c main_v6 : Vec Ideal S1024x36 .bf16)⟩,
    ⟨S1024x56, (V m c main_v7 : Vec Ideal S1024x56 .bf16)⟩] concatenates_S1024x36_S1024x36_S1024x56_S1024x128_d1 := by
  rw [read_entry, read_entry, read_entry, read_entry]
  simp only [hostOps0, StableHlo.after_cons, StableHlo.after_nil]
  generalize (StableHlo.unary main_cst main_v7 _ _ _).result _ = W
  repeat first | rw [StableHlo.reshape_result_ne] | rw [StableHlo.unary_result_ne]
  rw [StableHlo.nary_result, StableHlo.nary_result_ne, StableHlo.nary_result_ne, StableHlo.nary_result_ne]
  · rfl
  all_goals decide

theorem v2_group (k : Fin 1024) (j : Fin 4) : V m c main_v2 (ix2 k ⟨j.val, by omega⟩) = m (c.tc.loc main_arg6) (ix3 0 k j) := by
  rw [read_entry]
  entry_read
  pointwise

theorem v2_expert (k : Fin 1024) (j : Fin 32) : V m c main_v2 (ix2 k ⟨4 + j.val, by omega⟩) = m (c.tc.loc main_arg7) (ix3 0 k j) := by
  rw [read_entry]
  entry_read
  pointwise

theorem v3_at : (V m c main_v3 : S1024x36.Idx → EReal) = V m c main_v2 := by
  rw [read_entry, read_entry]
  entry_read
  rfl

theorem v6_at (i : S1024x36.Idx) (w : EReal) (h : V m c main_v2 i = w) : V m c main_v6 i = w - w := by
  subst h
  rw [read_entry, read_entry]
  entry_read
  rfl

/-- The packed weights' first thirty-six lanes. -/
theorem v8_first (k : Fin 1024) (j : Fin 36) : V m c main_v8 (ix2 k ⟨j.val, by omega⟩) = V m c main_v2 (ix2 k j) := by
  rw [packed, ← v3_at]
  pointwise

/-- The thirty-six lanes after. -/
theorem v8_rest (k : Fin 1024) (j : Fin 36) : V m c main_v8 (ix2 k ⟨36 + j.val, by omega⟩) = V m c main_v6 (ix2 k j) := by
  rw [packed]
  pointwise

/-! ## The reference -/

theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

theorem first_at (x0 x1 : (⟨S8x4096x512, .f32⟩ : BufTy).Contents (Elt Ideal)) (b : Fin 8) (n : Fin 4096) (k : Fin 512) :
    val_main_v0 (F := Ideal) x0 x1 (ix3 b n ⟨k.val, by omega⟩) = x0 (ix3 b n k) := by
  pointwise [val_main_v0]

theorem second_at (x0 x1 : (⟨S8x4096x512, .f32⟩ : BufTy).Contents (Elt Ideal)) (b : Fin 8) (n : Fin 4096) (k : Fin 512) :
    val_main_v0 (F := Ideal) x0 x1 (ix3 b n ⟨512 + k.val, by omega⟩) = x1 (ix3 b n k) := by
  pointwise [val_main_v0]

theorem ref_product (x0 x1 : (⟨S8x4096x512, .f32⟩ : BufTy).Contents (Elt Ideal)) (x3 : (⟨S1x1024x1024, .f32⟩ : BufTy).Contents (Elt Ideal))
    (b : Fin 8) (n : Fin 4096) (e : Fin 1024) :
    val_main_v2 (F := Ideal) x0 x1 x3 (ix3 b n e) = ∑ k : Fin 1024, val_main_v0 (F := Ideal) x0 x1 (ix3 b n k) * x3 (ix3 0 k e) := by
  pointwise [val_main_v2, val_main_v1]

/-- The reference's residual row, its product in two halves. -/
theorem ref_at (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (b : Fin 8) (n : Fin 4096) (e : Fin 1024) :
    val_main_v5 (F := Ideal) x0 x1 x2 x3 (ix3 b n e)
      = Ideal.ofBits .f32 0x3F9837F0#32 * x2 (ix3 b n e)
        + (∑ k : Fin 512, x0 (ix3 b n k) * x3 (ix3 0 ⟨k.val, by omega⟩ e) + ∑ k : Fin 512, x1 (ix3 b n k) * x3 (ix3 0 ⟨512 + k.val, by omega⟩ e)) := by
  have hs : val_main_v5 (F := Ideal) x0 x1 x2 x3 (ix3 b n e)
      = Ideal.ofBits .f32 0x3F9837F0#32 * x2 (ix3 b n e) + val_main_v2 (F := Ideal) x0 x1 x3 (ix3 b n e) := by
    pointwise [val_main_v5, val_main_v4, val_main_v3, val_main_cst]
  rw [hs, ref_product, sum_halves]
  simp only [first_at, second_at]

theorem ref_norm (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (x4 x5 : (⟨S1x1024, .f32⟩ : BufTy).Contents (Elt Ideal))
    (b : Fin 8) (n : Fin 4096) (e : Fin 1024) :
    val_main_v31 (F := Ideal) x0 x1 x2 x3 x4 x5 (ix3 b n e)
      = norm (fun e => x4 (ix2 0 e)) (fun e => x5 (ix2 0 e)) (fun e => val_main_v5 (F := Ideal) x0 x1 x2 x3 (ix3 b n e)) e := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0, val_main_cst_1, val_main_cst_2, val_main_cst_3, val_main_cst_4, Combine.norm]

end Cert.Proof.Router
end
-- ==== Proof.TopTwo.lean ====
/-
  The greatest of finitely many extended reals and the first position that holds it, among all positions or some: as a
  stable sort finds it and as a maximum with the least lane equal to it finds it.
-/
module

public import Idealize.ShloMosaic.PureOps.ShapeOps
public import Idealize.ShloMosaic.Lib.SortFacts
public import Idealize.ShloMosaic.Lib.SortPrefix
public import Idealize.ShloMosaic.Lib.Pointwise

@[expose] public section

noncomputable section

namespace Cert.Proof.TopTwo

open Idealize.ShloMosaic

variable {n : ℕ}

/-- Of the positions of `P`, `i` holds the greatest entry, and is the first that does. -/
def First (f : Fin n → EReal) (P : Fin n → Prop) (i : Fin n) : Prop :=
  P i ∧ (∀ j, P j → f j ≤ f i) ∧ ∀ j, P j → j < i → f j < f i

theorem exists_first (f : Fin n → EReal) (P : Fin n → Prop) (h : ∃ j, P j) : ∃ i, First f P i := by
  classical
  obtain ⟨j, hj⟩ := h
  obtain ⟨k, hk, hmax⟩ := Finset.exists_max_image (Finset.univ.filter P) f ⟨j, by simp [hj]⟩
  have hne : ((Finset.univ.filter P).filter (fun x => f x = f k)).Nonempty := ⟨k, by simpa using hk⟩
  refine ⟨((Finset.univ.filter P).filter (fun x => f x = f k)).min' hne, ?_⟩
  have hm := Finset.min'_mem _ hne
  simp only [Finset.mem_filter, Finset.mem_univ, true_and] at hm
  refine ⟨hm.1, fun x hx => ?_, fun x hx hlt => ?_⟩
  · rw [hm.2]
    exact hmax x (by simpa using hx)
  · rw [hm.2]
    refine lt_of_le_of_ne (hmax x (by simpa using hx)) fun e => ?_
    exact absurd (Finset.min'_le _ x (by simp [hx, e])) (not_le.2 hlt)

/-- An order of the positions that agrees with the entries' has the same first greatest position. -/
theorem First.congr {f g : Fin n → EReal} {P : Fin n → Prop} {i : Fin n} (h : First f P i)
    (hle : ∀ a b, P a → P b → f a < f b → g a < g b) (heq : ∀ a b, P a → P b → f a = f b → g a = g b) : First g P i := by
  refine ⟨h.1, fun j hj => ?_, fun j hj hlt => hle j i hj h.1 (h.2.2 j hj hlt)⟩
  rcases lt_or_eq_of_le (h.2.1 j hj) with e | e
  · exact (hle j i hj h.1 e).le
  · exact (heq j i hj h.1 e).le

/-- The positions may lie among more positions, in their order. -/
theorem First.embed {k : ℕ} {f : Fin n → EReal} {g : Fin k → EReal} {P : Fin n → Prop} {Q : Fin k → Prop} {i : Fin n}
    (h : First f P i) (φ : Fin n → Fin k) (hφ : ∀ a b, a < b ↔ φ a < φ b) (hg : ∀ a, P a → g (φ a) = f a)
    (hQ : ∀ x, Q x ↔ ∃ a, P a ∧ φ a = x) : First g Q (φ i) := by
  refine ⟨(hQ _).2 ⟨i, h.1, rfl⟩, fun x hx => ?_, fun x hx hlt => ?_⟩
  · obtain ⟨a, ha, rfl⟩ := (hQ x).1 hx
    rw [hg a ha, hg i h.1]
    exact h.2.1 a ha
  · obtain ⟨a, ha, rfl⟩ := (hQ x).1 hx
    rw [hg a ha, hg i h.1]
    exact h.2.2 a ha ((hφ a i).2 hlt)

/-! ## By a stable sort -/

/-- The greater-than relation of positions, as the sort's comparator reads. -/
def before (f : Fin n → EReal) (a b : Fin n) : Bool := decide (f b < f a)

/-- Of two positions, the one the sort has to put first: a greater entry, or an equal one further left. -/
def ahead (f : Fin n → EReal) (a b : Fin n) : Bool := decide (f b < f a) || (decide (f a = f b) && decide (a < b))

theorem ahead_total (f : Fin n → EReal) : StrictTotalBefore (ahead f) :=
  StrictTotalBefore.of_key_then_position (fun a b : EReal => decide (b < a)) f (fun a => by simp)
    (fun a b c hab hbc => by simp only [decide_eq_true_eq] at *; exact lt_trans hbc hab)
    (fun a b => by simp only [decide_eq_true_eq]; rcases lt_trichotomy a b with h | h | h <;> simp [h])

theorem ahead_eq_false {f : Fin n → EReal} {a b : Fin n} (hle : f a ≤ f b) (hlt : a < b → f a < f b) : ahead f a b = false := by
  unfold ahead
  simp only [Bool.or_eq_false_iff, Bool.and_eq_false_iff, decide_eq_false_iff_not, not_lt]
  refine ⟨hle, ?_⟩
  by_cases h : a < b
  · exact .inl (hlt h).ne
  · exact .inr (not_lt.1 h)

/-- A stable sort of positions in their order never has to ask which of two equal entries is further left. -/
theorem stableSort_ahead (f : Fin n → EReal) (l : List (Fin n)) (hl : l.Pairwise (· < ·)) :
    stableSort (before f) l = stableSort (ahead f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, ahead, not_lt.2 hab.le]

theorem sortedFrom_ahead (f : Fin n → EReal) : sortedFrom (before f) = sortedFrom (ahead f) := by
  have h : sortPositions n (before f) = sortPositions n (ahead f) := stableSort_ahead f _ (List.pairwise_lt_finRange n)
  funext k
  unfold sortedFrom
  rw [List.get_of_eq h]
  rfl

/-- The sort's first position is the first greatest. -/
theorem sorted_one {f : Fin n → EReal} {i : Fin n} (h : First f (fun _ => True) i) (k : Fin n) (hk : k.val = 0) :
    sortedFrom (before f) k = i := by
  rw [sortedFrom_ahead]
  have hn : 1 ≤ n := by omega
  refine (congrArg _ (Fin.ext hk : k = (0 : Fin 1).castLE hn)).trans
    ((ahead_total f).sortedFrom_eq_of_prefix hn (fun _ => i) (fun a b _ => Subsingleton.elim a b) (fun a b hab => ?_) (fun _ p _ => ?_) 0)
  · omega
  · exact ahead_eq_false (h.2.1 p trivial) (h.2.2 p trivial)

/-- Its second position is the first greatest of the others. -/
theorem sorted_two {f : Fin n → EReal} {i j : Fin n} (h : First f (fun _ => True) i) (h' : First f (fun x => x ≠ i) j)
    (k : Fin n) (hk : k.val = 1) : sortedFrom (before f) k = j := by
  rw [sortedFrom_ahead]
  have hn : 2 ≤ n := by omega
  refine (congrArg _ (Fin.ext hk : k = (1 : Fin 2).castLE hn)).trans
    ((ahead_total f).sortedFrom_eq_of_prefix hn ![i, j] (fun a b hab => ?_) (fun a b hab => ?_) (fun a p hp => ?_) 1)
  · have hne := h'.1
    fin_cases a <;> fin_cases b <;> simp_all
  · have ha : a = 0 := by omega
    have hb : b = 1 := by omega
    subst ha hb
    exact ahead_eq_false (h.2.1 j trivial) (h.2.2 j trivial)
  · have hi : p ≠ i := fun e => hp 0 e.symm
    fin_cases a
    · exact ahead_eq_false (h.2.1 p trivial) (h.2.2 p trivial)
    · exact ahead_eq_false (h'.2.1 p hi) (h'.2.2 p hi)

/-! ## By a maximum and the least lane equal to it -/

/-- The maximum over all positions, those outside `P` at minus infinity. -/
theorem fold_first {f g : Fin n → EReal} {P : Fin n → Prop} {i : Fin n} (h : First f P i) (hP : ∀ x, P x → g x = f x)
    (hN : ∀ x, ¬ P x → g x = ⊥) : Finset.univ.fold max ⊥ g = f i := by
  refine le_antisymm ((Finset.fold_max_le _).2 ⟨bot_le, fun x _ => ?_⟩) ?_
  · by_cases hx : P x
    · rw [hP x hx]
      exact h.2.1 x hx
    · rw [hN x hx]
      exact bot_le
  · rw [← hP i h.1]
    exact (Finset.le_fold_max _).2 (.inr ⟨i, Finset.mem_univ i, le_rfl⟩)

theorem le_minsi (x y z : BitVec 32) : x.toInt ≤ (IntOp.minsi y z).toInt ↔ x.toInt ≤ y.toInt ∧ x.toInt ≤ z.toInt := by
  unfold IntOp.minsi
  split <;> rename_i h <;> simp only [BitVec.sle, BitVec.slt, decide_eq_true_eq] at h <;> constructor <;> intro h' <;> omega

theorem toInt_lane (x : Fin 128) : (BitVec.ofNat 32 x.val).toInt = x.val := by
  revert x
  decide

/-- The least lane number among those kept, every other lane at 128. -/
theorem least_lane (v : Fin 128 → BitVec 32) (i : Fin 128) (hi : v i = BitVec.ofNat 32 i.val)
    (h : ∀ x, v x = 128#32 ∨ (v x = BitVec.ofNat 32 x.val ∧ i ≤ x)) :
    Finset.univ.fold IntOp.minsi 2147483647#32 v = BitVec.ofNat 32 i.val := by
  have key : ∀ c : BitVec 32, c.toInt ≤ (Finset.univ.fold IntOp.minsi 2147483647#32 v).toInt
      ↔ c.toInt ≤ (2147483647#32).toInt ∧ ∀ x ∈ Finset.univ, c.toInt ≤ (v x).toInt := fun c =>
    Finset.fold_op_rel_iff_and (r := fun x y : BitVec 32 => x.toInt ≤ y.toInt) (fun {x y z} => le_minsi x y z)
  have hlt := i.isLt
  refine BitVec.toInt_inj.1 (le_antisymm ?_ ((key _).2 ⟨?_, fun x _ => ?_⟩))
  · rw [← hi]
    exact ((key _).1 le_rfl).2 i (Finset.mem_univ i)
  · rw [toInt_lane]
    show ((i.val : ℕ) : Int) ≤ 2147483647
    omega
  · rcases h x with e | ⟨e, hx⟩
    · rw [e, toInt_lane]
      show ((i.val : ℕ) : Int) ≤ 128
      omega
    · rw [e, toInt_lane, toInt_lane]
      exact_mod_cast hx

/-- The least lane whose entry is the maximum is the first greatest position. -/
theorem lane_first {f g : Fin 128 → EReal} {P : Fin 128 → Prop} {i : Fin 128} (h : First f P i) (hP : ∀ x, P x → g x = f x)
    (hN : ∀ x, ¬ P x → g x = ⊥) (hb : f i ≠ ⊥) (v : Fin 128 → BitVec 32)
    (hv : ∀ x, g x = f i → v x = BitVec.ofNat 32 x.val) (hw : ∀ x, g x ≠ f i → v x = 128#32) :
    Finset.univ.fold IntOp.minsi 2147483647#32 v = BitVec.ofNat 32 i.val := by
  refine least_lane v i (hv i (hP i h.1)) fun x => ?_
  by_cases hx : g x = f i
  · refine .inr ⟨hv x hx, ?_⟩
    by_cases hp : P x
    · by_contra hlt
      rw [hP x hp] at hx
      exact absurd (h.2.2 x hp (not_le.1 hlt)) (not_lt.2 hx.ge)
    · exact absurd ((hN x hp).symm.trans hx).symm hb
  · exact .inl (hw x hx)

end Cert.Proof.TopTwo
end
-- ==== Proof.RouterRow.lean ====
/-
  One row of the routing: from the row's logits to the two experts and the two weights, as the kernel finds them by
  masked maxima over the lanes.
-/
module

public import proofs.«01_k».proof.Proof.Gen.RouterIdeal.Skeleton
public import proofs.«01_k».proof.Proof.TopTwo
public import Idealize.ShloMosaic.Lib.Pointwise

@[expose] public section

set_option maxRecDepth 16384
set_option maxHeartbeats 1000000

noncomputable section

namespace Cert.Proof.Router

open Cert.RouterIdeal Cert.RouterIdeal.Gen
open Cert.Proof.TopTwo
open Idealize.ShloMosaic

/-- The router's choice from a row's logits: the group, and in it the two experts. -/
structure Choice (G : Fin 4 → ℝ) (E : Fin 4 → Fin 8 → ℝ) (g : Fin 4) (a b : Fin 8) : Prop where
  group : First (fun j => (G j : EReal)) (fun _ => True) g
  top : First (fun j => (E g j : EReal)) (fun _ => True) a
  next : First (fun j => (E g j : EReal)) (fun x => x ≠ a) b

/-- Every row has a choice. -/
theorem exists_choice (G : Fin 4 → ℝ) (E : Fin 4 → Fin 8 → ℝ) : ∃ g a b, Choice G E g a b := by
  obtain ⟨g, hg⟩ := exists_first (fun j => (G j : EReal)) (fun _ => True) ⟨0, trivial⟩
  obtain ⟨a, ha⟩ := exists_first (fun j => (E g j : EReal)) (fun _ => True) ⟨0, trivial⟩
  obtain ⟨b, hb⟩ := exists_first (fun j => (E g j : EReal)) (fun x => x ≠ a) (by
    by_cases h : a = 0
    · exact ⟨1, by rw [h]; decide⟩
    · exact ⟨0, fun e => h e.symm⟩)
  exact ⟨g, a, b, hg, ha, hb⟩

/-- The group's probability. -/
def groupShare (G : Fin 4 → ℝ) (g : Fin 4) : EReal := Ideal.div 1 (∑ j : Fin 4, Ideal.exp ((G j : EReal) - (G g : EReal)))

/-- The second expert's weight by the first's. -/
def ratio (E : Fin 8 → ℝ) (a b : Fin 8) : EReal := Ideal.exp ((E b : EReal) - (E a : EReal))

/-! ## Lanes and their numbers -/

theorem select_if {α : Type} (p : Prop) [Decidable p] (u v : α) : Scalar.select (if p then 1#1 else 0#1) u v = if p then u else v := by
  unfold Scalar.select
  split <;> simp_all

theorem lane_lt : ∀ x : Fin 128, IntOp.cmpi .slt (BitVec.ofNat 32 x.val) 4#32 = if x.val < 4 then 1#1 else 0#1 := by decide

theorem lane_in : ∀ (g : Fin 4) (x : Fin 128),
    IntOp.andi (IntOp.cmpi .sge (BitVec.ofNat 32 x.val) (IntOp.addi 4#32 (IntOp.muli (BitVec.ofNat 32 g.val) 8#32)))
      (IntOp.cmpi .slt (BitVec.ofNat 32 x.val) (IntOp.addi (IntOp.addi 4#32 (IntOp.muli (BitVec.ofNat 32 g.val) 8#32)) 8#32))
    = if 4 + 8 * g.val ≤ x.val ∧ x.val < 12 + 8 * g.val then 1#1 else 0#1 := by decide +kernel

theorem lane_eq (x y : Fin 128) : IntOp.cmpi .eq (BitVec.ofNat 32 x.val) (BitVec.ofNat 32 y.val) = if x = y then 1#1 else 0#1 := by
  unfold IntOp.cmpi
  by_cases h : x = y
  · simp [h]
  · have h' : BitVec.ofNat 32 x.val ≠ BitVec.ofNat 32 y.val := fun e => h (Fin.ext (by
      have := congrArg BitVec.toInt e
      rw [toInt_lane, toInt_lane] at this
      exact_mod_cast this))
    rw [if_neg h]
    show BitVec.ofBool (BitVec.ofNat 32 x.val == BitVec.ofNat 32 y.val) = 0#1
    rw [beq_eq_false_iff_ne.2 h']
    rfl

theorem mask_named : (Named.named κ "mask" 0xF149F2CA#32 : Ideal .f32) = (⊥ : EReal) := rfl

theorem ofBits_neg_inf : Ideal.ofBits .f32 0xFF800000#32 = ⊥ := by
  simp [Ideal.ofBits, Ideal.ieee]

/-- Group `j`'s lane. -/
def groupLane (j : Fin 4) : Fin 128 := ⟨j.val, by omega⟩

/-- The lane of group `g`'s expert `j`. -/
def expertLane (g : Fin 4) (j : Fin 8) : Fin 128 := ⟨4 + 8 * g.val + j.val, by omega⟩

theorem expertLane_inj {g : Fin 4} {a b : Fin 8} (h : expertLane g a = expertLane g b) : a = b := by
  have := congrArg Fin.val h
  unfold expertLane at this
  dsimp only at this
  exact Fin.ext (by omega)

/-- The least lane among those that hold the maximum, as the kernel reduces it. -/
theorem fold_lane {f h : Fin 128 → EReal} {P : Fin 128 → Prop} {i : Fin 128} (hf : First f P i) (hP : ∀ x, P x → h x = f x)
    (hN : ∀ x, ¬ P x → h x = ⊥) (hb : f i ≠ ⊥) (v : Fin 128 → BitVec 32) {M : EReal} (hM : M = f i)
    (hv : ∀ x, v x = if h x = M then BitVec.ofNat 32 x.val else 128#32) :
    Finset.univ.fold IntOp.minsi 2147483647#32 v = BitVec.ofNat 32 i.val :=
  lane_first hf hP hN hb v (fun x e => by rw [hv, if_pos (e.trans hM.symm)]) (fun x e => by rw [hv, if_neg (fun e' => e (e'.trans hM))])

/-! ## The row -/

section
variable (v59 : FVec Ideal S512x1024 .bf16) (v62 : FVec Ideal S512x128 .f32) (v63 : Vec Ideal S1024x128 .bf16) (n : Fin 512)
  {G : Fin 4 → ℝ} {E : Fin 4 → Fin 8 → ℝ} {g : Fin 4} {a b : Fin 8} (hc : Choice G E g a b)
  (hG : ∀ j, k0_pay18 v59 v62 v63 (ix2 n (groupLane j)) = (G j : EReal))
  (hE : ∀ g j, k0_pay18 v59 v62 v63 (ix2 n (expertLane g j)) = (E g j : EReal))

theorem groups_at (x : Fin 128) : k0_pay19 v59 v62 v63 (ix2 n x) = if x.val < 4 then k0_pay18 v59 v62 v63 (ix2 n x) else ⊥ := by
  rw [← select_if, ← lane_lt, ← mask_named]
  pointwise [k0_pay19]

include hc hG in
theorem group_first : First (fun x => k0_pay18 v59 v62 v63 (ix2 n x)) (fun x => x.val < 4) (groupLane g) :=
  hc.group.embed groupLane (fun _ _ => Iff.rfl) (fun j _ => hG j)
    fun x => ⟨fun h => ⟨⟨x.val, h⟩, trivial, rfl⟩, fun ⟨j, _, h⟩ => h ▸ j.isLt⟩

include hc hG in
theorem groupMax_at : k0_pay20 v59 v62 v63 (ix2 n 0) = (G g : EReal) := by
  rw [← hG g]
  refine Eq.trans ?_ (fold_first (group_first v59 v62 v63 n hc hG) (g := fun x => k0_pay19 v59 v62 v63 (ix2 n x))
    (fun x hx => by rw [groups_at, if_pos hx]) (fun x hx => by rw [groups_at, if_neg hx]))
  rw [← ofBits_neg_inf]
  pointwise [k0_pay20]

include hc hG in
theorem groupIndex_at : Finset.univ.fold IntOp.minsi 2147483647#32
    (fun x : Fin 128 => if k0_pay19 v59 v62 v63 (ix2 n x) = k0_pay20 v59 v62 v63 (ix2 n 0) then BitVec.ofNat 32 x.val else 128#32) = BitVec.ofNat 32 g.val :=
  fold_lane (group_first v59 v62 v63 n hc hG) (h := fun x => k0_pay19 v59 v62 v63 (ix2 n x))
    (fun x hx => by rw [groups_at, if_pos hx]) (fun x hx => by rw [groups_at, if_neg hx])
    (by rw [hG]; exact EReal.coe_ne_bot _) _ ((groupMax_at v59 v62 v63 n hc hG).trans (hG g).symm) (fun _ => rfl)

/-- A sum over the lanes of what vanishes past the first four. -/
theorem sum_four (f : Fin 128 → EReal) (h : ∀ x, ¬ x.val < 4 → f x = 0) : ∑ x, f x = ∑ j : Fin 4, f (groupLane j) := by
  have hs := Fin.sum_univ_add (a := 4) (b := 124) f
  refine hs.trans ?_
  rw [Finset.sum_eq_zero (f := fun i : Fin 124 => f (Fin.natAdd 4 i)) fun i _ => h _ (by simp), add_zero]
  rfl

include hc hG in
theorem groupShare_at : k0_pay21 v59 v62 v63 (ix2 n 0) = groupShare G g := by
  have h : k0_pay21 v59 v62 v63 (ix2 n 0)
      = Ideal.div 1 (∑ x : Fin 128, Ideal.exp (k0_pay19 v59 v62 v63 (ix2 n x) - k0_pay20 v59 v62 v63 (ix2 n 0))) := by
    pointwise [k0_pay21]
  rw [h, sum_four, groupMax_at v59 v62 v63 n hc hG]
  · unfold groupShare
    refine congrArg _ (Finset.sum_congr rfl fun j _ => ?_)
    rw [groups_at, if_pos (show (groupLane j).val < 4 from j.isLt), hG]
  · intro x hx
    rw [groups_at, if_neg hx, groupMax_at v59 v62 v63 n hc hG]
    rfl

include hc hG in
theorem experts_at (x : Fin 128) : k0_pay22 v59 v62 v63 (ix2 n x)
    = if 4 + 8 * g.val ≤ x.val ∧ x.val < 12 + 8 * g.val then k0_pay18 v59 v62 v63 (ix2 n x) else ⊥ := by
  rw [← select_if, ← lane_in, ← mask_named, ← groupIndex_at v59 v62 v63 n hc hG]
  pointwise [k0_pay22]

include hc hE in
theorem expert_first : First (fun x => k0_pay18 v59 v62 v63 (ix2 n x)) (fun x => 4 + 8 * g.val ≤ x.val ∧ x.val < 12 + 8 * g.val) (expertLane g a) :=
  hc.top.embed (expertLane g) (fun p q => by unfold expertLane; simp only [Fin.lt_def]; omega) (fun j _ => hE g j)
    fun x => ⟨fun h => ⟨⟨x.val - (4 + 8 * g.val), by omega⟩, trivial, Fin.ext (by unfold expertLane; dsimp only; omega)⟩,
      fun ⟨j, _, h⟩ => by rw [← h]; unfold expertLane; dsimp only; omega⟩

include hc hE in
theorem expert_next : First (fun x => k0_pay18 v59 v62 v63 (ix2 n x))
    (fun x => (4 + 8 * g.val ≤ x.val ∧ x.val < 12 + 8 * g.val) ∧ x ≠ expertLane g a) (expertLane g b) :=
  hc.next.embed (expertLane g) (fun p q => by unfold expertLane; simp only [Fin.lt_def]; omega) (fun j _ => hE g j)
    fun x => ⟨fun h => by
      have hx : expertLane g ⟨x.val - (4 + 8 * g.val), by omega⟩ = x := Fin.ext (by unfold expertLane; dsimp only; omega)
      exact ⟨_, fun e => h.2 (by rw [← hx, e]), hx⟩,
      fun ⟨j, hj, h⟩ => ⟨by rw [← h]; unfold expertLane; dsimp only; omega, fun e => hj (expertLane_inj (h.trans e))⟩⟩

include hc hG hE in
theorem topMax_at : k0_pay23 v59 v62 v63 (ix2 n 0) = (E g a : EReal) := by
  rw [← hE g a]
  refine Eq.trans ?_ (fold_first (expert_first v59 v62 v63 n hc hE) (g := fun x => k0_pay22 v59 v62 v63 (ix2 n x))
    (fun x hx => by rw [experts_at v59 v62 v63 n hc hG, if_pos hx]) (fun x hx => by rw [experts_at v59 v62 v63 n hc hG, if_neg hx]))
  rw [← ofBits_neg_inf]
  pointwise [k0_pay23]

include hc hG hE in
theorem topIndex_at : k0_pay25 (k0_pay24 v59 v62 v63) (ix2 n 0) = BitVec.ofNat 32 (expertLane g a).val := by
  have h : k0_pay25 (k0_pay24 v59 v62 v63) (ix2 n 0)
      = Finset.univ.fold IntOp.minsi 2147483647#32 (fun x : Fin 128 => k0_pay24 v59 v62 v63 (ix2 n x)) := by
    pointwise [k0_pay25]
  rw [h]
  refine fold_lane (expert_first v59 v62 v63 n hc hE) (h := fun x => k0_pay22 v59 v62 v63 (ix2 n x))
    (fun x hx => by rw [experts_at v59 v62 v63 n hc hG, if_pos hx]) (fun x hx => by rw [experts_at v59 v62 v63 n hc hG, if_neg hx])
    (by rw [hE]; exact EReal.coe_ne_bot _) _ ((topMax_at v59 v62 v63 n hc hG hE).trans (hE g a).symm) (fun x => ?_)
  pointwise [k0_pay24]

variable (v69 : IVec S512x128 32) (h69 : ∀ x : Fin 128, v69 (ix2 n x) = BitVec.ofNat 32 x.val)

include hc hG hE h69 in
theorem others_at (x : Fin 128) : k0_pay26 v69 (k0_pay22 v59 v62 v63) (k0_pay24 v59 v62 v63) (ix2 n x)
    = if x = expertLane g a then ⊥ else k0_pay22 v59 v62 v63 (ix2 n x) := by
  rw [← select_if, ← lane_eq, ← mask_named, ← topIndex_at v59 v62 v63 n hc hG hE, ← h69 x]
  pointwise [k0_pay26]

include hc hG hE h69 in
theorem others_in (x : Fin 128) (hx : (4 + 8 * g.val ≤ x.val ∧ x.val < 12 + 8 * g.val) ∧ x ≠ expertLane g a) :
    k0_pay26 v69 (k0_pay22 v59 v62 v63) (k0_pay24 v59 v62 v63) (ix2 n x) = k0_pay18 v59 v62 v63 (ix2 n x) := by
  rw [others_at v59 v62 v63 n hc hG hE v69 h69, if_neg hx.2, experts_at v59 v62 v63 n hc hG, if_pos hx.1]

include hc hG hE h69 in
theorem others_out (x : Fin 128) (hx : ¬ ((4 + 8 * g.val ≤ x.val ∧ x.val < 12 + 8 * g.val) ∧ x ≠ expertLane g a)) :
    k0_pay26 v69 (k0_pay22 v59 v62 v63) (k0_pay24 v59 v62 v63) (ix2 n x) = ⊥ := by
  rw [others_at v59 v62 v63 n hc hG hE v69 h69]
  split
  · rfl
  · rename_i h
    rw [experts_at v59 v62 v63 n hc hG, if_neg fun e => hx ⟨e, h⟩]

include hc hG hE h69 in
theorem nextMax_at : k0_pay27 v69 (k0_pay22 v59 v62 v63) (k0_pay24 v59 v62 v63) (ix2 n 0) = (E g b : EReal) := by
  rw [← hE g b]
  refine Eq.trans ?_ (fold_first (expert_next v59 v62 v63 n hc hE) (g := fun x => k0_pay26 v69 (k0_pay22 v59 v62 v63) (k0_pay24 v59 v62 v63) (ix2 n x))
    (others_in v59 v62 v63 n hc hG hE v69 h69) (others_out v59 v62 v63 n hc hG hE v69 h69))
  rw [← ofBits_neg_inf]
  pointwise [k0_pay27]

include hc hG hE h69 in
theorem nextIndex_at : Finset.univ.fold IntOp.minsi 2147483647#32
    (fun x : Fin 128 => if k0_pay26 v69 (k0_pay22 v59 v62 v63) (k0_pay24 v59 v62 v63) (ix2 n x) = k0_pay27 v69 (k0_pay22 v59 v62 v63) (k0_pay24 v59 v62 v63) (ix2 n 0)
      then v69 (ix2 n x) else 128#32) = BitVec.ofNat 32 (expertLane g b).val :=
  fold_lane (expert_next v59 v62 v63 n hc hE) (h := fun x => k0_pay26 v69 (k0_pay22 v59 v62 v63) (k0_pay24 v59 v62 v63) (ix2 n x))
    (others_in v59 v62 v63 n hc hG hE v69 h69) (others_out v59 v62 v63 n hc hG hE v69 h69)
    (by rw [hE]; exact EReal.coe_ne_bot _) _ ((nextMax_at v59 v62 v63 n hc hG hE v69 h69).trans (hE g b).symm) (fun x => by rw [h69])

include hc hG hE h69 in
theorem ratio_at : k0_pay28 v69 (k0_pay22 v59 v62 v63) (k0_pay23 v59 v62 v63) (k0_pay24 v59 v62 v63) (ix2 n 0) = ratio (E g) a b := by
  have h : k0_pay28 v69 (k0_pay22 v59 v62 v63) (k0_pay23 v59 v62 v63) (k0_pay24 v59 v62 v63) (ix2 n 0)
      = Ideal.exp (k0_pay27 v69 (k0_pay22 v59 v62 v63) (k0_pay24 v59 v62 v63) (ix2 n 0) - k0_pay23 v59 v62 v63 (ix2 n 0)) := by
    pointwise [k0_pay28]
  rw [h, nextMax_at v59 v62 v63 n hc hG hE v69 h69, topMax_at v59 v62 v63 n hc hG hE]
  rfl

/-- What the kernel stores of the row. -/
def stored : FVec Ideal S1x512x128 .f32 :=
  k0_pay1 (k0_pay29 v69 (k0_pay21 v59 v62 v63) (k0_pay22 v59 v62 v63) (k0_pay23 v59 v62 v63) (k0_pay24 v59 v62 v63))
    (k0_pay30 v69 (k0_pay21 v59 v62 v63) (k0_pay22 v59 v62 v63) (k0_pay23 v59 v62 v63) (k0_pay24 v59 v62 v63)) (k0_pay31 v69)

theorem stored_at (x : Fin 128) : stored v59 v62 v63 v69 (ix3 0 n x)
    = Scalar.select (IntOp.cmpi .eq (v69 (ix2 n x)) 3#32)
        (k0_pay29 v69 (k0_pay21 v59 v62 v63) (k0_pay22 v59 v62 v63) (k0_pay23 v59 v62 v63) (k0_pay24 v59 v62 v63) (ix2 n 0))
        (k0_pay30 v69 (k0_pay21 v59 v62 v63) (k0_pay22 v59 v62 v63) (k0_pay23 v59 v62 v63) (k0_pay24 v59 v62 v63) (ix2 n x)) := by
  unfold stored
  have h31 : k0_pay31 v69 (ix2 n x) = IntOp.cmpi .eq (v69 (ix2 n x)) 3#32 := by
    pointwise [k0_pay31]
  rw [← h31]
  pointwise [k0_pay1]

theorem lanes_at (v88 : FVec Ideal S512x1 .f32) (v101 : FVec Ideal S512x128 .f32) (v103 : FVec Ideal S512x1 .f32) (v107 : IVec S512x128 32) (x : Fin 128) :
    k0_pay30 v69 v88 v101 v103 v107 (ix2 n x)
      = Scalar.select (IntOp.cmpi .eq (v69 (ix2 n x)) 2#32) (Ideal.div (v88 (ix2 n 0)) (1 + k0_pay28 v69 v101 v103 v107 (ix2 n 0)))
        (Scalar.select (IntOp.cmpi .eq (v69 (ix2 n x)) 1#32)
          (FloatOps.sitofp (F := Ideal) .f32 (IntOp.subi (Finset.univ.fold IntOp.minsi 2147483647#32
            (fun x : Fin 128 => if k0_pay26 v69 v101 v107 (ix2 n x) = k0_pay27 v69 v101 v107 (ix2 n 0) then v69 (ix2 n x) else 128#32)) 4#32))
          (Scalar.select (IntOp.cmpi .eq (v69 (ix2 n x)) 0#32) (FloatOps.sitofp (F := Ideal) .f32 (IntOp.subi (k0_pay25 v107 (ix2 n 0)) 4#32)) 0)) := by
  pointwise [k0_pay30]

/-- The number of group `g`'s expert `j`. -/
def expertNumber (g : Fin 4) (j : Fin 8) : EReal :=
  FloatOps.sitofp (F := Ideal) .f32 (IntOp.addi (IntOp.muli (BitVec.ofNat 32 g.val) 8#32) (BitVec.ofNat 32 j.val))

theorem number_lane : ∀ (g : Fin 4) (j : Fin 8), IntOp.subi (BitVec.ofNat 32 (expertLane g j).val) 4#32
    = IntOp.addi (IntOp.muli (BitVec.ofNat 32 g.val) 8#32) (BitVec.ofNat 32 j.val) := by decide +kernel

include hc hG hE h69 in
theorem stored_expert0 : stored v59 v62 v63 v69 (ix3 0 n 0) = expertNumber g a := by
  rw [stored_at, lanes_at, h69, topIndex_at v59 v62 v63 n hc hG hE, number_lane]
  rfl

include hc hG hE h69 in
theorem stored_expert1 : stored v59 v62 v63 v69 (ix3 0 n 1) = expertNumber g b := by
  rw [stored_at, lanes_at, h69, nextIndex_at v59 v62 v63 n hc hG hE v69 h69, number_lane]
  rfl

include hc hG hE h69 in
theorem stored_weight0 : stored v59 v62 v63 v69 (ix3 0 n 2) = Ideal.div (groupShare G g) (1 + ratio (E g) a b) := by
  rw [stored_at, lanes_at, h69, groupShare_at v59 v62 v63 n hc hG, ratio_at v59 v62 v63 n hc hG hE v69 h69]
  rfl

include hc hG hE h69 in
theorem stored_weight1 : stored v59 v62 v63 v69 (ix3 0 n 3) = Ideal.div (groupShare G g * ratio (E g) a b) (1 + ratio (E g) a b) := by
  have h : k0_pay29 v69 (k0_pay21 v59 v62 v63) (k0_pay22 v59 v62 v63) (k0_pay23 v59 v62 v63) (k0_pay24 v59 v62 v63) (ix2 n 0)
      = Ideal.div (k0_pay21 v59 v62 v63 (ix2 n 0) * k0_pay28 v69 (k0_pay22 v59 v62 v63) (k0_pay23 v59 v62 v63) (k0_pay24 v59 v62 v63) (ix2 n 0))
        (1 + k0_pay28 v69 (k0_pay22 v59 v62 v63) (k0_pay23 v59 v62 v63) (k0_pay24 v59 v62 v63) (ix2 n 0)) := by
    pointwise [k0_pay29]
  rw [stored_at, h69, h, groupShare_at v59 v62 v63 n hc hG, ratio_at v59 v62 v63 n hc hG hE v69 h69]
  rfl

end

end Cert.Proof.Router
end
-- ==== Proof.RouterRef.lean ====
/-
  The reference's routing row: a softmax over the groups and over the chosen group's experts, the greatest entries taken
  by sorts, read in the row's logits.
-/
module

public import proofs.«01_k».proof.Proof.Gen.ReferenceRouterIdeal.Read
public import proofs.«01_k».proof.Proof.RouterRow
public import proofs.«01_k».proof.Proof.Online
public import Idealize.ShloMosaic.Lib.Pointwise

@[expose] public section

set_option maxRecDepth 16384
set_option maxHeartbeats 1000000

noncomputable section

namespace Cert.Proof.Router

open Cert.ReferenceRouterIdeal Cert.ReferenceRouterIdeal.Read
open Cert.Proof.TopTwo
open Idealize.ShloMosaic

/-! ## The softmax's order -/

section
variable {n : ℕ} (f : Fin n → ℝ) (i : Fin n)

/-- A softmax's entry, shifted by entry `i`. -/
def soft (j : Fin n) : EReal :=
  Ideal.div (Ideal.exp ((f j : EReal) - (f i : EReal))) (∑ x, Ideal.exp ((f x : EReal) - (f i : EReal)))

/-- The sum under the quotient. -/
def total : ℝ := ∑ x, Real.exp (f x - f i)

theorem total_pos : 0 < total f i := Finset.sum_pos (fun j _ => Real.exp_pos _) ⟨i, Finset.mem_univ i⟩

theorem sum_total : ∑ x, Ideal.exp ((f x : EReal) - (f i : EReal)) = ((total f i : ℝ) : EReal) := by
  unfold total
  rw [Cert.Proof.coe_sum]
  exact Finset.sum_congr rfl fun x _ => by rw [← EReal.coe_sub, Ideal.exp_coe]

theorem soft_real (j : Fin n) : soft f i j = ((Real.exp (f j - f i) * (1 / total f i) : ℝ) : EReal) := by
  unfold soft
  rw [sum_total, Ideal.div_coe (total_pos f i).ne', ← EReal.coe_sub, Ideal.exp_coe, ← EReal.coe_mul]

theorem soft_first {P : Fin n → Prop} {k : Fin n} (h : First (fun j => (f j : EReal)) P k) : First (soft f i) P k :=
  h.congr
    (fun a b _ _ hab => by
      rw [soft_real, soft_real, EReal.coe_lt_coe_iff]
      have h1 := EReal.coe_lt_coe_iff.1 hab
      exact mul_lt_mul_of_pos_right (Real.exp_lt_exp.2 (by linarith)) (one_div_pos.2 (total_pos f i)))
    (fun a b _ _ hab => by
      rw [soft_real, soft_real, EReal.coe_eq_coe_iff.1 hab])
end

/-- The two greatest shares, scaled to sum to one and by the group's share. -/
theorem weight0 {G : Fin 4 → ℝ} {E : Fin 8 → ℝ} (g : Fin 4) (a b : Fin 8) :
    soft G g g * Ideal.div (soft E a a) (soft E a a + soft E a b) = Ideal.div (groupShare G g) (1 + ratio E a b) := by
  have hG := total_pos G g
  have hE := total_pos E a
  have hr := Real.exp_pos (E b - E a)
  have h0 : groupShare G g = ((1 / total G g : ℝ) : EReal) := by
    unfold groupShare
    rw [sum_total, Ideal.div_coe hG.ne', one_mul]
  have h1 : 0 < Real.exp (E a - E a) * (1 / total E a) + Real.exp (E b - E a) * (1 / total E a) := by positivity
  rw [soft_real, soft_real, soft_real, h0, ratio, ← EReal.coe_sub, Ideal.exp_coe, ← EReal.coe_add, ← EReal.coe_one, ← EReal.coe_add,
    Ideal.div_coe h1.ne', Ideal.div_coe (by positivity), ← EReal.coe_mul, ← EReal.coe_mul, ← EReal.coe_mul]
  congr 1
  rw [sub_self, sub_self, Real.exp_zero]
  field_simp

theorem weight1 {G : Fin 4 → ℝ} {E : Fin 8 → ℝ} (g : Fin 4) (a b : Fin 8) :
    soft G g g * Ideal.div (soft E a b) (soft E a a + soft E a b) = Ideal.div (groupShare G g * ratio E a b) (1 + ratio E a b) := by
  have hG := total_pos G g
  have hE := total_pos E a
  have hr := Real.exp_pos (E b - E a)
  have h0 : groupShare G g = ((1 / total G g : ℝ) : EReal) := by
    unfold groupShare
    rw [sum_total, Ideal.div_coe hG.ne', one_mul]
  have h1 : 0 < Real.exp (E a - E a) * (1 / total E a) + Real.exp (E b - E a) * (1 / total E a) := by positivity
  rw [soft_real, soft_real, soft_real, h0, ratio, ← EReal.coe_sub, Ideal.exp_coe, ← EReal.coe_add, ← EReal.coe_one, ← EReal.coe_add, ← EReal.coe_mul,
    Ideal.div_coe h1.ne', Ideal.div_coe (by positivity), ← EReal.coe_mul, ← EReal.coe_mul, ← EReal.coe_mul]
  congr 1
  rw [sub_self, sub_self, Real.exp_zero]
  field_simp

/-! ## The sorts -/

theorem sort2_along {s : Shape} (d : ℕ) {α β : Type} (hd : d < s.rank) (cmp : α × β → α × β → BitVec 1) (x : s.Idx → α) (y : s.Idx → β) (j : s.Idx) :
    (Host.sort2 s d cmp x y).1 j = x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩)))
    ∧ (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]
  exact ⟨rfl, rfl⟩

theorem row_along {M N : ℕ} (R : Fin M) (q q' : Fin N) : Shape.Idx.along (s := ⟨2, ![M, N]⟩) (ix2 R q) (1 : Fin 2) q' = ix2 R q' := by
  funext a
  fin_cases a <;> rfl

/-- The sort's comparator is the greater-than relation of the row's positions. -/
theorem row_before {M N : ℕ} (x : FVec Ideal ⟨2, ![M, N]⟩ .f32) (R : Fin M) (q : Fin N) :
    (fun k k' : Fin N => FloatOps.cmpfTotal (F := Ideal) .gt (x (Shape.Idx.along (s := ⟨2, ![M, N]⟩) (ix2 R q) (1 : Fin 2) k))
      (x (Shape.Idx.along (s := ⟨2, ![M, N]⟩) (ix2 R q) (1 : Fin 2) k')) == 1#1) = before fun j => x (ix2 R j) := by
  funext k k'
  rw [row_along, row_along, Ideal.cmpfTotal_def]
  unfold before
  show (Ideal.cmp .ogt _ _ == 1#1) = _
  unfold Ideal.cmp
  by_cases hlt : x (ix2 R k') < x (ix2 R k) <;> simp [hlt]

/-- Where the sort of row `R` finds its entry `k`. -/
theorem topK_at {M N K : ℕ} (x : FVec Ideal ⟨2, ![M, N]⟩ .f32) (h) (R : Fin M) (k : Fin K) (hk : k.val < N) :
    (Host.topK ⟨2, ![M, K]⟩ 1 (FloatOps.cmpfTotal .gt) x h).1 (ix2 R k) = x (ix2 R (sortedFrom (before fun j => x (ix2 R j)) ⟨k.val, hk⟩))
    ∧ (Host.topK ⟨2, ![M, K]⟩ 1 (FloatOps.cmpfTotal .gt) x h).2 (ix2 R k) = BitVec.ofNat 32 (sortedFrom (before fun j => x (ix2 R j)) ⟨k.val, hk⟩).val := by
  have hi : (fun a => ⟨0 + (ix2 R k (Fin.cast h.1.symm a)).val, Nat.lt_of_lt_of_le (Nat.add_lt_add_left (ix2 R k _).isLt _) (h.2 a)⟩ : (⟨2, ![M, N]⟩ : Shape).Idx)
      = ix2 R ⟨k.val, hk⟩ := by
    funext a
    fin_cases a <;> exact Fin.ext (Nat.zero_add _)
  have hs := sort2_along (s := ⟨2, ![M, N]⟩) 1 (Nat.lt_add_one 1) (fun l r : Ideal .f32 × BitVec 32 => FloatOps.cmpfTotal .gt l.1 r.1) x
    (fun i => iotaInDim ⟨2, ![M, N]⟩ 32 (1 : Fin 2) i) (ix2 R ⟨k.val, hk⟩)
  have hπ := congrArg (fun B => sortedFrom B (⟨k.val, hk⟩ : Fin N)) (row_before x R ⟨k.val, hk⟩)
  constructor
  · refine (congrArg (Host.sort2 ⟨2, ![M, N]⟩ 1 (fun l r : Ideal .f32 × BitVec 32 => FloatOps.cmpfTotal .gt l.1 r.1) x
      (fun i => iotaInDim ⟨2, ![M, N]⟩ 32 (1 : Fin 2) i)).1 hi).trans (hs.1.trans (congrArg x ?_))
    exact (row_along R _ _).trans (congrArg (ix2 R) hπ)
  · refine (congrArg (Host.sort2 ⟨2, ![M, N]⟩ 1 (fun l r : Ideal .f32 × BitVec 32 => FloatOps.cmpfTotal .gt l.1 r.1) x
      (fun i => iotaInDim ⟨2, ![M, N]⟩ 32 (1 : Fin 2) i)).2 hi).trans (hs.2.trans ?_)
    refine (congrArg (fun i => iotaInDim ⟨2, ![M, N]⟩ 32 (1 : Fin 2) i) ((row_along R _ _).trans (congrArg (ix2 R) hπ))).trans ?_
    rfl

/-! ## The reference's row -/

section
variable (x0 x1 : (⟨S8x4096x512, .f32⟩ : BufTy).Contents (Elt Ideal)) (x2 : (⟨S8x4096x1024, .f32⟩ : BufTy).Contents (Elt Ideal)) (x3 : (⟨S1x1024x1024, .f32⟩ : BufTy).Contents (Elt Ideal)) (x4 x5 : (⟨S1x1024, .f32⟩ : BufTy).Contents (Elt Ideal)) (x6 : (⟨S1x1024x4, .f32⟩ : BufTy).Contents (Elt Ideal)) (x7 : (⟨S1x1024x32, .f32⟩ : BufTy).Contents (Elt Ideal))
  (R : Fin 32768) {G : Fin 4 → ℝ} {E : Fin 4 → Fin 8 → ℝ} {g : Fin 4} {a b : Fin 8} (hc : Choice G E g a b)
  (hG : ∀ j, val_main_v34 (F := Ideal) x0 x1 x2 x3 x4 x5 x6 (ix2 R j) = (G j : EReal))
  (hE : ∀ g j, val_main_v48 (F := Ideal) x0 x1 x2 x3 x4 x5 x7 (ix3 R g j) = (E g j : EReal))

include hc hG in
theorem ref_groupMax : val_main_v37 (F := Ideal) x0 x1 x2 x3 x4 x5 x6 (ix1 R) = (G g : EReal) := by
  have h : val_main_v37 (F := Ideal) x0 x1 x2 x3 x4 x5 x6 (ix1 R) = max (Ideal.ofBits .f32 0xFF800000#32)
      (Finset.univ.fold max (Ideal.ofBits .f32 0xFF800000#32) (fun x => val_main_v34 (F := Ideal) x0 x1 x2 x3 x4 x5 x6 (ix2 R x))) := by
    pointwise [val_main_v37, val_main_v36, val_main_v35, val_main_cst_5, val_main_cst_6]
  rw [h, ofBits_neg_inf, fold_first hc.group (fun x _ => hG x) (fun x hx => absurd trivial hx), max_eq_right bot_le]

include hc hG in
theorem ref_groupShare (j : Fin 4) : val_main_v45 (F := Ideal) x0 x1 x2 x3 x4 x5 x6 (ix2 R j) = soft G g j := by
  have he : ∀ j : Fin 4, val_main_v41 (F := Ideal) x0 x1 x2 x3 x4 x5 x6 (ix2 R j) = Ideal.exp ((G j : EReal) - (G g : EReal)) := fun j => by
    rw [← hG j, ← ref_groupMax x0 x1 x2 x3 x4 x5 x6 R hc hG]
    pointwise [val_main_v41, val_main_v40, val_main_v39, val_main_v38]
  have h : val_main_v45 (F := Ideal) x0 x1 x2 x3 x4 x5 x6 (ix2 R j)
      = Ideal.div (val_main_v41 (F := Ideal) x0 x1 x2 x3 x4 x5 x6 (ix2 R j)) (∑ x : Fin 4, val_main_v41 (F := Ideal) x0 x1 x2 x3 x4 x5 x6 (ix2 R x)) := by
    pointwise [val_main_v45, val_main_v44, val_main_v43, val_main_v42, val_main_cst_7]
  rw [h]
  simp only [he]
  rfl

include hc hG in
theorem ref_group : val_main_values (F := Ideal) x0 x1 x2 x3 x4 x5 x6 (ix2 R 0) = soft G g g
    ∧ val_main_indices (F := Ideal) x0 x1 x2 x3 x4 x5 x6 (ix2 R 0) = BitVec.ofNat 32 g.val := by
  have hk := topK_at (val_main_v45 (F := Ideal) x0 x1 x2 x3 x4 x5 x6) Cert.ReferenceRouterIdeal.Gen.facts.sliceFits_S32768x4_S32768x1 R (0 : Fin 1) (by decide)
  have hs : sortedFrom (before fun j : Fin 4 => val_main_v45 (F := Ideal) x0 x1 x2 x3 x4 x5 x6 (ix2 R j)) ⟨0, by decide⟩ = g := by
    simp only [ref_groupShare x0 x1 x2 x3 x4 x5 x6 R hc hG]
    exact sorted_one (soft_first G g hc.group) _ rfl
  unfold val_main_values val_main_indices
  refine ⟨hk.1.trans ?_, hk.2.trans ?_⟩
  · refine (congrArg (fun q : Fin 4 => val_main_v45 (F := Ideal) x0 x1 x2 x3 x4 x5 x6 (ix2 R q)) hs).trans ?_
    exact ref_groupShare x0 x1 x2 x3 x4 x5 x6 R hc hG g
  · exact congrArg (fun q : Fin 4 => BitVec.ofNat 32 q.val) hs

include hc hG hE in
theorem ref_experts (j : Fin 8) : val_main_v56 (F := Ideal) x0 x1 x2 x3 x4 x5 x6 x7 (ix2 R j) = (E g j : EReal) := by
  have h : val_main_v56 (F := Ideal) x0 x1 x2 x3 x4 x5 x6 x7 (ix2 R j)
      = ∑ x : Fin 4, Scalar.select (IntOp.cmpi .eq (val_main_indices (F := Ideal) x0 x1 x2 x3 x4 x5 x6 (ix2 R 0)) (BitVec.ofNat 32 x.val))
        (val_main_v48 (F := Ideal) x0 x1 x2 x3 x4 x5 x7 (ix3 R x j)) (val_main_cst_8 (F := Ideal) ix0) := by
    pointwise [val_main_v56, val_main_v55, val_main_v54, val_main_v53, val_main_v52, val_main_v51, val_main_v50, val_main_v49, val_main_call0_v0, val_main_call0_v1, val_main_call0_v2, id_eq, val_main_cst_9]
  have he : ∀ p q : Fin 4, IntOp.cmpi .eq (BitVec.ofNat 32 p.val) (BitVec.ofNat 32 q.val) = if p = q then 1#1 else 0#1 := by decide
  rw [h, (ref_group x0 x1 x2 x3 x4 x5 x6 R hc hG).2]
  simp only [he, select_if, hE]
  rw [Finset.sum_eq_single g]
  · rw [if_pos rfl]
  · intro x _ hx
    rw [if_neg hx.symm]
    pointwise [val_main_cst_8]
  · intro hx
    exact absurd (Finset.mem_univ g) hx

include hc hG hE in
theorem ref_expertMax : val_main_v59 (F := Ideal) x0 x1 x2 x3 x4 x5 x6 x7 (ix1 R) = (E g a : EReal) := by
  have h : val_main_v59 (F := Ideal) x0 x1 x2 x3 x4 x5 x6 x7 (ix1 R) = max (Ideal.ofBits .f32 0xFF800000#32)
      (Finset.univ.fold max (Ideal.ofBits .f32 0xFF800000#32) (fun x => val_main_v56 (F := Ideal) x0 x1 x2 x3 x4 x5 x6 x7 (ix2 R x))) := by
    pointwise [val_main_v59, val_main_v58, val_main_v57, val_main_cst_10, val_main_cst_11]
  rw [h, ofBits_neg_inf, fold_first hc.top (fun x _ => ref_experts x0 x1 x2 x3 x4 x5 x6 x7 R hc hG hE x) (fun x hx => absurd trivial hx), max_eq_right bot_le]

include hc hG hE in
theorem ref_expertShare (j : Fin 8) : val_main_v67 (F := Ideal) x0 x1 x2 x3 x4 x5 x6 x7 (ix2 R j) = soft (E g) a j := by
  have he : ∀ j : Fin 8, val_main_v63 (F := Ideal) x0 x1 x2 x3 x4 x5 x6 x7 (ix2 R j) = Ideal.exp ((E g j : EReal) - (E g a : EReal)) := fun j => by
    rw [← ref_experts x0 x1 x2 x3 x4 x5 x6 x7 R hc hG hE j, ← ref_expertMax x0 x1 x2 x3 x4 x5 x6 x7 R hc hG hE]
    pointwise [val_main_v63, val_main_v62, val_main_v61, val_main_v60]
  have h : val_main_v67 (F := Ideal) x0 x1 x2 x3 x4 x5 x6 x7 (ix2 R j)
      = Ideal.div (val_main_v63 (F := Ideal) x0 x1 x2 x3 x4 x5 x6 x7 (ix2 R j)) (∑ x : Fin 8, val_main_v63 (F := Ideal) x0 x1 x2 x3 x4 x5 x6 x7 (ix2 R x)) := by
    pointwise [val_main_v67, val_main_v66, val_main_v65, val_main_v64, val_main_cst_12]
  rw [h]
  simp only [he]
  rfl

include hc hG hE in
theorem ref_top : val_main_values_13 (F := Ideal) x0 x1 x2 x3 x4 x5 x6 x7 (ix2 R 0) = soft (E g) a a
    ∧ val_main_indices_14 (F := Ideal) x0 x1 x2 x3 x4 x5 x6 x7 (ix2 R 0) = BitVec.ofNat 32 a.val := by
  have hk := topK_at (val_main_v67 (F := Ideal) x0 x1 x2 x3 x4 x5 x6 x7) Cert.ReferenceRouterIdeal.Gen.facts.sliceFits_S32768x8_S32768x2 R (0 : Fin 2) (by decide)
  have hs : sortedFrom (before fun j : Fin 8 => val_main_v67 (F := Ideal) x0 x1 x2 x3 x4 x5 x6 x7 (ix2 R j)) ⟨0, by decide⟩ = a := by
    simp only [ref_expertShare x0 x1 x2 x3 x4 x5 x6 x7 R hc hG hE]
    exact sorted_one (soft_first (E g) a hc.top) _ rfl
  unfold val_main_values_13 val_main_indices_14
  refine ⟨hk.1.trans ?_, hk.2.trans ?_⟩
  · refine (congrArg (fun q : Fin 8 => val_main_v67 (F := Ideal) x0 x1 x2 x3 x4 x5 x6 x7 (ix2 R q)) hs).trans ?_
    exact ref_expertShare x0 x1 x2 x3 x4 x5 x6 x7 R hc hG hE a
  · exact congrArg (fun q : Fin 8 => BitVec.ofNat 32 q.val) hs

include hc hG hE in
theorem ref_next : val_main_values_13 (F := Ideal) x0 x1 x2 x3 x4 x5 x6 x7 (ix2 R 1) = soft (E g) a b
    ∧ val_main_indices_14 (F := Ideal) x0 x1 x2 x3 x4 x5 x6 x7 (ix2 R 1) = BitVec.ofNat 32 b.val := by
  have hk := topK_at (val_main_v67 (F := Ideal) x0 x1 x2 x3 x4 x5 x6 x7) Cert.ReferenceRouterIdeal.Gen.facts.sliceFits_S32768x8_S32768x2 R (1 : Fin 2) (by decide)
  have hs : sortedFrom (before fun j : Fin 8 => val_main_v67 (F := Ideal) x0 x1 x2 x3 x4 x5 x6 x7 (ix2 R j)) ⟨1, by decide⟩ = b := by
    simp only [ref_expertShare x0 x1 x2 x3 x4 x5 x6 x7 R hc hG hE]
    exact sorted_two (soft_first (E g) a hc.top) (soft_first (E g) a hc.next) _ rfl
  unfold val_main_values_13 val_main_indices_14
  refine ⟨hk.1.trans ?_, hk.2.trans ?_⟩
  · refine (congrArg (fun q : Fin 8 => val_main_v67 (F := Ideal) x0 x1 x2 x3 x4 x5 x6 x7 (ix2 R q)) hs).trans ?_
    exact ref_expertShare x0 x1 x2 x3 x4 x5 x6 x7 R hc hG hE b
  · exact congrArg (fun q : Fin 8 => BitVec.ofNat 32 q.val) hs

theorem ref_number (j : Fin 2) : val_main_v76 (F := Ideal) x0 x1 x2 x3 x4 x5 x6 x7 (ix2 R j)
    = FloatOps.sitofp (F := Ideal) .f32 (IntOp.addi (IntOp.muli (val_main_indices (F := Ideal) x0 x1 x2 x3 x4 x5 x6 (ix2 R 0)) 8#32)
        (val_main_indices_14 (F := Ideal) x0 x1 x2 x3 x4 x5 x6 x7 (ix2 R j))) := by
  pointwise [val_main_v76, val_main_v75, val_main_v74, val_main_v73, val_main_v72, val_main_c]

theorem ref_weight (j : Fin 2) : val_main_v78 (F := Ideal) x0 x1 x2 x3 x4 x5 x6 x7 (ix2 R j)
    = val_main_values (F := Ideal) x0 x1 x2 x3 x4 x5 x6 (ix2 R 0)
      * Ideal.div (val_main_values_13 (F := Ideal) x0 x1 x2 x3 x4 x5 x6 x7 (ix2 R j)) (∑ x : Fin 2, val_main_values_13 (F := Ideal) x0 x1 x2 x3 x4 x5 x6 x7 (ix2 R x)) := by
  pointwise [val_main_v78, val_main_v77, val_main_v71, val_main_v70, val_main_v69, val_main_v68, val_main_cst_15]

include hc hG hE in
theorem ref_expert0 : val_main_v76 (F := Ideal) x0 x1 x2 x3 x4 x5 x6 x7 (ix2 R 0) = expertNumber g a := by
  rw [ref_number, (ref_group x0 x1 x2 x3 x4 x5 x6 R hc hG).2, (ref_top x0 x1 x2 x3 x4 x5 x6 x7 R hc hG hE).2]
  rfl

include hc hG hE in
theorem ref_expert1 : val_main_v76 (F := Ideal) x0 x1 x2 x3 x4 x5 x6 x7 (ix2 R 1) = expertNumber g b := by
  rw [ref_number, (ref_group x0 x1 x2 x3 x4 x5 x6 R hc hG).2, (ref_next x0 x1 x2 x3 x4 x5 x6 x7 R hc hG hE).2]
  rfl

include hc hG hE in
theorem ref_weight0 : val_main_v78 (F := Ideal) x0 x1 x2 x3 x4 x5 x6 x7 (ix2 R 0) = Ideal.div (groupShare G g) (1 + ratio (E g) a b) := by
  rw [ref_weight, Fin.sum_univ_two, (ref_group x0 x1 x2 x3 x4 x5 x6 R hc hG).1, (ref_top x0 x1 x2 x3 x4 x5 x6 x7 R hc hG hE).1,
    (ref_next x0 x1 x2 x3 x4 x5 x6 x7 R hc hG hE).1]
  exact weight0 g a b

include hc hG hE in
theorem ref_weight1 : val_main_v78 (F := Ideal) x0 x1 x2 x3 x4 x5 x6 x7 (ix2 R 1) = Ideal.div (groupShare G g * ratio (E g) a b) (1 + ratio (E g) a b) := by
  rw [ref_weight, Fin.sum_univ_two, (ref_group x0 x1 x2 x3 x4 x5 x6 R hc hG).1, (ref_top x0 x1 x2 x3 x4 x5 x6 x7 R hc hG hE).1,
    (ref_next x0 x1 x2 x3 x4 x5 x6 x7 R hc hG hE).1]
  exact weight1 g a b

end

end Cert.Proof.Router
end
-- ==== Proof.RouterFinite.lean ====
/-
  The routing's precondition read, and what it gives: the normalization of a real row is real, and a sum of products of
  reals, the second factor split in two, is the sum of the products.
-/
module

public import proofs.«01_k».proof.Proof.Finite
public import proofs.«01_k».proof.Proof.Combine

@[expose] public section

set_option maxRecDepth 16384
set_option maxHeartbeats 1000000

noncomputable section

namespace Cert.Proof.Router

open Idealize.ShloMosaic
open Cert.Proof.Combine (norm)

theorem facts_finite : Cert.Pre_finite_router.Facts where
  bcast_S_S8x4096x512 := by decide
  reducesTo_S8x4096x512_S_d0_1_2 := by decide
  h_S_ := by decide
  bcast_S_S8x4096x1024 := by decide
  reducesTo_S8x4096x1024_S_d0_1_2 := by decide
  bcast_S_S1x1024x1024 := by decide
  reducesTo_S1x1024x1024_S_d0_1_2 := by decide
  bcast_S_S1x1024 := by decide
  reducesTo_S1x1024_S_d0_1 := by decide
  bcast_S_S1x1024x4 := by decide
  reducesTo_S1x1024x4_S_d0_1_2 := by decide
  bcast_S_S1x1024x32 := by decide
  reducesTo_S1x1024x32_S_d0_1_2 := by decide

/-- The precondition gives a real for every entry of the eight arguments. -/
theorem finite_all [Cert.Pre_finite_router.Facts] (x0 x1 : FVec Ideal Cert.Pre_finite_router.S8x4096x512 .f32) (x2 : FVec Ideal Cert.Pre_finite_router.S8x4096x1024 .f32)
    (x3 : FVec Ideal Cert.Pre_finite_router.S1x1024x1024 .f32) (x4 x5 : FVec Ideal Cert.Pre_finite_router.S1x1024 .f32) (x6 : FVec Ideal Cert.Pre_finite_router.S1x1024x4 .f32)
    (x7 : FVec Ideal Cert.Pre_finite_router.S1x1024x32 .f32) (h : Cert.Pre_finite_router.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  have j : Cert.Pre_finite_router.S_.Idx := fun k => k.elim0
  have h := congrFun h j
  dsimp only [Cert.Pre_finite_router.fn, Cert.Pre_finite_router.fn_part1, Cert.Pre_finite_router.fn_part2] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ j h0, real_of_all x1 _ _ _ j h1, real_of_all x2 _ _ _ j h2, real_of_all x3 _ _ _ j h3,
    real_of_all x4 _ _ _ j h4, real_of_all x5 _ _ _ j h5, real_of_all x6 _ _ _ j h6, real_of_all x7 _ _ _ j h7⟩

/-- A finite sum of reals is a real. -/
theorem sum_real {n : ℕ} (f : Fin n → EReal) (h : ∀ i, ∃ r : ℝ, f i = (r : EReal)) : ∃ r : ℝ, ∑ i, f i = (r : EReal) := by
  choose g hg using h
  exact ⟨∑ i, g i, by rw [coe_sum]; exact Finset.sum_congr rfl fun i _ => hg i⟩

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem add_real {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

theorem width : Ideal.ofBits .f32 0x44800000#32 = ((1024 : ℝ) : EReal) := by
  simp [Ideal.ofBits, Ideal.ieee, -EReal.coe_mul]
  norm_num

theorem scale_real : ∃ r : ℝ, Ideal.ofBits .f32 0x3F9837F0#32 = (r : EReal) := by
  refine ⟨9975792 / 8388608, ?_⟩
  simp [Ideal.ofBits, Ideal.ieee, -EReal.coe_mul]
  norm_num

theorem floor_pos : ∃ r : ℝ, 0 < r ∧ Ideal.ofBits .f32 0x3727C5AC#32 = (r : EReal) := by
  refine ⟨10995116 / 1099511627776, by norm_num, ?_⟩
  simp [Ideal.ofBits, Ideal.ieee, -EReal.coe_mul]
  norm_num

theorem div_width (a : ℝ) : Ideal.div (a : EReal) (Ideal.ofBits .f32 0x44800000#32) = ((a * (1 / 1024) : ℝ) : EReal) := by
  rw [width, Ideal.div_coe (by norm_num), EReal.coe_mul]

/-- The normalization of a real row with real gain and offset is real. -/
theorem norm_real (g b r : Fin 1024 → EReal) (hg : ∀ e, ∃ x : ℝ, g e = (x : EReal)) (hb : ∀ e, ∃ x : ℝ, b e = (x : EReal))
    (hr : ∀ e, ∃ x : ℝ, r e = (x : EReal)) (e : Fin 1024) : ∃ x : ℝ, norm g b r e = (x : EReal) := by
  choose G hG using hg
  choose B hB using hb
  choose R hR using hr
  obtain ⟨d, hd, ed⟩ := floor_pos
  obtain ⟨mu, e1⟩ : ∃ mu : ℝ, Ideal.div (∑ k, r k) (Ideal.ofBits .f32 0x44800000#32) = (mu : EReal) :=
    ⟨_, by rw [Finset.sum_congr rfl fun k _ => hR k, ← coe_sum, div_width]⟩
  obtain ⟨var, hv, e2⟩ : ∃ var : ℝ, 0 ≤ var ∧ Ideal.div (∑ k, (r k - (mu : EReal)) * (r k - (mu : EReal))) (Ideal.ofBits .f32 0x44800000#32) = (var : EReal) := by
    refine ⟨(∑ k, (R k - mu) * (R k - mu)) * (1 / 1024), mul_nonneg (Finset.sum_nonneg fun k _ => mul_self_nonneg _) (by norm_num), ?_⟩
    rw [← div_width, coe_sum]
    refine congrArg (fun z => Ideal.div z _) (Finset.sum_congr rfl fun k _ => ?_)
    rw [hR, ← EReal.coe_sub, ← EReal.coe_mul]
  have hp : 0 < var + d := add_pos_of_nonneg_of_pos hv hd
  unfold Combine.norm
  dsimp only
  rw [e1, e2, ed, hG, hB, hR, ← EReal.coe_add, Ideal.rsqrt_coe, if_neg (not_lt.2 hp.le), if_neg hp.ne', ← EReal.coe_sub,
    ← EReal.coe_mul, ← EReal.coe_mul, ← EReal.coe_add]
  exact ⟨_, rfl⟩

end Cert.Proof.Router
end
-- ==== Proof.Router.lean ====
/-
  The routing of the output projection: on finite arguments each row's two experts and two weights are the reference's.
-/
module

public import proofs.«01_k».proof.Proof.RouterParts
public import proofs.«01_k».proof.Proof.RouterRow
public import proofs.«01_k».proof.Proof.RouterRef
public import proofs.«01_k».proof.Proof.RouterFinite

@[expose] public section

set_option maxRecDepth 16384
set_option maxHeartbeats 1000000

noncomputable section

namespace Cert.Proof.Router

open Cert.RouterIdeal Cert.RouterIdeal.Gen Cert.ReferenceRouterIdeal.Read
open Cert.Proof.Combine (norm norm_congr)
open Idealize.ShloMosaic

/-! ## A row's logits -/

theorem upper_at (v17 v19 : FVec Ideal S1x1024 .f32) (v25 : FVec Ideal S512x1024 .f32) (v32 : FVec Ideal S512x1 .f32) (n : Fin 512) (e : Fin 1024) :
    k0_pay15 v17 v19 v25 v32 (ix2 n e) = k0_pay6 v17 v19 v25 v32 (ix2 n e) := by
  pointwise [k0_pay15]

theorem lower_at (v17 v19 : FVec Ideal S1x1024 .f32) (v25 : FVec Ideal S512x1024 .f32) (v32 : FVec Ideal S512x1 .f32) (n : Fin 512) (e : Fin 1024) :
    k0_pay16 v17 v19 v25 v32 (ix2 n e) = k0_pay6 v17 v19 v25 v32 (ix2 n e) - k0_pay15 v17 v19 v25 v32 (ix2 n e) := by
  pointwise [k0_pay16]

theorem product_at (v17 v19 : FVec Ideal S1x1024 .f32) (v25 : FVec Ideal S512x1024 .f32) (v32 : FVec Ideal S512x1 .f32) (W : Vec Ideal S1024x128 .bf16) (n : Fin 512) (j : Fin 128) :
    k0_pay17 v17 v19 v25 v32 W (ix2 n j) = ∑ x : Fin 1024, k0_pay15 v17 v19 v25 v32 (ix2 n x) * W (ix2 x j) := by
  pointwise [k0_pay17]

theorem folded_at (v59 : FVec Ideal S512x1024 .bf16) (v62 : FVec Ideal S512x128 .f32) (v63 : Vec Ideal S1024x128 .bf16) (n : Fin 512) (j : Fin 128) :
    k0_pay18 v59 v62 v63 (ix2 n j)
      = v62 (ix2 n j) + ∑ x : Fin 1024, v59 (ix2 n x) * v63 (ix2 x j)
        + (v62 (ix2 n ⟨(j.val + 128 - 92) % 128, Nat.mod_lt _ (by decide)⟩) + ∑ x : Fin 1024, v59 (ix2 n x) * v63 (ix2 x ⟨(j.val + 128 - 92) % 128, Nat.mod_lt _ (by decide)⟩)) := by
  pointwise [k0_pay18]

/-- A lane's logit is the product of the hidden row and the lane's weights, when the row is real and the packed weights'
    remainders are zero. -/
theorem logit_at (v17 v19 : FVec Ideal S1x1024 .f32) (v25 : FVec Ideal S512x1024 .f32) (v32 : FVec Ideal S512x1 .f32) (W : Vec Ideal S1024x128 .bf16)
    (n : Fin 512) (H : Fin 1024 → ℝ) (hH : ∀ e, k0_pay6 v17 v19 v25 v32 (ix2 n e) = (H e : EReal)) (j : Fin 36) (w : Fin 1024 → ℝ)
    (hw : ∀ k, W (ix2 k ⟨j.val, by omega⟩) = (w k : EReal)) (hr : ∀ k, W (ix2 k ⟨36 + j.val, by omega⟩) = (0 : EReal)) :
    k0_pay18 (k0_pay16 v17 v19 v25 v32) (k0_pay17 v17 v19 v25 v32 W) W (ix2 n ⟨j.val, by omega⟩) = ((∑ k, H k * w k : ℝ) : EReal) := by
  have hl : (⟨((⟨j.val, by omega⟩ : Fin 128).val + 128 - 92) % 128, Nat.mod_lt _ (by decide)⟩ : Fin 128) = ⟨36 + j.val, by omega⟩ :=
    Fin.ext (by show (j.val + 128 - 92) % 128 = 36 + j.val; omega)
  have hz : ∀ e, k0_pay16 v17 v19 v25 v32 (ix2 n e) = (0 : EReal) := fun e => by
    rw [lower_at, upper_at, hH, ← EReal.coe_sub, sub_self, EReal.coe_zero]
  rw [folded_at, hl, product_at, product_at]
  simp only [hz, hr, hw, upper_at, hH, zero_mul, mul_zero, Finset.sum_const_zero, add_zero, ← EReal.coe_mul]
  rw [coe_sum]

variable (m : (ℓ : Loc nD τ sig) → Buf (Elt Ideal) ℓ) (c : Dev nD)

/-! ## The block the body stores -/

abbrev gain (t : Fin cfg0.N) := bodyRun.sl.r c (ms4 t) (hs4 t) (iblk m c 4 t)
abbrev offset (t : Fin cfg0.N) := bodyRun.sl.r_1 c (ms5 t) (hs5 t) (iblk m c 5 t)
abbrev centred (t : Fin cfg0.N) := bodyRun.sl.r_2 c (ms0 t) (hs0 t) (ms1 t) (hs1 t) (ms2 t) (hs2 t) (ms3 t) (hs3 t) (iblk m c 0 t) (iblk m c 1 t) (iblk m c 2 t) (iblk m c 3 t)
abbrev deviation (t : Fin cfg0.N) := bodyRun.sl.r_3 c (ms0 t) (hs0 t) (ms1 t) (hs1 t) (ms2 t) (hs2 t) (ms3 t) (hs3 t) (iblk m c 0 t) (iblk m c 1 t) (iblk m c 2 t) (iblk m c 3 t)

theorem route_at (t : Fin cfg0.N) (y : S1x512x128.Idx) :
    routeAt m c t y = stored (k0_pay16 (gain m c t) (offset m c t) (centred m c t) (deviation m c t))
      (k0_pay17 (gain m c t) (offset m c t) (centred m c t) (deviation m c t) (iblk m c 6 t)) (iblk m c 6 t) (bodyRun.sl.v69) y := by
  have hc := cover_route c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) (iblk m c 5 t) (iblk m c 6 t) y
  unfold routeAt piecesAt
  refine View.canon_apply_of_pieces _ _ ?_ y hc
  have e : ∀ x : S1x512x128.Idx, (Rect.unit (s := S1x512x128) ![0, 0, 0] ![1, 512, 128] inb_S1x512x128_S1x512x128_0_0_0).emb x = x := fun x => by
    funext a
    refine Fin.ext ?_
    fin_cases a <;> (show 0 + 1 * _ = _; omega)
  dsimp only [bodyRun]
  intro p hp
  simp only [List.mem_cons, List.not_mem_nil, or_false] at hp
  subst hp
  intro x
  refine Eq.trans ?_ (congrArg (stored _ _ _ _) (e x).symm)
  dsimp only
  unfold bodyRun.sl.r_11 bodyRun.sl.r_12 bodyRun.sl.r_7 bodyRun.sl.r_8 bodyRun.sl.r_9 bodyRun.sl.r_10 bodyRun.sl.r_4 bodyRun.sl.r_5 bodyRun.sl.r_6
  rw [load_route]
  rfl

theorem number_at (n : Fin 512) (x : Fin 128) : bodyRun.sl.v69 (ix2 n x) = BitVec.ofNat 32 x.val := by
  unfold bodyRun.sl.v69
  pointwise

/-! ## The reference's logits -/

theorem group_logit (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (x4 x5 : (⟨S1x1024, .f32⟩ : BufTy).Contents (Elt Ideal)) (x6 : (⟨S1x1024x4, .f32⟩ : BufTy).Contents (Elt Ideal))
    (R : Fin 32768) (j : Fin 4) :
    val_main_v34 (F := Ideal) x0 x1 x2 x3 x4 x5 x6 (ix2 R j) = ∑ k : Fin 1024, val_main_v32 (F := Ideal) x0 x1 x2 x3 x4 x5 (ix2 R k) * x6 (ix3 0 k j) := by
  pointwise [val_main_v34, val_main_v33]

theorem expert_logit (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (x4 x5 : (⟨S1x1024, .f32⟩ : BufTy).Contents (Elt Ideal)) (x7 : (⟨S1x1024x32, .f32⟩ : BufTy).Contents (Elt Ideal))
    (R : Fin 32768) (g : Fin 4) (j : Fin 8) :
    val_main_v48 (F := Ideal) x0 x1 x2 x3 x4 x5 x7 (ix3 R g j)
      = ∑ k : Fin 1024, val_main_v32 (F := Ideal) x0 x1 x2 x3 x4 x5 (ix2 R k) * x7 (ix3 0 k ⟨8 * g.val + j.val, by omega⟩) := by
  have h : (⟨8 * g.val + j.val, by omega⟩ : Fin 32) = ⟨g.val * 8 + j.val, by omega⟩ := Fin.ext (by show 8 * g.val + j.val = g.val * 8 + j.val; omega)
  rw [h]
  pointwise [val_main_v48, val_main_v47, val_main_v46]

theorem hidden_flat (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (x4 x5 : (⟨S1x1024, .f32⟩ : BufTy).Contents (Elt Ideal)) (R : Fin 32768) (e : Fin 1024) :
    val_main_v32 (F := Ideal) x0 x1 x2 x3 x4 x5 (ix2 R e) = val_main_v31 (F := Ideal) x0 x1 x2 x3 x4 x5 (ix3 ⟨R.val / 4096, by omega⟩ ⟨R.val % 4096, by omega⟩ e) := by
  pointwise [val_main_v32]

/-! ## A row -/

/-- The hidden row at point `t` is the reference's. -/
theorem hidden_ref (t : Fin cfg0.N) (n : Fin 512) (b : Fin 8) (p : Fin 4096) (e : Fin 1024) (hb : b.val = t.val / 8) (hp : p.val = 512 * (t.val % 8) + n.val) :
    hiddenRow m c t n e = val_main_v31 (F := Ideal) (m (c.tc.loc main_arg0)) (m (c.tc.loc main_arg1)) (m (c.tc.loc main_arg2)) (m (c.tc.loc main_arg3)) (m (c.tc.loc main_arg4)) (m (c.tc.loc main_arg5)) (ix3 b p e) := by
  have ht : t.val < 64 := lt_of_lt_of_eq t.isLt points
  rw [ref_norm]
  unfold hiddenRow
  have hb' : (⟨t.val / 8, by omega⟩ : Fin 8) = b := Fin.ext hb.symm
  have hp' : ∀ h, (⟨512 * (t.val % 8) + n.val, h⟩ : Fin 4096) = p := fun _ => Fin.ext hp.symm
  refine norm_congr (fun e => ?_) (fun e => ?_) (fun e => ?_) _
  · exact (g_at m c t e).trans (v14_at m c e)
  · exact (b_at m c t e).trans (v16_at m c e)
  · rw [ref_at]
    unfold row
    have i2 := (x_at m c t n e).trans (congrFun (V_main_arg2 m c) _)
    rw [hb', hp'] at i2
    have i0 : ∀ k, iblk m c 0 t (ix3 0 n k) = m (c.tc.loc main_arg0) (ix3 b p k) := fun k => by
      rw [a_at, v9_at, hb', hp']
    have i1 : ∀ k, iblk m c 1 t (ix3 0 n k) = m (c.tc.loc main_arg1) (ix3 b p k) := fun k => by
      rw [z_at, v10_at, hb', hp']
    have i3 : ∀ k e, iblk m c 3 t (ix2 k e) = m (c.tc.loc main_arg3) (ix3 0 k e) := fun k e => (w_at m c t k e).trans (v12_at m c k e)
    refine congrArg₂ (· + ·) (congrArg _ i2) (congrArg₂ (· + ·) (Finset.sum_congr rfl fun k _ => ?_) (Finset.sum_congr rfl fun k _ => ?_))
    · exact congrArg₂ (· * ·) (i0 k) (i3 _ e)
    · exact congrArg₂ (· * ·) (i1 k) (i3 _ e)

/-- On real arguments the reference's hidden state is real. -/
theorem ref_real (x0 x1 : (⟨S8x4096x512, .f32⟩ : BufTy).Contents (Elt Ideal)) (x2 : (⟨S8x4096x1024, .f32⟩ : BufTy).Contents (Elt Ideal))
    (x3 : (⟨S1x1024x1024, .f32⟩ : BufTy).Contents (Elt Ideal)) (x4 x5 : (⟨S1x1024, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (b : Fin 8) (p : Fin 4096) (e : Fin 1024) : ∃ r : ℝ, val_main_v31 (F := Ideal) x0 x1 x2 x3 x4 x5 (ix3 b p e) = (r : EReal) := by
  rw [ref_norm]
  refine norm_real _ _ _ (fun e => h4 _) (fun e => h5 _) (fun e => ?_) e
  rw [ref_at]
  exact add_real (mul_real scale_real (h2 _)) (add_real (sum_real _ fun k => mul_real (h0 _) (h3 _)) (sum_real _ fun k => mul_real (h1 _) (h3 _)))

/-- The reference's experts on the kernel's arguments. -/
abbrev experts : Vec Ideal S32768x2 .f32 :=
  val_main_v76 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

/-- The reference's weights on the kernel's arguments. -/
abbrev weights : Vec Ideal S32768x2 .f32 :=
  val_main_v78 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

/-- The packed weights' lane `j`, and what is left of it, at any point. -/
theorem lane_at (t : Fin cfg0.N) (k : Fin 1024) (j : Fin 36) (w : ℝ) (h : V m c main_v2 (ix2 k j) = (w : EReal)) :
    iblk m c 6 t (ix2 k ⟨j.val, by omega⟩) = (w : EReal) ∧ iblk m c 6 t (ix2 k ⟨36 + j.val, by omega⟩) = (0 : EReal) := by
  refine ⟨(r_at m c t k _).trans ((v8_first m c k j).trans h), (r_at m c t k _).trans ((v8_rest m c k j).trans ((v6_at m c _ _ h).trans ?_))⟩
  rw [← EReal.coe_sub, sub_self, EReal.coe_zero]

/-- Row `n` of the block at point `t` is the reference's row `512 t + n`. -/
theorem row_at [Cert.Pre_finite_router.Facts] (hm : Cert.Pre_RouterIdeal_finite_router m) (t : Fin cfg0.N) (n : Fin 512) (R : Fin 32768) (hR : R.val = 512 * t.val + n.val) :
    routeAt m c t (ix3 0 n 0) = experts m c (ix2 R 0) ∧ routeAt m c t (ix3 0 n 1) = experts m c (ix2 R 1)
      ∧ routeAt m c t (ix3 0 n 2) = weights m c (ix2 R 0) ∧ routeAt m c t (ix3 0 n 3) = weights m c (ix2 R 1) := by
  have ht : t.val < 64 := lt_of_lt_of_eq t.isLt points
  obtain ⟨a0, a1, a2, a3, a4, a5, a6, a7⟩ := finite_all _ _ _ _ _ _ _ _ (hm c)
  have hh : ∀ e, ∃ r : ℝ, val_main_v32 (F := Ideal) (m (c.tc.loc main_arg0)) (m (c.tc.loc main_arg1)) (m (c.tc.loc main_arg2)) (m (c.tc.loc main_arg3)) (m (c.tc.loc main_arg4)) (m (c.tc.loc main_arg5)) (ix2 R e) = (r : EReal) := fun e => by
    rw [hidden_flat]
    exact ref_real _ _ _ _ _ _ a0 a1 a2 a3 a4 a5 _ _ _
  choose H hH using hh
  choose wg hwg using a6
  choose we hwe using a7
  obtain ⟨g, a, b, hc⟩ := exists_choice (fun j => ∑ k, H k * wg (ix3 0 k j)) (fun g j => ∑ k, H k * we (ix3 0 k ⟨8 * g.val + j.val, by omega⟩))
  have hk : ∀ e, k0_pay6 (gain m c t) (offset m c t) (centred m c t) (deviation m c t) (ix2 n e) = (H e : EReal) := fun e =>
    (hidden_at m c t n e).trans ((hidden_ref m c t n ⟨R.val / 4096, by omega⟩ ⟨R.val % 4096, by omega⟩ e (by show R.val / 4096 = _; omega)
      (by show R.val % 4096 = _; omega)).trans ((hidden_flat _ _ _ _ _ _ R e).symm.trans (hH e)))
  have lg : ∀ (k : Fin 1024) (j : Fin 4), V m c main_v2 (ix2 k ⟨j.val, by omega⟩) = (wg (ix3 0 k j) : EReal) := fun k j => (v2_group m c k j).trans (hwg _)
  have le : ∀ (k : Fin 1024) (g : Fin 4) (j : Fin 8), V m c main_v2 (ix2 k ⟨4 + 8 * g.val + j.val, by omega⟩) = (we (ix3 0 k ⟨8 * g.val + j.val, by omega⟩) : EReal) := fun k g j => by
    have h : (⟨4 + 8 * g.val + j.val, by omega⟩ : Fin 36) = ⟨4 + (⟨8 * g.val + j.val, by omega⟩ : Fin 32).val, by show 4 + (8 * g.val + j.val) < 36; omega⟩ := Fin.ext (Nat.add_assoc ..)
    rw [h, v2_expert]
    exact hwe _
  have kG := fun j : Fin 4 => logit_at (gain m c t) (offset m c t) (centred m c t) (deviation m c t) (iblk m c 6 t) n H hk ⟨j.val, by omega⟩ (fun k => wg (ix3 0 k j))
    (fun k => (lane_at m c t k _ _ (lg k j)).1) (fun k => (lane_at m c t k _ _ (lg k j)).2)
  have kE := fun (g : Fin 4) (j : Fin 8) => logit_at (gain m c t) (offset m c t) (centred m c t) (deviation m c t) (iblk m c 6 t) n H hk ⟨4 + 8 * g.val + j.val, by omega⟩
    (fun k => we (ix3 0 k ⟨8 * g.val + j.val, by omega⟩)) (fun k => (lane_at m c t k _ _ (le k g j)).1) (fun k => (lane_at m c t k _ _ (le k g j)).2)
  have rG := fun j : Fin 4 => (group_logit _ _ _ _ _ _ (m (c.tc.loc main_arg6)) R j).trans
    ((Finset.sum_congr rfl fun k _ => by rw [hH, hwg, ← EReal.coe_mul]).trans (coe_sum _ _).symm)
  have rE := fun (g : Fin 4) (j : Fin 8) => (expert_logit _ _ _ _ _ _ (m (c.tc.loc main_arg7)) R g j).trans
    ((Finset.sum_congr rfl fun k _ => by rw [hH, hwe, ← EReal.coe_mul]).trans (coe_sum _ _).symm)
  refine ⟨?_, ?_, ?_, ?_⟩
  · exact (route_at m c t _).trans ((stored_expert0 _ _ _ n hc kG kE _ (number_at n)).trans (ref_expert0 _ _ _ _ _ _ _ _ R hc rG rE).symm)
  · exact (route_at m c t _).trans ((stored_expert1 _ _ _ n hc kG kE _ (number_at n)).trans (ref_expert1 _ _ _ _ _ _ _ _ R hc rG rE).symm)
  · exact (route_at m c t _).trans ((stored_weight0 _ _ _ n hc kG kE _ (number_at n)).trans (ref_weight0 _ _ _ _ _ _ _ _ R hc rG rE).symm)
  · exact (route_at m c t _).trans ((stored_weight1 _ _ _ n hc kG kE _ (number_at n)).trans (ref_weight1 _ _ _ _ _ _ _ _ R hc rG rE).symm)

/-! ## The results -/

/-- The routing array, its blocks side by side. -/
def routed (i : S8x4096x128.Idx) : EReal :=
  routeAt m c ⟨8 * (i 0).val + (i 1).val / 512, by have h0 : (i 0).val < 8 := (i 0).isLt; have h1 : (i 1).val < 4096 := (i 1).isLt; rw [points]; omega⟩
    (ix3 0 ⟨(i 1).val % 512, by omega⟩ (i 2))

/-- The call's routing, whole. -/
theorem final : (dats m 0 c).arrAt 8 cfg0.N = routed m c := by
  refine (dats m 0 c).arrAt_eq_of_covers 8 _ (by decide +kernel) fun t hf y => ?_
  blk_simp
  rw [after_8]
  have ht : t.val < 64 := lt_of_lt_of_eq t.isLt points
  have hn : (y 1).val < 512 := (y 1).isLt
  have h0 : (y 0).val < 1 := (y 0).isLt
  have he : (win0_8.blk t).view.emb y = ix3 ⟨t.val / 8, by omega⟩ ⟨512 * (t.val % 8) + (y 1).val, by omega⟩ (y 2) := by
    blk_ext [index8 t]
  have hy : y = ix3 0 (y 1) (y 2) := by
    funext a
    fin_cases a
    · exact Fin.ext (by show (y 0).val = 0; omega)
    · rfl
    · rfl
  rw [he]
  unfold routed
  refine (congrArg (routeAt m c t) hy).trans ?_
  have et : ∀ h, (⟨8 * (t.val / 8) + (512 * (t.val % 8) + (y 1).val) / 512, h⟩ : Fin cfg0.N) = t := fun _ => Fin.ext (by show 8 * (t.val / 8) + (512 * (t.val % 8) + (y 1).val) / 512 = t.val; omega)
  have en : ∀ h, (⟨(512 * (t.val % 8) + (y 1).val) % 512, h⟩ : Fin 512) = y 1 := fun _ => Fin.ext (by show (512 * (t.val % 8) + (y 1).val) % 512 = (y 1).val; omega)
  exact (congrArg₂ (fun (s : Fin cfg0.N) (r : Fin 512) => routeAt m c s (ix3 0 r (y 2))) (et _) (en _)).symm

theorem array_route : Pipeline.withArrays spec0 c (V0 m c) (fun w => (dats m 0 c).arrAt w cfg0.N) (Proc.devRef .tc main_v17_1) = routed m c :=
  (Pipeline.withArrays_arr spec0 launch0.win.arr_inj c (V0 m c) _ 8).trans (final m c)

/-- The array's rows, all batches in one. -/
theorem rows_at (R : Fin 32768) (l : Fin 128) :
    shapeCast S32768x128 (routed m c) shapeCasts_S8x4096x128_S32768x128 (ix2 R l)
      = routeAt m c ⟨R.val / 512, by rw [points]; omega⟩ (ix3 0 ⟨R.val % 512, by omega⟩ l) := by
  have h : shapeCast S32768x128 (routed m c) shapeCasts_S8x4096x128_S32768x128 (ix2 R l)
      = routed m c (ix3 ⟨R.val / 4096, by omega⟩ ⟨R.val % 4096, by omega⟩ l) := by
    pointwise
  rw [h]
  unfold routed
  refine congrArg₂ (fun (s : Fin cfg0.N) (r : Fin 512) => routeAt m c s (ix3 0 r l)) (Fin.ext ?_) (Fin.ext ?_)
  · show 8 * (R.val / 4096) + R.val % 4096 / 512 = R.val / 512
    omega
  · show R.val % 4096 % 512 = R.val % 512
    omega

/-- Columns 0 and 1 of the array's rows. -/
theorem experts_slice (v : S32768x128.Idx → EReal) (R : Fin 32768) (l : Fin 2) :
    extractStridedSlice S32768x2 ![0, 0] v slices_S32768x128_S32768x2_0_0 (ix2 R l) = v (ix2 R ⟨l.val, by omega⟩) := by
  pointwise

theorem experts_row [Cert.Pre_finite_router.Facts] (hm : Cert.Pre_RouterIdeal_finite_router m) (R : Fin 32768) (l : Fin 2) :
    extractStridedSlice S32768x2 ![0, 0] (shapeCast S32768x128 (routed m c) shapeCasts_S8x4096x128_S32768x128) slices_S32768x128_S32768x2_0_0 (ix2 R l)
      = experts m c (ix2 R l) := by
  obtain ⟨k0, k1, -, -⟩ := row_at m c hm ⟨R.val / 512, by rw [points]; omega⟩ ⟨R.val % 512, by omega⟩ R
    (by show R.val = 512 * (R.val / 512) + R.val % 512; omega)
  rw [experts_slice]
  refine (rows_at m c _ _).trans ?_
  match l with
  | ⟨0, _⟩ => exact k0
  | ⟨1, _⟩ => exact k1

/-- The lines after the call, from any contents. -/
theorem experts_lines (W : Valuation τ sig (Elt Ideal)) : StableHlo.after hostOps1 W (Proc.devRef .tc main_v19)
    = extractStridedSlice S32768x2 ![0, 0] (shapeCast S32768x128 (W (Proc.devRef .tc main_v17_1) : Vec Ideal S8x4096x128 .f32) shapeCasts_S8x4096x128_S32768x128) slices_S32768x128_S32768x2_0_0 := by
  simp only [hostOps1, StableHlo.after_cons, StableHlo.after_nil]
  rw [StableHlo.unary_result_ne _ _ _ _ (by decide), StableHlo.unary_result, StableHlo.reshape_result]
  · rfl
  · decide

theorem experts_tail : Pipeline.afterTail₀ cfgs (dats m) 0 (V0 m) [hostOps1] c main_v19
    = extractStridedSlice S32768x2 ![0, 0] (shapeCast S32768x128 (routed m c) shapeCasts_S8x4096x128_S32768x128) slices_S32768x128_S32768x2_0_0 := by
  unfold Pipeline.afterTail₀
  simp only [List.flatten_cons, List.flatten_nil, List.append_nil]
  rw [experts_lines]
  rw [array_route m c]

theorem experts_result [Cert.Pre_finite_router.Facts] (hm : Cert.Pre_RouterIdeal_finite_router m) :
    Pipeline.afterTail₀ cfgs (dats m) 0 (V0 m) [hostOps1] c main_v19 = experts m c := by
  refine (experts_tail m c).trans (funext fun i => ?_)
  obtain ⟨R, l, rfl⟩ : ∃ (R : Fin 32768) (l : Fin 2), i = ix2 R l := ⟨i 0, i 1, funext fun a => by fin_cases a <;> rfl⟩
  exact experts_row m c hm R l

/-- Columns 2 and 3 of the array's rows. -/
theorem weights_slice (v : S32768x128.Idx → EReal) (R : Fin 32768) (l : Fin 2) :
    extractStridedSlice S32768x2 ![0, 2] v slices_S32768x128_S32768x2_0_2 (ix2 R l) = v (ix2 R ⟨2 + l.val, by omega⟩) := by
  pointwise

theorem weights_row [Cert.Pre_finite_router.Facts] (hm : Cert.Pre_RouterIdeal_finite_router m) (R : Fin 32768) (l : Fin 2) :
    extractStridedSlice S32768x2 ![0, 2] (shapeCast S32768x128 (routed m c) shapeCasts_S8x4096x128_S32768x128) slices_S32768x128_S32768x2_0_2 (ix2 R l)
      = weights m c (ix2 R l) := by
  obtain ⟨-, -, k0, k1⟩ := row_at m c hm ⟨R.val / 512, by rw [points]; omega⟩ ⟨R.val % 512, by omega⟩ R
    (by show R.val = 512 * (R.val / 512) + R.val % 512; omega)
  rw [weights_slice]
  refine (rows_at m c _ _).trans ?_
  match l with
  | ⟨0, _⟩ => exact k0
  | ⟨1, _⟩ => exact k1

/-- The lines after the call, from any contents. -/
theorem weights_lines (W : Valuation τ sig (Elt Ideal)) : StableHlo.after hostOps1 W (Proc.devRef .tc main_v20)
    = extractStridedSlice S32768x2 ![0, 2] (shapeCast S32768x128 (W (Proc.devRef .tc main_v17_1) : Vec Ideal S8x4096x128 .f32) shapeCasts_S8x4096x128_S32768x128) slices_S32768x128_S32768x2_0_2 := by
  simp only [hostOps1, StableHlo.after_cons, StableHlo.after_nil]
  rw [StableHlo.unary_result, StableHlo.unary_result_ne _ _ _ _ (by decide), StableHlo.reshape_result]
  · rfl
  · decide

theorem weights_tail : Pipeline.afterTail₀ cfgs (dats m) 0 (V0 m) [hostOps1] c main_v20
    = extractStridedSlice S32768x2 ![0, 2] (shapeCast S32768x128 (routed m c) shapeCasts_S8x4096x128_S32768x128) slices_S32768x128_S32768x2_0_2 := by
  unfold Pipeline.afterTail₀
  simp only [List.flatten_cons, List.flatten_nil, List.append_nil]
  rw [weights_lines]
  rw [array_route m c]

theorem weights_result [Cert.Pre_finite_router.Facts] (hm : Cert.Pre_RouterIdeal_finite_router m) :
    Pipeline.afterTail₀ cfgs (dats m) 0 (V0 m) [hostOps1] c main_v20 = weights m c := by
  refine (weights_tail m c).trans (funext fun i => ?_)
  obtain ⟨R, l, rfl⟩ : ∃ (R : Fin 32768) (l : Fin 2), i = ix2 R l := ⟨i 0, i 1, funext fun a => by fin_cases a <;> rfl⟩
  exact weights_row m c hm R l

/-- Both programs, from equal arguments that are real, end with equal results. -/
theorem algebraic (hF : Cert.Pre_finite_router.Facts) : @Cert.algebraic_RouterIdeal_ReferenceRouterIdeal_pre_finite_router Cert.RouterIdeal.Gen.facts Cert.ReferenceRouterIdeal.Gen.facts hF := by
  intro m g m' g' hm hagree
  refine ⟨fun c => experts m c, fun c => weights m c, ?_, ?_⟩
  · refine (θ_run Cert.RouterIdeal.defs _ _).mono (fun r h c => ?_) (θ_run_and (run_main m g) (unchanged m g))
    exact ⟨((h.1 c).2 main_v19 (Pipeline.mem_restRefs_of main_v19 (by decide) (by decide))).trans (experts_result m c hm),
      ((h.1 c).2 main_v20 (Pipeline.mem_restRefs_of main_v20 (by decide) (by decide))).trans (weights_result m c hm), h.2 c⟩
  · refine (θ_run Cert.ReferenceRouterIdeal.defs _ _).mono (fun r h c => ?_) (Cert.ReferenceRouterIdeal.Value.run (F := Ideal) m' g')
    obtain ⟨hv, hw, ha⟩ := h c
    obtain ⟨e0, e1, e2, e3, e4, e5, e6, e7⟩ := hagree c
    refine ⟨hv.trans ((val_main_v76_eq _).trans ?_), hw.trans ((val_main_v78_eq _).trans ?_), ha⟩
    · show val_main_v76 (F := Ideal) (m' (c.tc.loc Cert.ReferenceRouterIdeal.main_arg0)) (m' (c.tc.loc Cert.ReferenceRouterIdeal.main_arg1)) (m' (c.tc.loc Cert.ReferenceRouterIdeal.main_arg2)) (m' (c.tc.loc Cert.ReferenceRouterIdeal.main_arg3)) (m' (c.tc.loc Cert.ReferenceRouterIdeal.main_arg4)) (m' (c.tc.loc Cert.ReferenceRouterIdeal.main_arg5)) (m' (c.tc.loc Cert.ReferenceRouterIdeal.main_arg6)) (m' (c.tc.loc Cert.ReferenceRouterIdeal.main_arg7)) = _
      rw [e0, e1, e2, e3, e4, e5, e6, e7]
    · show val_main_v78 (F := Ideal) (m' (c.tc.loc Cert.ReferenceRouterIdeal.main_arg0)) (m' (c.tc.loc Cert.ReferenceRouterIdeal.main_arg1)) (m' (c.tc.loc Cert.ReferenceRouterIdeal.main_arg2)) (m' (c.tc.loc Cert.ReferenceRouterIdeal.main_arg3)) (m' (c.tc.loc Cert.ReferenceRouterIdeal.main_arg4)) (m' (c.tc.loc Cert.ReferenceRouterIdeal.main_arg5)) (m' (c.tc.loc Cert.ReferenceRouterIdeal.main_arg6)) (m' (c.tc.loc Cert.ReferenceRouterIdeal.main_arg7)) = _
      rw [e0, e1, e2, e3, e4, e5, e6, e7]

end Cert.Proof.Router
end
-- ==== Proof.lean ====
/-
  The claims about the input projection, differential attention, the output projection, its routing and the
  combination of the experts, put together:
  every run of each printed call, of its idealization and of its reference ends with the arguments as they were and
  every semaphore at zero; and each idealized call's results are its reference's on the extended reals, for
  attention on finite queries, keys, values and λ parameters and for the routing on finite arguments.
-/
module

public import proofs.«01_k».proof.Defs
public import proofs.«01_k».proof.Proof.KernelBody
public import proofs.«01_k».proof.Proof.Body
public import proofs.«01_k».proof.Proof.Value
public import proofs.«01_k».proof.Proof.Project
public import proofs.«01_k».proof.Proof.Combine
public import proofs.«01_k».proof.Proof.Output
public import proofs.«01_k».proof.Proof.Router

@[expose] public section

noncomputable section

namespace Cert.Proof

open Idealize.ShloMosaic

theorem claim : Cert.Claim :=
  ⟨Cert.Kernel.Gen.facts, Cert.KernelIdeal.Gen.facts, Cert.ReferenceIdeal.Gen.facts,
    Cert.Project.Gen.facts, Cert.ProjectIdeal.Gen.facts, Cert.ReferenceProjectIdeal.Gen.facts,
    Cert.Combine.Gen.facts, Cert.CombineIdeal.Gen.facts, Cert.ReferenceCombineIdeal.Gen.facts,
    Cert.Output.Gen.facts, Cert.OutputIdeal.Gen.facts, Cert.ReferenceOutputIdeal.Gen.facts,
    Cert.Router.Gen.facts, Cert.RouterIdeal.Gen.facts, Cert.ReferenceRouterIdeal.Gen.facts,
    Cert.Proof.facts_finite, Cert.Proof.Router.facts_finite,
    fun m ρ _ => Cert.Proof.Kernel.frame_claim m ρ,
    fun m ρ _ => Cert.Proof.KernelIdeal.frame_claim m ρ,
    fun m ρ _ => Cert.Proof.KernelIdeal.frame_claim m ρ,
    Cert.Proof.frame_reference,
    fun m ρ _ => Cert.Proof.frame_reference m ρ trivial,
    fun m ρ _ => Cert.Project.Gen.frame m ρ,
    fun m ρ _ => Cert.ProjectIdeal.Gen.frame m ρ,
    Cert.Proof.Project.frame_reference,
    fun m ρ _ => Cert.Combine.Gen.frame m ρ,
    fun m ρ _ => Cert.CombineIdeal.Gen.frame m ρ,
    Cert.Proof.Combine.frame_reference,
    Cert.Proof.Output.frame_bits,
    Cert.Proof.Output.frame_ideal,
    Cert.Proof.Output.frame_reference,
    Cert.Proof.Router.frame_bits,
    Cert.Proof.Router.frame_ideal,
    fun m ρ _ => Cert.Proof.Router.frame_ideal m ρ trivial,
    Cert.Proof.Router.frame_reference,
    fun m ρ _ => Cert.Proof.Router.frame_reference m ρ trivial,
    IdealRules.named_const.statement Cert.KernelIdeal.κ "mask" .f32 0xF149F2CA#32 ⊥ rfl,
    Cert.Proof.KernelIdeal.algebraic _,
    IdealRules.named_const.statement Cert.ProjectIdeal.κ "q_scale" .f32 0x3E38AA3B#32 (((8 * (Real.log 2))⁻¹ : ℝ) : EReal) rfl,
    Cert.Proof.Project.algebraic,
    trivial,
    Cert.Proof.Combine.algebraic,
    trivial,
    Cert.Proof.Output.algebraic,
    IdealRules.named_const.statement Cert.RouterIdeal.κ "mask" .f32 0xF149F2CA#32 ⊥ rfl,
    Cert.Proof.Router.algebraic _⟩

end Cert.Proof

end
